-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleReferenceIdeal (m : (ℓ : Loc Cert.MiddleReferenceIdeal.nD Cert.MiddleReferenceIdeal.τ Cert.MiddleReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11)
      ∧ r.2.mem ((c.tc : Thread Cert.Middle.nD Cert.Middle.τ).loc Cert.Middle.main_arg12) = m ((c.tc : Thread Cert.Middle.nD Cert.Middle.τ).loc Cert.Middle.main_arg12))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
      ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8)
      ∧ r.2.mem ((c.tc : Thread Cert.MiddleReferenceIdeal.nD Cert.MiddleReferenceIdeal.τ).loc Cert.MiddleReferenceIdeal.main_arg9) = m ((c.tc : Thread Cert.MiddleReferenceIdeal.nD Cert.MiddleReferenceIdeal.τ).loc Cert.MiddleReferenceIdeal.main_arg9)
      ∧ r.2.mem ((c.tc : Thread Cert.MiddleReferenceIdeal.nD Cert.MiddleReferenceIdeal.τ).loc Cert.MiddleReferenceIdeal.main_arg10) = m ((c.tc : Thread Cert.MiddleReferenceIdeal.nD Cert.MiddleReferenceIdeal.τ).loc Cert.MiddleReferenceIdeal.main_arg10)
      ∧ r.2.mem ((c.tc : Thread Cert.MiddleReferenceIdeal.nD Cert.MiddleReferenceIdeal.τ).loc Cert.MiddleReferenceIdeal.main_arg11) = m ((c.tc : Thread Cert.MiddleReferenceIdeal.nD Cert.MiddleReferenceIdeal.τ).loc Cert.MiddleReferenceIdeal.main_arg11)
      ∧ r.2.mem ((c.tc : Thread Cert.MiddleReferenceIdeal.nD Cert.MiddleReferenceIdeal.τ).loc Cert.MiddleReferenceIdeal.main_arg12) = m ((c.tc : Thread Cert.MiddleReferenceIdeal.nD Cert.MiddleReferenceIdeal.τ).loc Cert.MiddleReferenceIdeal.main_arg12))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11)
      ∧ r.2.mem ((c.tc : Thread Cert.FfnReferenceIdeal.nD Cert.FfnReferenceIdeal.τ).loc Cert.FfnReferenceIdeal.main_arg12) = m ((c.tc : Thread Cert.FfnReferenceIdeal.nD Cert.FfnReferenceIdeal.τ).loc Cert.FfnReferenceIdeal.main_arg12))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_Middle_MiddleIdeal : Prop :=
  True

def algebraic_MiddleIdeal_MiddleReferenceIdeal [hMiddleIdeal : Cert.MiddleIdeal.Facts] [hMiddleReferenceIdeal : Cert.MiddleReferenceIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)
      ∧ m' ((c.tc : Thread Cert.MiddleReferenceIdeal.nD Cert.MiddleReferenceIdeal.τ).loc Cert.MiddleReferenceIdeal.main_arg6) = m ((c.tc : Thread Cert.MiddleIdeal.nD Cert.MiddleIdeal.τ).loc Cert.MiddleIdeal.main_arg6)
      ∧ m' ((c.tc : Thread Cert.MiddleReferenceIdeal.nD Cert.MiddleReferenceIdeal.τ).loc Cert.MiddleReferenceIdeal.main_arg7) = m ((c.tc : Thread Cert.MiddleIdeal.nD Cert.MiddleIdeal.τ).loc Cert.MiddleIdeal.main_arg7)
      ∧ m' ((c.tc : Thread Cert.MiddleReferenceIdeal.nD Cert.MiddleReferenceIdeal.τ).loc Cert.MiddleReferenceIdeal.main_arg8) = m ((c.tc : Thread Cert.MiddleIdeal.nD Cert.MiddleIdeal.τ).loc Cert.MiddleIdeal.main_arg8)
      ∧ m' ((c.tc : Thread Cert.MiddleReferenceIdeal.nD Cert.MiddleReferenceIdeal.τ).loc Cert.MiddleReferenceIdeal.main_arg9) = m ((c.tc : Thread Cert.MiddleIdeal.nD Cert.MiddleIdeal.τ).loc Cert.MiddleIdeal.main_arg9)
      ∧ m' ((c.tc : Thread Cert.MiddleReferenceIdeal.nD Cert.MiddleReferenceIdeal.τ).loc Cert.MiddleReferenceIdeal.main_arg10) = m ((c.tc : Thread Cert.MiddleIdeal.nD Cert.MiddleIdeal.τ).loc Cert.MiddleIdeal.main_arg10)
      ∧ m' ((c.tc : Thread Cert.MiddleReferenceIdeal.nD Cert.MiddleReferenceIdeal.τ).loc Cert.MiddleReferenceIdeal.main_arg11) = m ((c.tc : Thread Cert.MiddleIdeal.nD Cert.MiddleIdeal.τ).loc Cert.MiddleIdeal.main_arg11)
      ∧ m' ((c.tc : Thread Cert.MiddleReferenceIdeal.nD Cert.MiddleReferenceIdeal.τ).loc Cert.MiddleReferenceIdeal.main_arg12) = m ((c.tc : Thread Cert.MiddleIdeal.nD Cert.MiddleIdeal.τ).loc Cert.MiddleIdeal.main_arg12)) →
    ∃ (v0 : (c : Dev Cert.MiddleIdeal.nD) → Buf (Elt Ideal) ((c.tc : Thread Cert.MiddleIdeal.nD Cert.MiddleIdeal.τ).loc Cert.MiddleIdeal.main_v17)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v17) = v0 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
          ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v38) = v0 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5)
          ∧ r.2.mem ((c.tc : Thread Cert.MiddleReferenceIdeal.nD Cert.MiddleReferenceIdeal.τ).loc Cert.MiddleReferenceIdeal.main_arg6) = m' ((c.tc : Thread Cert.MiddleReferenceIdeal.nD Cert.MiddleReferenceIdeal.τ).loc Cert.MiddleReferenceIdeal.main_arg6)
          ∧ r.2.mem ((c.tc : Thread Cert.MiddleReferenceIdeal.nD Cert.MiddleReferenceIdeal.τ).loc Cert.MiddleReferenceIdeal.main_arg7) = m' ((c.tc : Thread Cert.MiddleReferenceIdeal.nD Cert.MiddleReferenceIdeal.τ).loc Cert.MiddleReferenceIdeal.main_arg7)
          ∧ r.2.mem ((c.tc : Thread Cert.MiddleReferenceIdeal.nD Cert.MiddleReferenceIdeal.τ).loc Cert.MiddleReferenceIdeal.main_arg8) = m' ((c.tc : Thread Cert.MiddleReferenceIdeal.nD Cert.MiddleReferenceIdeal.τ).loc Cert.MiddleReferenceIdeal.main_arg8)
          ∧ r.2.mem ((c.tc : Thread Cert.MiddleReferenceIdeal.nD Cert.MiddleReferenceIdeal.τ).loc Cert.MiddleReferenceIdeal.main_arg9) = m' ((c.tc : Thread Cert.MiddleReferenceIdeal.nD Cert.MiddleReferenceIdeal.τ).loc Cert.MiddleReferenceIdeal.main_arg9)
          ∧ r.2.mem ((c.tc : Thread Cert.MiddleReferenceIdeal.nD Cert.MiddleReferenceIdeal.τ).loc Cert.MiddleReferenceIdeal.main_arg10) = m' ((c.tc : Thread Cert.MiddleReferenceIdeal.nD Cert.MiddleReferenceIdeal.τ).loc Cert.MiddleReferenceIdeal.main_arg10)
          ∧ r.2.mem ((c.tc : Thread Cert.MiddleReferenceIdeal.nD Cert.MiddleReferenceIdeal.τ).loc Cert.MiddleReferenceIdeal.main_arg11) = m' ((c.tc : Thread Cert.MiddleReferenceIdeal.nD Cert.MiddleReferenceIdeal.τ).loc Cert.MiddleReferenceIdeal.main_arg11)
          ∧ r.2.mem ((c.tc : Thread Cert.MiddleReferenceIdeal.nD Cert.MiddleReferenceIdeal.τ).loc Cert.MiddleReferenceIdeal.main_arg12) = m' ((c.tc : Thread Cert.MiddleReferenceIdeal.nD Cert.MiddleReferenceIdeal.τ).loc Cert.MiddleReferenceIdeal.main_arg12))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)
      ∧ m' ((c.tc : Thread Cert.FfnReferenceIdeal.nD Cert.FfnReferenceIdeal.τ).loc Cert.FfnReferenceIdeal.main_arg12) = m ((c.tc : Thread Cert.FfnIdeal.nD Cert.FfnIdeal.τ).loc Cert.FfnIdeal.main_arg12)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)) (v2 : (c : Dev Cert.FfnIdeal.nD) → Buf (Elt Ideal) ((c.tc : Thread Cert.FfnIdeal.nD Cert.FfnIdeal.τ).loc Cert.FfnIdeal.main_v5_2)) (v3 : (c : Dev Cert.FfnIdeal.nD) → Buf (Elt Ideal) ((c.tc : Thread Cert.FfnIdeal.nD Cert.FfnIdeal.τ).loc Cert.FfnIdeal.main_v5_3)) (v4 : (c : Dev Cert.FfnIdeal.nD) → Buf (Elt Ideal) ((c.tc : Thread Cert.FfnIdeal.nD Cert.FfnIdeal.τ).loc Cert.FfnIdeal.main_v5_4)) (v5 : (c : Dev Cert.FfnIdeal.nD) → Buf (Elt Ideal) ((c.tc : Thread Cert.FfnIdeal.nD Cert.FfnIdeal.τ).loc Cert.FfnIdeal.main_v5_5)) (v6 : (c : Dev Cert.FfnIdeal.nD) → Buf (Elt Ideal) ((c.tc : Thread Cert.FfnIdeal.nD Cert.FfnIdeal.τ).loc Cert.FfnIdeal.main_v5_6)) (v7 : (c : Dev Cert.FfnIdeal.nD) → Buf (Elt Ideal) ((c.tc : Thread Cert.FfnIdeal.nD Cert.FfnIdeal.τ).loc Cert.FfnIdeal.main_v5_7)) (v8 : (c : Dev Cert.FfnIdeal.nD) → Buf (Elt Ideal) ((c.tc : Thread Cert.FfnIdeal.nD Cert.FfnIdeal.τ).loc Cert.FfnIdeal.main_v5_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_v5_2) = v2 c
          ∧ r.2.mem ((c.tc : Thread Cert.FfnIdeal.nD Cert.FfnIdeal.τ).loc Cert.FfnIdeal.main_v5_3) = v3 c
          ∧ r.2.mem ((c.tc : Thread Cert.FfnIdeal.nD Cert.FfnIdeal.τ).loc Cert.FfnIdeal.main_v5_4) = v4 c
          ∧ r.2.mem ((c.tc : Thread Cert.FfnIdeal.nD Cert.FfnIdeal.τ).loc Cert.FfnIdeal.main_v5_5) = v5 c
          ∧ r.2.mem ((c.tc : Thread Cert.FfnIdeal.nD Cert.FfnIdeal.τ).loc Cert.FfnIdeal.main_v5_6) = v6 c
          ∧ r.2.mem ((c.tc : Thread Cert.FfnIdeal.nD Cert.FfnIdeal.τ).loc Cert.FfnIdeal.main_v5_7) = v7 c
          ∧ r.2.mem ((c.tc : Thread Cert.FfnIdeal.nD Cert.FfnIdeal.τ).loc Cert.FfnIdeal.main_v5_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_v24) = v1 c
          ∧ r.2.mem ((c.tc : Thread Cert.FfnReferenceIdeal.nD Cert.FfnReferenceIdeal.τ).loc Cert.FfnReferenceIdeal.main_v27) = v2 c
          ∧ r.2.mem ((c.tc : Thread Cert.FfnReferenceIdeal.nD Cert.FfnReferenceIdeal.τ).loc Cert.FfnReferenceIdeal.main_v30) = v3 c
          ∧ r.2.mem ((c.tc : Thread Cert.FfnReferenceIdeal.nD Cert.FfnReferenceIdeal.τ).loc Cert.FfnReferenceIdeal.main_v33) = v4 c
          ∧ r.2.mem ((c.tc : Thread Cert.FfnReferenceIdeal.nD Cert.FfnReferenceIdeal.τ).loc Cert.FfnReferenceIdeal.main_v55) = v5 c
          ∧ r.2.mem ((c.tc : Thread Cert.FfnReferenceIdeal.nD Cert.FfnReferenceIdeal.τ).loc Cert.FfnReferenceIdeal.main_v58) = v6 c
          ∧ r.2.mem ((c.tc : Thread Cert.FfnReferenceIdeal.nD Cert.FfnReferenceIdeal.τ).loc Cert.FfnReferenceIdeal.main_v61) = v7 c
          ∧ r.2.mem ((c.tc : Thread Cert.FfnReferenceIdeal.nD Cert.FfnReferenceIdeal.τ).loc Cert.FfnReferenceIdeal.main_v64) = v8 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11)
          ∧ r.2.mem ((c.tc : Thread Cert.FfnReferenceIdeal.nD Cert.FfnReferenceIdeal.τ).loc Cert.FfnReferenceIdeal.main_arg12) = m' ((c.tc : Thread Cert.FfnReferenceIdeal.nD Cert.FfnReferenceIdeal.τ).loc Cert.FfnReferenceIdeal.main_arg12))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hMiddle : Cert.Middle.Facts) (hMiddleIdeal : Cert.MiddleIdeal.Facts) (hMiddleReferenceIdeal : Cert.MiddleReferenceIdeal.Facts) (hFfn : Cert.Ffn.Facts) (hFfnIdeal : Cert.FfnIdeal.Facts) (hFfnReferenceIdeal : Cert.FfnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Middle (hMiddle := hMiddle)
    ∧ quiescent_MiddleIdeal (hMiddleIdeal := hMiddleIdeal)
    ∧ quiescent_MiddleReferenceIdeal (hMiddleReferenceIdeal := hMiddleReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Middle_MiddleIdeal
    ∧ algebraic_MiddleIdeal_MiddleReferenceIdeal (hMiddleIdeal := hMiddleIdeal) (hMiddleReferenceIdeal := hMiddleReferenceIdeal)
    ∧ preserves_Ffn_FfnIdeal
    ∧ algebraic_FfnIdeal_FfnReferenceIdeal (hFfnIdeal := hFfnIdeal) (hFfnReferenceIdeal := hFfnReferenceIdeal)
-- ==== Pre_finite.lean ====
abbrev S8x2048x512 : Shape := ⟨3, ![8, 2048, 512]⟩
abbrev S64 : Shape := ⟨1, ![64]⟩
abbrev S128 : Shape := ⟨1, ![128]⟩
abbrev S32x10 : Shape := ⟨2, ![32, 10]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S64 : S_.BroadcastsInDim S64 (![] : Fin 0 → Fin S64.rank)
  reducesTo_S64_S_d0 : S64.ReducesTo [0] S_
  bcast_S_S32x10 : S_.BroadcastsInDim S32x10 (![] : Fin 0 → Fin S32x10.rank)
  reducesTo_S32x10_S_d0_1 : S32x10.ReducesTo [0, 1] S_

variable [Facts]

def fn_part3 {F : FTy → Type} [FloatOps F] (main_arg8 : FVec F S32x10 .f32) (main_v48 : IVec S_ 1) (main_cst_20 : FVec F S_ .f32) : IVec S_ 1 :=
  let main_v49 : FVec F S32x10 .f32 := broadcastInDim S32x10 ![] bcast_S_S32x10 main_cst_20
  let main_v50 : IVec S32x10 1 := cmpf .ogt main_arg8 main_v49
  let main_cst_21 : FVec F S_ .f32 := constant S_ .f32 0x7F800000#32
  let main_v51 : FVec F S32x10 .f32 := broadcastInDim S32x10 ![] bcast_S_S32x10 main_cst_21
  let main_v52 : IVec S32x10 1 := cmpf .olt main_arg8 main_v51
  let main_v53 : IVec S32x10 1 := andi main_v50 main_v52
  let main_c_22 : IVec S_ 1 := constantI S_ 1 1#1
  let main_v54 : IVec S_ 1 := (fun x v => Host.reduce IntOp.andi x v reducesTo_S32x10_S_d0_1 h_S_) main_v53 main_c_22
  let main_v55 : IVec S_ 1 := andi main_v48 main_v54
  main_v55

def fn_part2 {F : FTy → Type} [FloatOps F] (main_arg5 : FVec F S64 .f32) (main_arg6 : FVec F S64 .f32) (main_arg8 : FVec F S32x10 .f32) (main_v27 : IVec S_ 1) (main_v32 : IVec S64 1) : IVec S_ 1 :=
  let main_c_13 : IVec S_ 1 := constantI S_ 1 1#1
  let main_v33 : IVec S_ 1 := (fun x v => Host.reduce IntOp.andi x v reducesTo_S64_S_d0 h_S_) main_v32 main_c_13
  let main_v34 : IVec S_ 1 := andi main_v27 main_v33
  let main_cst_14 : FVec F S_ .f32 := constant S_ .f32 0xFF800000#32
  let main_v35 : FVec F S64 .f32 := broadcastInDim S64 ![] bcast_S_S64 main_cst_14
  let main_v36 : IVec S64 1 := cmpf .ogt main_arg5 main_v35
  let main_cst_15 : FVec F S_ .f32 := constant S_ .f32 0x7F800000#32
  let main_v37 : FVec F S64 .f32 := broadcastInDim S64 ![] bcast_S_S64 main_cst_15
  let main_v38 : IVec S64 1 := cmpf .olt main_arg5 main_v37
  let main_v39 : IVec S64 1 := andi main_v36 main_v38
  let main_c_16 : IVec S_ 1 := constantI S_ 1 1#1
  let main_v40 : IVec S_ 1 := (fun x v => Host.reduce IntOp.andi x v reducesTo_S64_S_d0 h_S_) main_v39 main_c_16
  let main_v41 : IVec S_ 1 := andi main_v34 main_v40
  let main_cst_17 : FVec F S_ .f32 := constant S_ .f32 0xFF800000#32
  let main_v42 : FVec F S64 .f32 := broadcastInDim S64 ![] bcast_S_S64 main_cst_17
  let main_v43 : IVec S64 1 := cmpf .ogt main_arg6 main_v42
  let main_cst_18 : FVec F S_ .f32 := constant S_ .f32 0x7F800000#32
  let main_v44 : FVec F S64 .f32 := broadcastInDim S64 ![] bcast_S_S64 main_cst_18
  let main_v45 : IVec S64 1 := cmpf .olt main_arg6 main_v44
  let main_v46 : IVec S64 1 := andi main_v43 main_v45
  let main_c_19 : IVec S_ 1 := constantI S_ 1 1#1
  let main_v47 : IVec S_ 1 := (fun x v => Host.reduce IntOp.andi x v reducesTo_S64_S_d0 h_S_) main_v46 main_c_19
  let main_v48 : IVec S_ 1 := andi main_v41 main_v47
  let main_cst_20 : FVec F S_ .f32 := constant S_ .f32 0xFF800000#32
  fn_part3 (F := F) main_arg8 main_v48 main_cst_20

def fn_part1 {F : FTy → Type} [FloatOps F] (main_arg2 : FVec F S8x2048x512 .f32) (main_arg3 : FVec F S64 .f32) (main_arg4 : FVec F S64 .f32) (main_arg5 : FVec F S64 .f32) (main_arg6 : FVec F S64 .f32) (main_arg8 : FVec F S32x10 .f32) (main_v13 : IVec S_ 1) (main_v15 : IVec S8x2048x512 1) : IVec S_ 1 :=
  let main_cst_6 : FVec F S_ .f32 := constant S_ .f32 0x7F800000#32
  let main_v16 : FVec F S8x2048x512 .f32 := broadcastInDim S8x2048x512 ![] bcast_S_S8x2048x512 main_cst_6
  let main_v17 : IVec S8x2048x512 1 := cmpf .olt main_arg2 main_v16
  let main_v18 : IVec S8x2048x512 1 := andi main_v15 main_v17
  let main_c_7 : IVec S_ 1 := constantI S_ 1 1#1
  let main_v19 : IVec S_ 1 := (fun x v => Host.reduce IntOp.andi x v reducesTo_S8x2048x512_S_d0_1_2 h_S_) main_v18 main_c_7
  let main_v20 : IVec S_ 1 := andi main_v13 main_v19
  let main_cst_8 : FVec F S_ .f32 := constant S_ .f32 0xFF800000#32
  let main_v21 : FVec F S64 .f32 := broadcastInDim S64 ![] bcast_S_S64 main_cst_8
  let main_v22 : IVec S64 1 := cmpf .ogt main_arg3 main_v21
  let main_cst_9 : FVec F S_ .f32 := constant S_ .f32 0x7F800000#32
  let main_v23 : FVec F S64 .f32 := broadcastInDim S64 ![] bcast_S_S64 main_cst_9
  let main_v24 : IVec S64 1 := cmpf .olt main_arg3 main_v23
  let main_v25 : IVec S64 1 := andi main_v22 main_v24
  let main_c_10 : IVec S_ 1 := constantI S_ 1 1#1
  let main_v26 : IVec S_ 1 := (fun x v => Host.reduce IntOp.andi x v reducesTo_S64_S_d0 h_S_) main_v25 main_c_10
  let main_v27 : IVec S_ 1 := andi main_v20 main_v26
  let main_cst_11 : FVec F S_ .f32 := constant S_ .f32 0xFF800000#32
  let main_v28 : FVec F S64 .f32 := broadcastInDim S64 ![] bcast_S_S64 main_cst_11
  let main_v29 : IVec S64 1 := cmpf .ogt main_arg4 main_v28
  let main_cst_12 : FVec F S_ .f32 := constant S_ .f32 0x7F800000#32
  let main_v30 : FVec F S64 .f32 := broadcastInDim S64 ![] bcast_S_S64 main_cst_12
  let main_v31 : IVec S64 1 := cmpf .olt main_arg4 main_v30
  let main_v32 : IVec S64 1 := andi main_v29 main_v31
  fn_part2 (F := F) main_arg5 main_arg6 main_arg8 main_v27 main_v32

def fn {F : FTy → Type} [FloatOps F] (main_arg0 : FVec F S8x2048x512 .f32) (main_arg1 : FVec F S8x2048x512 .f32) (main_arg2 : FVec F S8x2048x512 .f32) (main_arg3 : FVec F S64 .f32) (main_arg4 : FVec F S64 .f32) (main_arg5 : FVec F S64 .f32) (main_arg6 : FVec F S64 .f32) (main_arg7 : FVec F S128 .f32) (main_arg8 : FVec F S32x10 .f32) : IVec S_ 1 :=
  let main_cst : FVec F S_ .f32 := constant S_ .f32 0xFF800000#32
  let main_v0 : FVec F S8x2048x512 .f32 := broadcastInDim S8x2048x512 ![] bcast_S_S8x2048x512 main_cst
  let main_v1 : IVec S8x2048x512 1 := cmpf .ogt main_arg0 main_v0
  let main_cst_0 : FVec F S_ .f32 := constant S_ .f32 0x7F800000#32
  let main_v2 : FVec F S8x2048x512 .f32 := broadcastInDim S8x2048x512 ![] bcast_S_S8x2048x512 main_cst_0
  let main_v3 : IVec S8x2048x512 1 := cmpf .olt main_arg0 main_v2
  let main_v4 : IVec S8x2048x512 1 := andi main_v1 main_v3
  let main_c : IVec S_ 1 := constantI S_ 1 1#1
  let main_v5 : IVec S_ 1 := (fun x v => Host.reduce IntOp.andi x v reducesTo_S8x2048x512_S_d0_1_2 h_S_) main_v4 main_c
  let main_c_1 : IVec S_ 1 := constantI S_ 1 1#1
  let main_v6 : IVec S_ 1 := andi main_c_1 main_v5
  let main_cst_2 : FVec F S_ .f32 := constant S_ .f32 0xFF800000#32
  let main_v7 : FVec F S8x2048x512 .f32 := broadcastInDim S8x2048x512 ![] bcast_S_S8x2048x512 main_cst_2
  let main_v8 : IVec S8x2048x512 1 := cmpf .ogt main_arg1 main_v7
  let main_cst_3 : FVec F S_ .f32 := constant S_ .f32 0x7F800000#32
  let main_v9 : FVec F S8x2048x512 .f32 := broadcastInDim S8x2048x512 ![] bcast_S_S8x2048x512 main_cst_3
  let main_v10 : IVec S8x2048x512 1 := cmpf .olt main_arg1 main_v9
  let main_v11 : IVec S8x2048x512 1 := andi main_v8 main_v10
  let main_c_4 : IVec S_ 1 := constantI S_ 1 1#1
  let main_v12 : IVec S_ 1 := (fun x v => Host.reduce IntOp.andi x v reducesTo_S8x2048x512_S_d0_1_2 h_S_) main_v11 main_c_4
  let main_v13 : IVec S_ 1 := andi main_v6 main_v12
  let main_cst_5 : FVec F S_ .f32 := constant S_ .f32 0xFF800000#32
  let main_v14 : FVec F S8x2048x512 .f32 := broadcastInDim S8x2048x512 ![] bcast_S_S8x2048x512 main_cst_5
  let main_v15 : IVec S8x2048x512 1 := cmpf .ogt main_arg2 main_v14
  fn_part1 (F := F) main_arg2 main_arg3 main_arg4 main_arg5 main_arg6 main_arg8 main_v13 main_v15
-- ==== Kernel.lean ====
abbrev S8x2048x512 : Shape := ⟨3, ![8, 2048, 512]⟩
abbrev S64 : Shape := ⟨1, ![64]⟩
abbrev S128 : Shape := ⟨1, ![128]⟩
abbrev S32x10 : Shape := ⟨2, ![32, 10]⟩
abbrev S8x2048x1536 : Shape := ⟨3, ![8, 2048, 1536]⟩
abbrev S16384x1536 : Shape := ⟨2, ![16384, 1536]⟩
abbrev S512x3584 : Shape := ⟨2, ![512, 3584]⟩
abbrev S_ : Shape := ⟨0, ![]⟩
abbrev S32x4 : Shape := ⟨2, ![32, 4]⟩
abbrev S512x3584x1 : Shape := ⟨3, ![512, 3584, 1]⟩
abbrev S512x3584x4 : Shape := ⟨3, ![512, 3584, 4]⟩
abbrev S4x512x3584 : Shape := ⟨3, ![4, 512, 3584]⟩
abbrev S1x64 : Shape := ⟨2, ![1, 64]⟩
abbrev S1x128 : Shape := ⟨2, ![1, 128]⟩
abbrev S1x2048x128 : Shape := ⟨3, ![1, 2048, 128]⟩
abbrev S1x512x3584 : Shape := ⟨3, ![1, 512, 3584]⟩
abbrev S2048x256 : Shape := ⟨2, ![2048, 256]⟩
abbrev S2x2x512x2048 : Shape := ⟨4, ![2, 2, 512, 2048]⟩
abbrev S2x2x512x128 : Shape := ⟨4, ![2, 2, 512, 128]⟩
abbrev S2048x128 : Shape := ⟨2, ![2048, 128]⟩
abbrev S1 : Shape := ⟨1, ![1]⟩
abbrev S1x1 : Shape := ⟨2, ![1, 1]⟩
abbrev S1x512x128 : Shape := ⟨3, ![1, 512, 128]⟩
abbrev S512x128 : Shape := ⟨2, ![512, 128]⟩
abbrev S1x512x512 : Shape := ⟨3, ![1, 512, 512]⟩
abbrev S512x512 : Shape := ⟨2, ![512, 512]⟩
abbrev S1x1x512x512 : Shape := ⟨4, ![1, 1, 512, 512]⟩
abbrev S512 : Shape := ⟨1, ![512]⟩
abbrev S512x1 : Shape := ⟨2, ![512, 1]⟩
abbrev S1x1x512x128 : Shape := ⟨4, ![1, 1, 512, 128]⟩
abbrev S512x256 : Shape := ⟨2, ![512, 256]⟩

abbrev nBuf : Space → Nat
  | .hbm => 72
  | .vmem => 18
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x10, .f32⟩
  | .hbm, ⟨9, _⟩ => ⟨S8x2048x1536, .f32⟩
  | .hbm, ⟨10, _⟩ => ⟨S8x2048x1536, .bf16⟩
  | .hbm, ⟨11, _⟩ => ⟨S16384x1536, .bf16⟩
  | .hbm, ⟨12, _⟩ => ⟨S512x3584, .i32⟩
  | .hbm, ⟨13, _⟩ => ⟨S_, .i32⟩
  | .hbm, ⟨14, _⟩ => ⟨S512x3584, .i32⟩
  | .hbm, ⟨15, _⟩ => ⟨S512x3584, .i32⟩
  | .hbm, ⟨16, _⟩ => ⟨S512x3584, .i32⟩
  | .hbm, ⟨17, _⟩ => ⟨S512x3584, .i32⟩
  | .hbm, ⟨18, _⟩ => ⟨S32x4, .f32⟩
  | .hbm, ⟨19, _⟩ => ⟨S_, .i32⟩
  | .hbm, ⟨20, _⟩ => ⟨S512x3584, .i32⟩
  | .hbm, ⟨21, _⟩ => ⟨S512x3584, .i1⟩
  | .hbm, ⟨22, _⟩ => ⟨S_, .i32⟩
  | .hbm, ⟨23, _⟩ => ⟨S_, .i32⟩
  | .hbm, ⟨24, _⟩ => ⟨S512x3584, .i32⟩
  | .hbm, ⟨25, _⟩ => ⟨S512x3584, .i32⟩
  | .hbm, ⟨26, _⟩ => ⟨S512x3584, .i32⟩
  | .hbm, ⟨27, _⟩ => ⟨S512x3584, .i32⟩
  | .hbm, ⟨28, _⟩ => ⟨S_, .i32⟩
  | .hbm, ⟨29, _⟩ => ⟨S512x3584, .i32⟩
  | .hbm, ⟨30, _⟩ => ⟨S512x3584, .i32⟩
  | .hbm, ⟨31, _⟩ => ⟨S512x3584, .f32⟩
  | .hbm, ⟨32, _⟩ => ⟨S_, .f32⟩
  | .hbm, ⟨33, _⟩ => ⟨S512x3584, .f32⟩
  | .hbm, ⟨34, _⟩ => ⟨S512x3584, .f32⟩
  | .hbm, ⟨35, _⟩ => ⟨S512x3584, .f32⟩
  | .hbm, ⟨36, _⟩ => ⟨S_, .f32⟩
  | .hbm, ⟨37, _⟩ => ⟨S512x3584, .f32⟩
  | .hbm, ⟨38, _⟩ => ⟨S512x3584, .f32⟩
  | .hbm, ⟨39, _⟩ => ⟨S_, .f32⟩
  | .hbm, ⟨40, _⟩ => ⟨S512x3584, .f32⟩
  | .hbm, ⟨41, _⟩ => ⟨S512x3584, .f32⟩
  | .hbm, ⟨42, _⟩ => ⟨S512x3584, .i32⟩
  | .hbm, ⟨43, _⟩ => ⟨S_, .i32⟩
  | .hbm, ⟨44, _⟩ => ⟨S512x3584, .i32⟩
  | .hbm, ⟨45, _⟩ => ⟨S512x3584, .i32⟩
  | .hbm, ⟨46, _⟩ => ⟨S_, .i32⟩
  | .hbm, ⟨47, _⟩ => ⟨S512x3584, .i32⟩
  | .hbm, ⟨48, _⟩ => ⟨S512x3584, .i32⟩
  | .hbm, ⟨49, _⟩ => ⟨S_, .i32⟩
  | .hbm, ⟨50, _⟩ => ⟨S512x3584, .i32⟩
  | .hbm, ⟨51, _⟩ => ⟨S512x3584, .i1⟩
  | .hbm, ⟨52, _⟩ => ⟨S512x3584, .i32⟩
  | .hbm, ⟨53, _⟩ => ⟨S512x3584, .i32⟩
  | .hbm, ⟨54, _⟩ => ⟨S512x3584, .i32⟩
  | .hbm, ⟨55, _⟩ => ⟨S_, .i32⟩
  | .hbm, ⟨56, _⟩ => ⟨S512x3584, .i32⟩
  | .hbm, ⟨57, _⟩ => ⟨S512x3584, .i1⟩
  | .hbm, ⟨58, _⟩ => ⟨S_, .i32⟩
  | .hbm, ⟨59, _⟩ => ⟨S512x3584, .i32⟩
  | .hbm, ⟨60, _⟩ => ⟨S512x3584, .i32⟩
  | .hbm, ⟨61, _⟩ => ⟨S512x3584, .i32⟩
  | .hbm, ⟨62, _⟩ => ⟨S512x3584x1, .i32⟩
  | .hbm, ⟨63, _⟩ => ⟨S512x3584x4, .f32⟩
  | .hbm, ⟨64, _⟩ => ⟨S4x512x3584, .f32⟩
  | .hbm, ⟨65, _⟩ => ⟨S8x2048x1536, .bf16⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x128, .f32⟩
  | .hbm, ⟨71, _⟩ => ⟨S8x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x512x3584, .f32⟩
  | .local _ .vmem, ⟨7, _⟩ => ⟨S1x512x3584, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1x2048x128, .bf16⟩
  | .local _ .vmem, ⟨14, _⟩ => ⟨S1x2048x128, .bf16⟩
  | .local _ .vmem, ⟨15, _⟩ => ⟨S2048x256, .bf16⟩
  | .local _ .vmem, ⟨16, _⟩ => ⟨S2x2x512x2048, .f32⟩
  | .local _ .vmem, ⟨17, _⟩ => ⟨S2x2x512x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
def k0_mult2 : BitVec 32 :=
  let c1536_i32 : BitVec 32 := 1536#32
  c1536_i32
def k0_mult3 : BitVec 32 :=
  let c2048_i32 : BitVec 32 := 2048#32
  c2048_i32
def k0_mult4 : BitVec 32 :=
  let c2560_i32 : BitVec 32 := 2560#32
  c2560_i32
def k0_mult5 : BitVec 32 :=
  let c3072_i32 : BitVec 32 := 3072#32
  c3072_i32
def k0_mult6 : BitVec 32 :=
  let c1536_i32_66 : BitVec 32 := 1536#32
  c1536_i32_66
def k0_mult7 : BitVec 32 :=
  let c2048_i32_77 : BitVec 32 := 2048#32
  c2048_i32_77
def k0_mult8 : BitVec 32 :=
  let c2560_i32_89 : BitVec 32 := 2560#32
  c2560_i32_89
def k0_mult9 : BitVec 32 :=
  let c3072_i32_101 : BitVec 32 := 3072#32
  c3072_i32_101
@[reducible] def k0_t1_loop : Scf.Loop 32 :=
  let c1_i32 : BitVec 32 := 1#32
  let c3_i32 : BitVec 32 := 3#32
  let v222 : BitVec 32 := Scalar.addi c1_i32 c3_i32
  let c1_i32_118 : BitVec 32 := 1#32
  ⟨c1_i32, v222, c1_i32_118⟩
def k0_off1 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v423 : Index := Scalar.indexCast v422
  let c0_201 : Index := 0#32
  let c0_202 : Index := 0#32
  let c0_203 : Index := 0#32
  ![v423.toNat, 0, 0, 0]
def k0_off2 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v427 : Index := Scalar.indexCast v422
  let c0_205 : Index := 0#32
  let c0_206 : Index := 0#32
  let c0_207 : Index := 0#32
  ![v427.toNat, 0, 0, 0]
def k0_off3 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v447 : Index := Scalar.indexCast v422
  let c0_211 : Index := 0#32
  let c0_212 : Index := 0#32
  let c512_213 : Index := 512#32
  ![v447.toNat, 0, 0, 512]
def k0_off4 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v467 : Index := Scalar.indexCast v422
  let c0_217 : Index := 0#32
  let c0_218 : Index := 0#32
  let c1024_219 : Index := 1024#32
  ![v467.toNat, 0, 0, 1024]
def k0_off5 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v487 : Index := Scalar.indexCast v422
  let c0_223 : Index := 0#32
  let c0_224 : Index := 0#32
  let c1536_225 : Index := 1536#32
  ![v487.toNat, 0, 0, 1536]
def k0_off6 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v510 : Index := Scalar.indexCast v422
  let c1_229 : Index := 1#32
  let c0_230 : Index := 0#32
  let c0_231 : Index := 0#32
  ![v510.toNat, 1, 0, 0]
def k0_off7 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v514 : Index := Scalar.indexCast v422
  let c1_233 : Index := 1#32
  let c0_234 : Index := 0#32
  let c0_235 : Index := 0#32
  ![v514.toNat, 1, 0, 0]
def k0_off8 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v534 : Index := Scalar.indexCast v422
  let c1_239 : Index := 1#32
  let c0_240 : Index := 0#32
  let c512_241 : Index := 512#32
  ![v534.toNat, 1, 0, 512]
def k0_off9 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v554 : Index := Scalar.indexCast v422
  let c1_245 : Index := 1#32
  let c0_246 : Index := 0#32
  let c1024_247 : Index := 1024#32
  ![v554.toNat, 1, 0, 1024]
def k0_off10 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c2_i32 : BitVec 32 := 2#32
  let c0_i32_196 : BitVec 32 := 0#32
  let v413 : BitVec 1 := Scalar.cmpi .eq c2_i32 c0_i32_196
  let c1_i32_197 : BitVec 32 := 1#32
  let v414 : BitVec 32 := Scalar.select v413 c1_i32_197 c2_i32
  let v415 : BitVec 32 := Scalar.remsi v412 v414
  let c0_i32_199 : BitVec 32 := 0#32
  let v417 : BitVec 1 := Scalar.cmpi .slt v415 c0_i32_199
  let c0_i32_200 : BitVec 32 := 0#32
  let v418 : BitVec 1 := Scalar.cmpi .slt v414 c0_i32_200
  let v419 : BitVec 1 := Scalar.xori v417 v418
  let c0_i32_198 : BitVec 32 := 0#32
  let v416 : BitVec 1 := Scalar.cmpi .ne v415 c0_i32_198
  let v420 : BitVec 1 := Scalar.andi v419 v416
  let v421 : BitVec 32 := Scalar.addi v415 v414
  let v422 : BitVec 32 := Scalar.select v420 v421 v415
  let v574 : Index := Scalar.indexCast v422
  let c1_251 : Index := 1#32
  let c0_252 : Index := 0#32
  let c1536_253 : Index := 1536#32
  ![v574.toNat, 1, 0, 1536]
def k0_mult10 (k0_t1 : Fin k0_t1_loop.trips) : BitVec 32 :=
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c512_i32 : BitVec 32 := 512#32
  let v617 : BitVec 32 := Scalar.muli v412 c512_i32
  v617
def k0_off11 (k0_t1 : Fin k0_t1_loop.trips) : Fin 3 → Nat :=
  let c0_263 : Index := 0#32
  let c1_i32 : BitVec 32 := 1#32
  let c1_i32_118 : BitVec 32 := 1#32
  let arg15 : BitVec 32 := Scf.iv c1_i32 c1_i32_118 k0_t1
  let c1_i32_195 : BitVec 32 := 1#32
  let v412 : BitVec 32 := Scalar.subi arg15 c1_i32_195
  let c512_i32 : BitVec 32 := 512#32
  let v617 : BitVec 32 := Scalar.muli v412 c512_i32
  let v618 : BitVec 32 := v617
  let v619 : Index := Scalar.indexCast v618
  let c0_264 : Index := 0#32
  ![0, v619.toNat, 0]
def k0_mult11 (k0_t1 : Fin k0_t1_loop.trips) : BitVec 32 :=
  let c1_i32 : BitVec 32 := 1#32
  let c1_i32_118 : BitVec 32 := 1#32
  let arg15 : BitVec 32 := Scf.iv c1_i32 c1_i32_118 k0_t1
  let c512_i32_273 : BitVec 32 := 512#32
  let v635 : BitVec 32 := Scalar.muli arg15 c512_i32_273
  v635
def k0_off12 (k0_t1 : Fin k0_t1_loop.trips) : Fin 3 → Nat :=
  let c0_274 : Index := 0#32
  let c1_i32 : BitVec 32 := 1#32
  let c1_i32_118 : BitVec 32 := 1#32
  let arg15 : BitVec 32 := Scf.iv c1_i32 c1_i32_118 k0_t1
  let c512_i32_273 : BitVec 32 := 512#32
  let v635 : BitVec 32 := Scalar.muli arg15 c512_i32_273
  let v636 : BitVec 32 := v635
  let v637 : Index := Scalar.indexCast v636
  let c0_275 : Index := 0#32
  ![0, v637.toNat, 0]
def k0_mult12 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c0_i32_279 : BitVec 32 := 0#32
  let v649 : BitVec 32 := Scalar.addi v634 c0_i32_279
  v649
def k0_off13 (k0_t1 : Fin k0_t1_loop.trips) (c0_i32_279 : BitVec 32) : Fin 3 → Nat :=
  let c0_280 : Index := 0#32
  let c0_281 : Index := 0#32
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let v649 : BitVec 32 := Scalar.addi v634 c0_i32_279
  let v650 : BitVec 32 := v649
  let v651 : Index := Scalar.indexCast v650
  ![0, 0, v651.toNat]
def k0_off14 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v660 : Index := Scalar.indexCast v632
  let c0_287 : Index := 0#32
  let c0_288 : Index := 0#32
  let c0_289 : Index := 0#32
  ![v660.toNat, 0, 0, 0]
def k0_mult13 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c512_i32_290 : BitVec 32 := 512#32
  let v671 : BitVec 32 := Scalar.addi v634 c512_i32_290
  v671
def k0_off15 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v682 : Index := Scalar.indexCast v632
  let c0_298 : Index := 0#32
  let c0_299 : Index := 0#32
  let c512_300 : Index := 512#32
  ![v682.toNat, 0, 0, 512]
def k0_mult14 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c1024_i32 : BitVec 32 := 1024#32
  let v694 : BitVec 32 := Scalar.addi v634 c1024_i32
  v694
def k0_off16 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v705 : Index := Scalar.indexCast v632
  let c0_308 : Index := 0#32
  let c0_309 : Index := 0#32
  let c1024_310 : Index := 1024#32
  ![v705.toNat, 0, 0, 1024]
def k0_mult15 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c1536_i32_311 : BitVec 32 := 1536#32
  let v717 : BitVec 32 := Scalar.addi v634 c1536_i32_311
  v717
def k0_off17 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v728 : Index := Scalar.indexCast v632
  let c0_319 : Index := 0#32
  let c0_320 : Index := 0#32
  let c1536_321 : Index := 1536#32
  ![v728.toNat, 0, 0, 1536]
def k0_off18 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v744 : Index := Scalar.indexCast v632
  let c0_323 : Index := 0#32
  let c0_324 : Index := 0#32
  let c0_325 : Index := 0#32
  ![v744.toNat, 0, 0, 0]
def k0_mult16 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c0_i32_326 : BitVec 32 := 0#32
  let v749 : BitVec 32 := Scalar.addi v634 c0_i32_326
  v749
def k0_off19 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v760 : Index := Scalar.indexCast v632
  let c1_334 : Index := 1#32
  let c0_335 : Index := 0#32
  let c0_336 : Index := 0#32
  ![v760.toNat, 1, 0, 0]
def k0_mult17 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c512_i32_337 : BitVec 32 := 512#32
  let v771 : BitVec 32 := Scalar.addi v634 c512_i32_337
  v771
def k0_off20 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v782 : Index := Scalar.indexCast v632
  let c1_345 : Index := 1#32
  let c0_346 : Index := 0#32
  let c512_347 : Index := 512#32
  ![v782.toNat, 1, 0, 512]
def k0_mult18 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c1024_i32_348 : BitVec 32 := 1024#32
  let v794 : BitVec 32 := Scalar.addi v634 c1024_i32_348
  v794
def k0_off21 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v805 : Index := Scalar.indexCast v632
  let c1_356 : Index := 1#32
  let c0_357 : Index := 0#32
  let c1024_358 : Index := 1024#32
  ![v805.toNat, 1, 0, 1024]
def k0_mult19 (k0_t1 : Fin k0_t1_loop.trips) : BitVec 32 :=
  let c3_i32_271 : BitVec 32 := 3#32
  let c1_i32 : BitVec 32 := 1#32
  let c1_i32_118 : BitVec 32 := 1#32
  let arg15 : BitVec 32 := Scf.iv c1_i32 c1_i32_118 k0_t1
  let v633 : BitVec 32 := Scalar.subi c3_i32_271 arg15
  let c512_i32_272 : BitVec 32 := 512#32
  let v634 : BitVec 32 := Scalar.muli v633 c512_i32_272
  let c1536_i32_359 : BitVec 32 := 1536#32
  let v817 : BitVec 32 := Scalar.addi v634 c1536_i32_359
  v817
def k0_off22 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v828 : Index := Scalar.indexCast v632
  let c1_367 : Index := 1#32
  let c0_368 : Index := 0#32
  let c1536_369 : Index := 1536#32
  ![v828.toNat, 1, 0, 1536]
def k0_off23 (k0_t1 : Fin k0_t1_loop.trips) : Fin 4 → Nat :=
  let c1_i32 : BitVec 32 := 1#32
  let c1_i32_118 : BitVec 32 := 1#32
  let arg15 : BitVec 32 := Scf.iv c1_i32 c1_i32_118 k0_t1
  let c2_i32_265 : BitVec 32 := 2#32
  let c0_i32_266 : BitVec 32 := 0#32
  let v623 : BitVec 1 := Scalar.cmpi .eq c2_i32_265 c0_i32_266
  let c1_i32_267 : BitVec 32 := 1#32
  let v624 : BitVec 32 := Scalar.select v623 c1_i32_267 c2_i32_265
  let v625 : BitVec 32 := Scalar.remsi arg15 v624
  let c0_i32_269 : BitVec 32 := 0#32
  let v627 : BitVec 1 := Scalar.cmpi .slt v625 c0_i32_269
  let c0_i32_270 : BitVec 32 := 0#32
  let v628 : BitVec 1 := Scalar.cmpi .slt v624 c0_i32_270
  let v629 : BitVec 1 := Scalar.xori v627 v628
  let c0_i32_268 : BitVec 32 := 0#32
  let v626 : BitVec 1 := Scalar.cmpi .ne v625 c0_i32_268
  let v630 : BitVec 1 := Scalar.andi v629 v626
  let v631 : BitVec 32 := Scalar.addi v625 v624
  let v632 : BitVec 32 := Scalar.select v630 v631 v625
  let v844 : Index := Scalar.indexCast v632
  let c1_371 : Index := 1#32
  let c0_372 : Index := 0#32
  let c0_373 : Index := 0#32
  ![v844.toNat, 1, 0, 0]
def k0_mult20 : BitVec 32 :=
  let c1536_i32_192 : BitVec 32 := 1536#32
  c1536_i32_192
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2_e" => some (((Real.log 2)⁻¹ : ℝ) : EReal)
  | "q_scale" => some (((1 / 8) * (Real.log 2)⁻¹ : ℝ) : EReal)
  | _ => none
-- ==== ReferenceIdeal.lean ====
abbrev S8x2048x512 : Shape := ⟨3, ![8, 2048, 512]⟩
abbrev S64 : Shape := ⟨1, ![64]⟩
abbrev S128 : Shape := ⟨1, ![128]⟩
abbrev S32x10 : Shape := ⟨2, ![32, 10]⟩
abbrev S8x2048x4x2x64 : Shape := ⟨5, ![8, 2048, 4, 2, 64]⟩
abbrev S8x2048x4x128 : Shape := ⟨4, ![8, 2048, 4, 128]⟩
abbrev S2048 : Shape := ⟨1, ![2048]⟩
abbrev S32x4 : Shape := ⟨2, ![32, 4]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S8x4x2x2048x2048 : Shape := ⟨5, ![8, 4, 2, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S32x10, .f32⟩
  | .hbm, ⟨9, _⟩ => ⟨S8x2048x4x2x64, .f32⟩
  | .hbm, ⟨10, _⟩ => ⟨S8x2048x4x2x64, .f32⟩
  | .hbm, ⟨11, _⟩ => ⟨S8x2048x4x128, .f32⟩
  | .hbm, ⟨12, _⟩ => ⟨S2048, .i32⟩
  | .hbm, ⟨13, _⟩ => ⟨S32x4, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .i32⟩
  | .hbm, ⟨43, _⟩ => ⟨S_, .i32⟩
  | .hbm, ⟨44, _⟩ => ⟨S2048x2048, .i32⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i1⟩
  | .hbm, ⟨52, _⟩ => ⟨S2048x2048, .i32⟩
  | .hbm, ⟨53, _⟩ => ⟨S2048x2048, .i32⟩
  | .hbm, ⟨54, _⟩ => ⟨S2048x2048, .i32⟩
  | .hbm, ⟨55, _⟩ => ⟨S_, .i32⟩
  | .hbm, ⟨56, _⟩ => ⟨S2048x2048, .i32⟩
  | .hbm, ⟨57, _⟩ => ⟨S2048x2048, .i1⟩
  | .hbm, ⟨58, _⟩ => ⟨S_, .i32⟩
  | .hbm, ⟨59, _⟩ => ⟨S2048x2048, .i32⟩
  | .hbm, ⟨60, _⟩ => ⟨S2048x2048, .i32⟩
  | .hbm, ⟨61, _⟩ => ⟨S2048x2048, .i32⟩
  | .hbm, ⟨62, _⟩ => ⟨S2048x2048x1, .i32⟩
  | .hbm, ⟨63, _⟩ => ⟨S2048x2048x4, .f32⟩
  | .hbm, ⟨64, _⟩ => ⟨S4x2048x2048, .f32⟩
  | .hbm, ⟨65, _⟩ => ⟨S8x4x2x2048x2048, .f32⟩
  | .hbm, ⟨66, _⟩ => ⟨S_, .f32⟩
  | .hbm, ⟨67, _⟩ => ⟨S8x4x2x2048x2048, .f32⟩
  | .hbm, ⟨68, _⟩ => ⟨S8x4x2x2048x2048, .f32⟩
  | .hbm, ⟨69, _⟩ => ⟨S1x4x1x2048x2048, .f32⟩
  | .hbm, ⟨70, _⟩ => ⟨S8x4x2x2048x2048, .f32⟩
  | .hbm, ⟨71, _⟩ => ⟨S8x4x2x2048x2048, .f32⟩
  | .hbm, ⟨72, _⟩ => ⟨S_, .f32⟩
  | .hbm, ⟨73, _⟩ => ⟨S8x4x2x2048, .f32⟩
  | .hbm, ⟨74, _⟩ => ⟨S_, .f32⟩
  | .hbm, ⟨75, _⟩ => ⟨S8x4x2x2048, .f32⟩
  | .hbm, ⟨76, _⟩ => ⟨S8x4x2x2048, .f32⟩
  | .hbm, ⟨77, _⟩ => ⟨S8x4x2x2048x1, .f32⟩
  | .hbm, ⟨78, _⟩ => ⟨S8x4x2x2048x2048, .f32⟩
  | .hbm, ⟨79, _⟩ => ⟨S8x4x2x2048x2048, .f32⟩
  | .hbm, ⟨80, _⟩ => ⟨S8x4x2x2048x2048, .f32⟩
  | .hbm, ⟨81, _⟩ => ⟨S_, .f32⟩
  | .hbm, ⟨82, _⟩ => ⟨S8x4x2x2048, .f32⟩
  | .hbm, ⟨83, _⟩ => ⟨S8x4x2x2048x1, .f32⟩
  | .hbm, ⟨84, _⟩ => ⟨S8x4x2x2048x2048, .f32⟩
  | .hbm, ⟨85, _⟩ => ⟨S8x4x2x2048x2048, .f32⟩
  | .hbm, ⟨86, _⟩ => ⟨S64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S64, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S8x4x1x2048x2048, .f32⟩
  | .hbm, ⟨98, _⟩ => ⟨S8x4x2048x2048, .f32⟩
  | .hbm, ⟨99, _⟩ => ⟨S8x4x1x2048x2048, .f32⟩
  | .hbm, ⟨100, _⟩ => ⟨S8x4x2048x2048, .f32⟩
  | .hbm, ⟨101, _⟩ => ⟨S8x4x2048x2048, .f32⟩
  | .hbm, ⟨102, _⟩ => ⟨S8x4x2048x2048, .f32⟩
  | .hbm, ⟨103, _⟩ => ⟨S8x4x2048x2048, .f32⟩
  | .hbm, ⟨104, _⟩ => ⟨S8x4x128x2048, .f32⟩
  | .hbm, ⟨105, _⟩ => ⟨S8x2048x4x128, .f32⟩
  | .hbm, ⟨106, _⟩ => ⟨S8x2048x4x128, .f32⟩
  | .hbm, ⟨107, _⟩ => ⟨S_, .f32⟩
  | .hbm, ⟨108, _⟩ => ⟨S8x2048x4, .f32⟩
  | .hbm, ⟨109, _⟩ => ⟨S8x2048x4x1, .f32⟩
  | .hbm, ⟨110, _⟩ => ⟨S_, .f32⟩
  | .hbm, ⟨111, _⟩ => ⟨S8x2048x4x1, .f32⟩
  | .hbm, ⟨112, _⟩ => ⟨S8x2048x4x1, .f32⟩
  | .hbm, ⟨113, _⟩ => ⟨S_, .f32⟩
  | .hbm, ⟨114, _⟩ => ⟨S8x2048x4x1, .f32⟩
  | .hbm, ⟨115, _⟩ => ⟨S8x2048x4x1, .f32⟩
  | .hbm, ⟨116, _⟩ => ⟨S8x2048x4x1, .f32⟩
  | .hbm, ⟨117, _⟩ => ⟨S8x2048x4x128, .f32⟩
  | .hbm, ⟨118, _⟩ => ⟨S8x2048x4x128, .f32⟩
  | .hbm, ⟨119, _⟩ => ⟨S1x1x1x128, .f32⟩
  | .hbm, ⟨120, _⟩ => ⟨S8x2048x4x128, .f32⟩
  | .hbm, ⟨121, _⟩ => ⟨S8x2048x4x128, .f32⟩
  | .hbm, ⟨122, _⟩ => ⟨S_, .f32⟩
  | .hbm, ⟨123, _⟩ => ⟨S8x2048x4x128, .f32⟩
  | .hbm, ⟨124, _⟩ => ⟨S8x2048x4x128, .f32⟩
  | .hbm, ⟨125, _⟩ => ⟨S8x2048x512, .f32⟩
  | .hbm, ⟨126, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_11 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_cst_18 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Merge.lean ====
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x3072 : Shape := ⟨3, ![8, 2048, 3072]⟩
abbrev S1024x1024 : Shape := ⟨2, ![1024, 1024]⟩
abbrev S128x1024 : Shape := ⟨2, ![128, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x128 : Shape := ⟨2, ![16384, 128]⟩
abbrev S16384x512 : Shape := ⟨2, ![16384, 512]⟩
abbrev S16384x3072 : Shape := ⟨2, ![16384, 3072]⟩
abbrev S1x1024 : Shape := ⟨2, ![1, 1024]⟩
abbrev S512x128 : Shape := ⟨2, ![512, 128]⟩
abbrev S512x512 : Shape := ⟨2, ![512, 512]⟩
abbrev S512x3072 : Shape := ⟨2, ![512, 3072]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x512, .f32⟩
  | .hbm, ⟨4, _⟩ => ⟨S8x2048x3072, .f32⟩
  | .hbm, ⟨5, _⟩ => ⟨S1024x1024, .f32⟩
  | .hbm, ⟨6, _⟩ => ⟨S128x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S16384x1024, .f32⟩
  | .hbm, ⟨15, _⟩ => ⟨S8x2048x1024, .bf16⟩
  | .hbm, ⟨16, _⟩ => ⟨S16384x1024, .bf16⟩
  | .hbm, ⟨17, _⟩ => ⟨S8x2048x128, .bf16⟩
  | .hbm, ⟨18, _⟩ => ⟨S16384x128, .bf16⟩
  | .hbm, ⟨19, _⟩ => ⟨S8x2048x512, .bf16⟩
  | .hbm, ⟨20, _⟩ => ⟨S16384x512, .bf16⟩
  | .hbm, ⟨21, _⟩ => ⟨S8x2048x3072, .bf16⟩
  | .hbm, ⟨22, _⟩ => ⟨S16384x3072, .bf16⟩
  | .hbm, ⟨23, _⟩ => ⟨S1024x1024, .bf16⟩
  | .hbm, ⟨24, _⟩ => ⟨S128x1024, .bf16⟩
  | .hbm, ⟨25, _⟩ => ⟨S512x1024, .bf16⟩
  | .hbm, ⟨26, _⟩ => ⟨S1024x1024, .bf16⟩
  | .hbm, ⟨27, _⟩ => ⟨S1024x2816, .bf16⟩
  | .hbm, ⟨28, _⟩ => ⟨S1024x2816, .bf16⟩
  | .hbm, ⟨29, _⟩ => ⟨S2816x1024, .bf16⟩
  | .hbm, ⟨30, _⟩ => ⟨S1x1024, .f32⟩
  | .hbm, ⟨31, _⟩ => ⟨S1x1024, .f32⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1024x1024, .bf16⟩
  | .local _ .vmem, ⟨11, _⟩ => ⟨S128x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeIdeal.lean ====
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x3072 : Shape := ⟨3, ![8, 2048, 3072]⟩
abbrev S1024x1024 : Shape := ⟨2, ![1024, 1024]⟩
abbrev S128x1024 : Shape := ⟨2, ![128, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x128 : Shape := ⟨2, ![16384, 128]⟩
abbrev S16384x512 : Shape := ⟨2, ![16384, 512]⟩
abbrev S16384x3072 : Shape := ⟨2, ![16384, 3072]⟩
abbrev S1x1024 : Shape := ⟨2, ![1, 1024]⟩
abbrev S512x128 : Shape := ⟨2, ![512, 128]⟩
abbrev S512x512 : Shape := ⟨2, ![512, 512]⟩
abbrev S512x3072 : Shape := ⟨2, ![512, 3072]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x512, .f32⟩
  | .hbm, ⟨4, _⟩ => ⟨S8x2048x3072, .f32⟩
  | .hbm, ⟨5, _⟩ => ⟨S1024x1024, .f32⟩
  | .hbm, ⟨6, _⟩ => ⟨S128x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S16384x1024, .f32⟩
  | .hbm, ⟨15, _⟩ => ⟨S8x2048x1024, .bf16⟩
  | .hbm, ⟨16, _⟩ => ⟨S16384x1024, .bf16⟩
  | .hbm, ⟨17, _⟩ => ⟨S8x2048x128, .bf16⟩
  | .hbm, ⟨18, _⟩ => ⟨S16384x128, .bf16⟩
  | .hbm, ⟨19, _⟩ => ⟨S8x2048x512, .bf16⟩
  | .hbm, ⟨20, _⟩ => ⟨S16384x512, .bf16⟩
  | .hbm, ⟨21, _⟩ => ⟨S8x2048x3072, .bf16⟩
  | .hbm, ⟨22, _⟩ => ⟨S16384x3072, .bf16⟩
  | .hbm, ⟨23, _⟩ => ⟨S1024x1024, .bf16⟩
  | .hbm, ⟨24, _⟩ => ⟨S128x1024, .bf16⟩
  | .hbm, ⟨25, _⟩ => ⟨S512x1024, .bf16⟩
  | .hbm, ⟨26, _⟩ => ⟨S1024x1024, .bf16⟩
  | .hbm, ⟨27, _⟩ => ⟨S1024x2816, .bf16⟩
  | .hbm, ⟨28, _⟩ => ⟨S1024x2816, .bf16⟩
  | .hbm, ⟨29, _⟩ => ⟨S2816x1024, .bf16⟩
  | .hbm, ⟨30, _⟩ => ⟨S1x1024, .f32⟩
  | .hbm, ⟨31, _⟩ => ⟨S1x1024, .f32⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1024x1024, .bf16⟩
  | .local _ .vmem, ⟨11, _⟩ => ⟨S128x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x3072 : Shape := ⟨3, ![8, 2048, 3072]⟩
abbrev S1024x1024 : Shape := ⟨2, ![1024, 1024]⟩
abbrev S128x1024 : Shape := ⟨2, ![128, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S8x2048x3x1024 : Shape := ⟨4, ![8, 2048, 3, 1024]⟩
abbrev S8x2048x1x1024 : Shape := ⟨4, ![8, 2048, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x512, .f32⟩
  | .hbm, ⟨4, _⟩ => ⟨S8x2048x3072, .f32⟩
  | .hbm, ⟨5, _⟩ => ⟨S1024x1024, .f32⟩
  | .hbm, ⟨6, _⟩ => ⟨S128x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x3x1024, .f32⟩
  | .hbm, ⟨18, _⟩ => ⟨S8x2048x1x1024, .f32⟩
  | .hbm, ⟨19, _⟩ => ⟨S8x2048x1024, .f32⟩
  | .hbm, ⟨20, _⟩ => ⟨S8x2048x1024, .f32⟩
  | .hbm, ⟨21, _⟩ => ⟨S8x2048x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S8x2048x1024, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_cst_4 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩

abbrev nD : Nat := 1
abbrev τ : Topo := Topo.v7x

variable {F : FTy → Type} [FloatOps F]
-- ==== Middle.lean ====
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x3072 : Shape := ⟨3, ![8, 2048, 3072]⟩
abbrev S1024x1024 : Shape := ⟨2, ![1024, 1024]⟩
abbrev S128x1024 : Shape := ⟨2, ![128, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S16384x128 : Shape := ⟨2, ![16384, 128]⟩
abbrev S16384x512 : Shape := ⟨2, ![16384, 512]⟩
abbrev S16384x3072 : Shape := ⟨2, ![16384, 3072]⟩
abbrev S1x1024 : Shape := ⟨2, ![1, 1024]⟩
abbrev S512x128 : Shape := ⟨2, ![512, 128]⟩
abbrev S512x512 : Shape := ⟨2, ![512, 512]⟩
abbrev S512x3072 : Shape := ⟨2, ![512, 3072]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S512x256 : Shape := ⟨2, ![512, 256]⟩

abbrev nBuf : Space → Nat
  | .hbm => 31
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x512, .f32⟩
  | .hbm, ⟨4, _⟩ => ⟨S8x2048x3072, .f32⟩
  | .hbm, ⟨5, _⟩ => ⟨S1024x1024, .f32⟩
  | .hbm, ⟨6, _⟩ => ⟨S128x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S16384x1024, .f32⟩
  | .hbm, ⟨14, _⟩ => ⟨S8x2048x1024, .bf16⟩
  | .hbm, ⟨15, _⟩ => ⟨S16384x1024, .bf16⟩
  | .hbm, ⟨16, _⟩ => ⟨S8x2048x128, .bf16⟩
  | .hbm, ⟨17, _⟩ => ⟨S16384x128, .bf16⟩
  | .hbm, ⟨18, _⟩ => ⟨S8x2048x512, .bf16⟩
  | .hbm, ⟨19, _⟩ => ⟨S16384x512, .bf16⟩
  | .hbm, ⟨20, _⟩ => ⟨S8x2048x3072, .bf16⟩
  | .hbm, ⟨21, _⟩ => ⟨S16384x3072, .bf16⟩
  | .hbm, ⟨22, _⟩ => ⟨S1024x1024, .bf16⟩
  | .hbm, ⟨23, _⟩ => ⟨S128x1024, .bf16⟩
  | .hbm, ⟨24, _⟩ => ⟨S512x1024, .bf16⟩
  | .hbm, ⟨25, _⟩ => ⟨S1024x1024, .bf16⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .bf16⟩
  | .local _ .vmem, ⟨5, _⟩ => ⟨S512x128, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1024x1024, .bf16⟩
  | .local _ .vmem, ⟨11, _⟩ => ⟨S128x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MiddleReferenceIdeal.lean ====
abbrev S8x2048x1024 : Shape := ⟨3, ![8, 2048, 1024]⟩
abbrev S8x2048x128 : Shape := ⟨3, ![8, 2048, 128]⟩
abbrev S8x2048x512 : Shape := ⟨3, ![8, 2048, 512]⟩
abbrev S8x2048x3072 : Shape := ⟨3, ![8, 2048, 3072]⟩
abbrev S1024x1024 : Shape := ⟨2, ![1024, 1024]⟩
abbrev S128x1024 : Shape := ⟨2, ![128, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S8x2048x3x1024 : Shape := ⟨4, ![8, 2048, 3, 1024]⟩
abbrev S8x2048x1x1024 : Shape := ⟨4, ![8, 2048, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x128, .f32⟩
  | .hbm, ⟨3, _⟩ => ⟨S8x2048x512, .f32⟩
  | .hbm, ⟨4, _⟩ => ⟨S8x2048x3072, .f32⟩
  | .hbm, ⟨5, _⟩ => ⟨S1024x1024, .f32⟩
  | .hbm, ⟨6, _⟩ => ⟨S128x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x3x1024, .f32⟩
  | .hbm, ⟨17, _⟩ => ⟨S8x2048x1x1024, .f32⟩
  | .hbm, ⟨18, _⟩ => ⟨S8x2048x1024, .f32⟩
  | .hbm, ⟨19, _⟩ => ⟨S8x2048x1024, .f32⟩
  | .hbm, ⟨20, _⟩ => ⟨S8x2048x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S1x1x1024, .f32⟩
  | .hbm, ⟨44, _⟩ => ⟨S8x2048x1024, .f32⟩
  | .hbm, ⟨45, _⟩ => ⟨S8x2048x1024, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S_, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x2816, .f32⟩
  | .hbm, ⟨58, _⟩ => ⟨S8x2048x1024, .f32⟩
  | .hbm, ⟨59, _⟩ => ⟨S_, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S2x1024x1024 : Shape := ⟨3, ![2, 1024, 1024]⟩
abbrev S2x512x1024 : Shape := ⟨3, ![2, 512, 1024]⟩
abbrev S2x1024x3072 : Shape := ⟨3, ![2, 1024, 3072]⟩
abbrev S2x1024x3712 : Shape := ⟨3, ![2, 1024, 3712]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S1024x3072 : Shape := ⟨2, ![1024, 3072]⟩
abbrev S1024x3712 : Shape := ⟨2, ![1024, 3712]⟩
abbrev S1x64x1024 : Shape := ⟨3, ![1, 64, 1024]⟩
abbrev S1x32x1024 : Shape := ⟨3, ![1, 32, 1024]⟩
abbrev S1x64x3072 : Shape := ⟨3, ![1, 64, 3072]⟩
abbrev S1x64x3712 : Shape := ⟨3, ![1, 64, 3712]⟩
abbrev S1x64x2816 : Shape := ⟨3, ![1, 64, 2816]⟩
abbrev S1x176x1024 : Shape := ⟨3, ![1, 176, 1024]⟩
abbrev S64x1024 : Shape := ⟨2, ![64, 1024]⟩
abbrev S32x1024 : Shape := ⟨2, ![32, 1024]⟩
abbrev S64x3072 : Shape := ⟨2, ![64, 3072]⟩
abbrev S64x3712 : Shape := ⟨2, ![64, 3712]⟩
abbrev S64x2816 : Shape := ⟨2, ![64, 2816]⟩
abbrev S176x1024 : Shape := ⟨2, ![176, 1024]⟩
abbrev S1x64x128 : Shape := ⟨3, ![1, 64, 128]⟩
abbrev S64x128 : Shape := ⟨2, ![64, 128]⟩
abbrev S1x64x512 : Shape := ⟨3, ![1, 64, 512]⟩
abbrev S64x512 : Shape := ⟨2, ![64, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 27
  | .vmem => 41
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x1024x1024, .f32⟩
  | .hbm, ⟨6, _⟩ => ⟨S2x512x1024, .f32⟩
  | .hbm, ⟨7, _⟩ => ⟨S2x1024x1024, .f32⟩
  | .hbm, ⟨8, _⟩ => ⟨S2x1024x3072, .f32⟩
  | .hbm, ⟨9, _⟩ => ⟨S2x1024x3712, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S16384x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S16384x1024, .f32⟩
  | .hbm, ⟨19, _⟩ => ⟨S1024x1024, .bf16⟩
  | .hbm, ⟨20, _⟩ => ⟨S512x1024, .bf16⟩
  | .hbm, ⟨21, _⟩ => ⟨S1024x1024, .bf16⟩
  | .hbm, ⟨22, _⟩ => ⟨S1024x3072, .bf16⟩
  | .hbm, ⟨23, _⟩ => ⟨S1024x3712, .bf16⟩
  | .hbm, ⟨24, _⟩ => ⟨S1024x2816, .bf16⟩
  | .hbm, ⟨25, _⟩ => ⟨S1024x2816, .bf16⟩
  | .hbm, ⟨26, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x64x1024, .f32⟩
  | .local _ .vmem, ⟨7, _⟩ => ⟨S1x64x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x3072, .f32⟩
  | .local _ .vmem, ⟨13, _⟩ => ⟨S1x64x3072, .f32⟩
  | .local _ .vmem, ⟨14, _⟩ => ⟨S1x64x3712, .f32⟩
  | .local _ .vmem, ⟨15, _⟩ => ⟨S1x64x3712, .f32⟩
  | .local _ .vmem, ⟨16, _⟩ => ⟨S1x64x2816, .f32⟩
  | .local _ .vmem, ⟨17, _⟩ => ⟨S1x64x2816, .f32⟩
  | .local _ .vmem, ⟨18, _⟩ => ⟨S1x64x2816, .f32⟩
  | .local _ .vmem, ⟨19, _⟩ => ⟨S1x64x2816, .f32⟩
  | .local _ .vmem, ⟨20, _⟩ => ⟨S1x176x1024, .f32⟩
  | .local _ .vmem, ⟨21, _⟩ => ⟨S1x176x1024, .f32⟩
  | .local _ .vmem, ⟨22, _⟩ => ⟨S1024x1024, .f32⟩
  | .local _ .vmem, ⟨23, _⟩ => ⟨S1024x1024, .f32⟩
  | .local _ .vmem, ⟨24, _⟩ => ⟨S64x1024, .bf16⟩
  | .local _ .vmem, ⟨25, _⟩ => ⟨S64x1024, .bf16⟩
  | .local _ .vmem, ⟨26, _⟩ => ⟨S32x1024, .bf16⟩
  | .local _ .vmem, ⟨27, _⟩ => ⟨S32x1024, .bf16⟩
  | .local _ .vmem, ⟨28, _⟩ => ⟨S64x1024, .bf16⟩
  | .local _ .vmem, ⟨29, _⟩ => ⟨S64x1024, .bf16⟩
  | .local _ .vmem, ⟨30, _⟩ => ⟨S64x3072, .bf16⟩
  | .local _ .vmem, ⟨31, _⟩ => ⟨S64x3072, .bf16⟩
  | .local _ .vmem, ⟨32, _⟩ => ⟨S64x3712, .bf16⟩
  | .local _ .vmem, ⟨33, _⟩ => ⟨S64x3712, .bf16⟩
  | .local _ .vmem, ⟨34, _⟩ => ⟨S64x2816, .bf16⟩
  | .local _ .vmem, ⟨35, _⟩ => ⟨S64x2816, .bf16⟩
  | .local _ .vmem, ⟨36, _⟩ => ⟨S64x2816, .bf16⟩
  | .local _ .vmem, ⟨37, _⟩ => ⟨S64x2816, .bf16⟩
  | .local _ .vmem, ⟨38, _⟩ => ⟨S176x1024, .bf16⟩
  | .local _ .vmem, ⟨39, _⟩ => ⟨S176x1024, .bf16⟩
  | .local _ .vmem, ⟨40, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev main_v5_4 : Ref sig .tc := ⟨.hbm, 22, rfl⟩
abbrev main_v5_5 : Ref sig .tc := ⟨.hbm, 23, rfl⟩
abbrev main_v5_6 : Ref sig .tc := ⟨.hbm, 24, rfl⟩
abbrev main_v5_7 : Ref sig .tc := ⟨.hbm, 25, rfl⟩
abbrev main_v5_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_11 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_12 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_15 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_16 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_17 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x3712 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x3712 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== FfnReferenceIdeal.lean ====
abbrev S8x2048x1024 : Shape := ⟨3, ![8, 2048, 1024]⟩
abbrev S1024 : Shape := ⟨1, ![1024]⟩
abbrev S1024x2816 : Shape := ⟨2, ![1024, 2816]⟩
abbrev S2816x1024 : Shape := ⟨2, ![2816, 1024]⟩
abbrev S2x1024x1024 : Shape := ⟨3, ![2, 1024, 1024]⟩
abbrev S2x512x1024 : Shape := ⟨3, ![2, 512, 1024]⟩
abbrev S2x1024x3072 : Shape := ⟨3, ![2, 1024, 3072]⟩
abbrev S2x1024x3712 : Shape := ⟨3, ![2, 1024, 3712]⟩
abbrev S2x1024x2816 : Shape := ⟨3, ![2, 1024, 2816]⟩
abbrev S2x2816x1024 : Shape := ⟨3, ![2, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩
abbrev S16384x1024 : Shape := ⟨2, ![16384, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1024x3072 : Shape := ⟨3, ![1, 1024, 3072]⟩
abbrev S1024x3072 : Shape := ⟨2, ![1024, 3072]⟩
abbrev S1x1024x3712 : Shape := ⟨3, ![1, 1024, 3712]⟩
abbrev S1024x3712 : Shape := ⟨2, ![1024, 3712]⟩
abbrev S1024x384 : Shape := ⟨2, ![1024, 384]⟩
abbrev S1024x3x128 : Shape := ⟨3, ![1024, 3, 128]⟩
abbrev S1024x3x1x128 : Shape := ⟨4, ![1024, 3, 1, 128]⟩
abbrev S1024x3x3x128 : Shape := ⟨4, ![1024, 3, 3, 128]⟩
abbrev S1024x1152 : Shape := ⟨2, ![1024, 1152]⟩
abbrev S1024x512 : Shape := ⟨2, ![1024, 512]⟩
abbrev S1x1024x2816 : Shape := ⟨3, ![1, 1024, 2816]⟩
abbrev S1x2816x1024 : Shape := ⟨3, ![1, 2816, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x1024x1024, .f32⟩
  | .hbm, ⟨6, _⟩ => ⟨S2x512x1024, .f32⟩
  | .hbm, ⟨7, _⟩ => ⟨S2x1024x1024, .f32⟩
  | .hbm, ⟨8, _⟩ => ⟨S2x1024x3072, .f32⟩
  | .hbm, ⟨9, _⟩ => ⟨S2x1024x3712, .f32⟩
  | .hbm, ⟨10, _⟩ => ⟨S2x1024x2816, .f32⟩
  | .hbm, ⟨11, _⟩ => ⟨S2x1024x2816, .f32⟩
  | .hbm, ⟨12, _⟩ => ⟨S2x2816x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S16384x1024, .f32⟩
  | .hbm, ⟨47, _⟩ => ⟨S1x1024x1024, .f32⟩
  | .hbm, ⟨48, _⟩ => ⟨S1024x1024, .f32⟩
  | .hbm, ⟨49, _⟩ => ⟨S1024x1024, .bf16⟩
  | .hbm, ⟨50, _⟩ => ⟨S1x512x1024, .f32⟩
  | .hbm, ⟨51, _⟩ => ⟨S512x1024, .f32⟩
  | .hbm, ⟨52, _⟩ => ⟨S512x1024, .bf16⟩
  | .hbm, ⟨53, _⟩ => ⟨S1x1024x1024, .f32⟩
  | .hbm, ⟨54, _⟩ => ⟨S1024x1024, .f32⟩
  | .hbm, ⟨55, _⟩ => ⟨S1024x1024, .bf16⟩
  | .hbm, ⟨56, _⟩ => ⟨S1x1024x3072, .f32⟩
  | .hbm, ⟨57, _⟩ => ⟨S1024x3072, .f32⟩
  | .hbm, ⟨58, _⟩ => ⟨S1024x3072, .bf16⟩
  | .hbm, ⟨59, _⟩ => ⟨S1x1024x3712, .f32⟩
  | .hbm, ⟨60, _⟩ => ⟨S1024x3712, .f32⟩
  | .hbm, ⟨61, _⟩ => ⟨S1024x384, .f32⟩
  | .hbm, ⟨62, _⟩ => ⟨S1024x3x128, .f32⟩
  | .hbm, ⟨63, _⟩ => ⟨S1024x384, .f32⟩
  | .hbm, ⟨64, _⟩ => ⟨S1024x3x128, .f32⟩
  | .hbm, ⟨65, _⟩ => ⟨S1024x384, .f32⟩
  | .hbm, ⟨66, _⟩ => ⟨S1024x3x128, .f32⟩
  | .hbm, ⟨67, _⟩ => ⟨S_, .f32⟩
  | .hbm, ⟨68, _⟩ => ⟨S1024x3x128, .f32⟩
  | .hbm, ⟨69, _⟩ => ⟨S1024x3x128, .f32⟩
  | .hbm, ⟨70, _⟩ => ⟨S1024x3x1x128, .f32⟩
  | .hbm, ⟨71, _⟩ => ⟨S1024x3x1x128, .f32⟩
  | .hbm, ⟨72, _⟩ => ⟨S1024x3x1x128, .f32⟩
  | .hbm, ⟨73, _⟩ => ⟨S1024x3x3x128, .f32⟩
  | .hbm, ⟨74, _⟩ => ⟨S1024x1152, .f32⟩
  | .hbm, ⟨75, _⟩ => ⟨S1024x1024, .f32⟩
  | .hbm, ⟨76, _⟩ => ⟨S1024x512, .f32⟩
  | .hbm, ⟨77, _⟩ => ⟨S_, .f32⟩
  | .hbm, ⟨78, _⟩ => ⟨S1024x512, .f32⟩
  | .hbm, ⟨79, _⟩ => ⟨S1024x512, .f32⟩
  | .hbm, ⟨80, _⟩ => ⟨S1024x1024, .f32⟩
  | .hbm, ⟨81, _⟩ => ⟨S1024x3712, .f32⟩
  | .hbm, ⟨82, _⟩ => ⟨S1024x3712, .bf16⟩
  | .hbm, ⟨83, _⟩ => ⟨S1x1024x2816, .f32⟩
  | .hbm, ⟨84, _⟩ => ⟨S1024x2816, .f32⟩
  | .hbm, ⟨85, _⟩ => ⟨S1024x2816, .bf16⟩
  | .hbm, ⟨86, _⟩ => ⟨S1x1024x2816, .f32⟩
  | .hbm, ⟨87, _⟩ => ⟨S1024x2816, .f32⟩
  | .hbm, ⟨88, _⟩ => ⟨S1024x2816, .bf16⟩
  | .hbm, ⟨89, _⟩ => ⟨S1x2816x1024, .f32⟩
  | .hbm, ⟨90, _⟩ => ⟨S2816x1024, .f32⟩
  | .hbm, ⟨91, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Proof.Diff.Tile.lean ====
module

public import proofs.«01_k».proof.Proof.Gen.KernelIdeal
public import proofs.«01_k».proof.Proof.Gen.KernelIdeal.Skeleton
public import Idealize.ShloMosaic.Lib.VecWindow

/-! # What one query block of differential attention computes

The pure functions, over any floats, that one block of 512 queries goes through: the scaled queries of
one half, the logits of one tile of 512 keys, the row maximum over four tiles, the weighted values of
one softmax map, and the normalised difference of the two maps. -/

@[expose] public section

set_option maxRecDepth 16384

noncomputable section

namespace Cert.KernelIdeal.Diff

open Idealize.ShloMosaic Idealize.ShloMosaic.TcCoe
open Cert.KernelIdeal Cert.KernelIdeal.Gen

variable {F : FTy → Type} [FloatOps F] [Named F]

/-- The scaled queries of one half of the head's width: columns `< 64` for `m = 0`, the others for
`m = 1`; zero elsewhere. -/
def qHalf (m : Fin 2) (Q : Vec F S1x512x128 .bf16) : FVec F S512x128 .bf16 :=
  if m = 0 then select k0_pay21 (k0_pay20 Q) (k0_pay22 (F := F)) else select k0_pay21 (k0_pay22 (F := F)) (k0_pay20 Q)

/-- The logits (base two) of one tile of keys. -/
def logits (q : FVec F S512x128 .bf16) (B : Vec F S1x512x512 .f32) (K : Vec F S1x512x128 .bf16) : FVec F S512x512 .f32 :=
  addf (matmul dot_S512x128_S512x128_S512x512_1_1_0_0_n_n none q (shapeCast S512x128 K shapeCasts_S1x512x128_S512x128) (constant S512x512 .f32 0x00000000#32))
    (mulf (shapeCast S512x512 B shapeCasts_S1x512x512_S512x512) (broadcast S512x512 (Named.named κ "log2_e" 0x3FB8AA3B#32 : F .f32)))

/-- The four columns groups of a tile. -/
def sl0 (L : FVec F S512x512 .f32) : FVec F S512x128 .f32 := extractStridedSlice S512x128 ![0, 0] L slices_S512x512_o0_0_S512x128
def sl1 (L : FVec F S512x512 .f32) : FVec F S512x128 .f32 := extractStridedSlice S512x128 ![0, 128] L slices_S512x512_o0_128_S512x128
def sl2 (L : FVec F S512x512 .f32) : FVec F S512x128 .f32 := extractStridedSlice S512x128 ![0, 256] L slices_S512x512_o0_256_S512x128
def sl3 (L : FVec F S512x512 .f32) : FVec F S512x128 .f32 := extractStridedSlice S512x128 ![0, 384] L slices_S512x512_o0_384_S512x128

/-- The running maximum, lane by lane, after one more tile. -/
def maxStep (acc : FVec F S512x128 .f32) (L : FVec F S512x512 .f32) : FVec F S512x128 .f32 :=
  maximumf (maximumf (maximumf (maximumf acc (sl0 L)) (sl1 L)) (sl2 L)) (sl3 L)

/-- The lane maximum of the first tile. -/
def maxFirst (L : FVec F S512x512 .f32) : FVec F S512x128 .f32 :=
  maximumf (maximumf (maximumf (sl0 L) (sl1 L)) (sl2 L)) (sl3 L)

/-- The row maximum over four tiles, spread over the lanes. -/
def rowMax (L : Fin 4 → FVec F S512x512 .f32) : FVec F S512x128 .f32 :=
  broadcastTo S512x128 (shapeCast S512x1 (shapeCast S512x1
    (multiReduction .maximumf [1] S512 (maxStep (maxStep (maxStep (maxFirst (L 0)) (L 1)) (L 2)) (L 3)) 0xFF800000#32 reduces_S512x128_S512 (.inl rfl) rfl)
    shapeCasts_S512_S512x1) shapeCasts_S512x1_S512x1) broadcasts_S512x1_S512x128

/-- The weights of one tile: two to the logits less the row maximum. -/
def weights (M : FVec F S512x128 .f32) (L : FVec F S512x512 .f32) : FVec F S512x512 .bf16 :=
  truncf .bf16 (concatenate S512x512 1 [⟨S512x128, exp2 (subf (sl0 L) M)⟩, ⟨S512x128, exp2 (subf (sl1 L) M)⟩, ⟨S512x128, exp2 (subf (sl2 L) M)⟩, ⟨S512x128, exp2 (subf (sl3 L) M)⟩] concatenates_S512x128_S512x128_S512x128_S512x128_S512x512_d1) bitsLt_bf16_f32

/-- One tile's product of the weights with the values and the ones beside them. -/
def pvTile (M : FVec F S512x128 .f32) (L : FVec F S512x512 .f32) (W : Vec F S512x256 .bf16) : FVec F S512x256 .f32 :=
  matmul dot_S512x512_S512x256_S512x256_1_0_0_1_n_n none (weights M L) W (constant S512x256 .f32 0x00000000#32)

/-- The four tiles' products, added. -/
def pvSum (M : FVec F S512x128 .f32) (L : Fin 4 → FVec F S512x512 .f32) (W : Fin 4 → Vec F S512x256 .bf16) : FVec F S512x256 .f32 :=
  addf (addf (addf (addf (broadcast S512x256 (Scalar.ofBits .f32 0x00000000#32 : F .f32)) (pvTile M (L 0) (W 0))) (pvTile M (L 1) (W 1))) (pvTile M (L 2) (W 2))) (pvTile M (L 3) (W 3))

/-- The softmax average of the values: the first 128 columns over the other 128. -/
def att (M : FVec F S512x128 .f32) (L : Fin 4 → FVec F S512x512 .f32) (W : Fin 4 → Vec F S512x256 .bf16) : FVec F S512x128 .f32 :=
  divf (extractStridedSlice S512x128 ![0, 0] (pvSum M L W) slices_S512x256_o0_0_S512x128) (extractStridedSlice S512x128 ![0, 128] (pvSum M L W) slices_S512x256_o0_128_S512x128)

/-- The first map's average less `lam` times the second's. -/
def diffOf (lam : FVec F S1x1 .f32) (o0 o1 : FVec F S512x128 .f32) : FVec F S512x128 .f32 :=
  subf o0 (mulf (broadcastTo S512x128 lam broadcasts_S1x1_S512x128) o1)

/-- The row normalisation, with the gain and the constant factor. -/
def normed (o : FVec F S512x128 .f32) (G : Vec F S1x128 .f32) : FVec F S512x128 .f32 :=
  mulf (mulf (mulf o (broadcastTo S512x128 (rsqrt (addf (divf (shapeCast S512x1 (multiReduction .add [1] S512 (mulf o o) 0x00000000#32 reduces_S512x128_S512 (.inl rfl) rfl) shapeCasts_S512_S512x1)
      (broadcast S512x1 (Scalar.ofBits .f32 0x43000000#32 : F .f32))) (broadcast S512x1 (Scalar.ofBits .f32 0x3727C5AC#32 : F .f32)))) broadcasts_S512x1_S512x128))
    (broadcastTo S512x128 (shapeCast S1x128 G shapeCasts_S1x128_S1x128) broadcasts_S1x128_S512x128)) (broadcast S512x128 (Scalar.ofBits .f32 0x3F4CCCCD#32 : F .f32))

/-- A tile and a row maximum as they are kept in the scratch arrays, and back. -/
def boxL (L : FVec F S512x512 .f32) : Vec F S1x1x512x512 .f32 := shapeCast S1x1x512x512 L shapeCasts_S512x512_S1x1x512x512
def boxM (M : FVec F S512x128 .f32) : Vec F S1x1x512x128 .f32 := shapeCast S1x1x512x128 M shapeCasts_S512x128_S1x1x512x128
def unboxL (L : Vec F S1x1x512x512 .f32) : FVec F S512x512 .f32 := shapeCast S512x512 L shapeCasts_S1x1x512x512_S512x512
def unboxM (M : Vec F S1x1x512x128 .f32) : FVec F S512x128 .f32 := shapeCast S512x128 M shapeCasts_S1x1x512x128_S512x128

/-- A block of results, from the kept logits and row maxima of its two maps. -/
def outOf (lam : FVec F S1x1 .f32) (M : Fin 2 → Vec F S1x1x512x128 .f32) (L : Fin 2 → Fin 4 → Vec F S1x1x512x512 .f32)
    (W : Fin 4 → Vec F S512x256 .bf16) (G : Vec F S1x128 .f32) : FVec F S1x512x128 .bf16 :=
  shapeCast S1x512x128 (truncf .bf16 (normed (diffOf lam (att (unboxM (M 0)) (fun t => unboxL (L 0 t)) W) (att (unboxM (M 1)) (fun t => unboxL (L 1 t)) W)) G) bitsLt_bf16_f32) shapeCasts_S512x128_S1x512x128

/-- The windows of the whole arrays that query block `j` and key tile `t` read. -/
def qW (X : Vec F S1x2048x128 .bf16) (j : Fin 4) : Vec F S1x512x128 .bf16 :=
  VecWindow.window X ![0, 512 * j.val, 0] ![1, 512, 128] (by intro a; have := j.isLt; fin_cases a <;> simp [S1x2048x128] <;> omega)
def bW (X : Vec F S1x512x3584 .f32) (j t : Fin 4) : Vec F S1x512x512 .f32 :=
  VecWindow.window X ![0, 0, 512 * t.val + 1536 - 512 * j.val] ![1, 512, 512] (by intro a; have := j.isLt; have := t.isLt; fin_cases a <;> simp [S1x512x3584] <;> omega)
def vW (X : Vec F S2048x256 .bf16) (t : Fin 4) : Vec F S512x256 .bf16 :=
  VecWindow.window X ![512 * t.val, 0] ![512, 256] (by intro a; have := t.isLt; fin_cases a <;> simp [S2048x256] <;> omega)
def lW (X : Vec F S2x2x512x2048 .f32) (s m : Fin 2) (t : Fin 4) : Vec F S1x1x512x512 .f32 :=
  VecWindow.window X ![s.val, m.val, 0, 512 * t.val] ![1, 1, 512, 512] (by intro a; have := s.isLt; have := m.isLt; have := t.isLt; fin_cases a <;> simp [S2x2x512x2048] <;> omega)
def mW (X : Vec F S2x2x512x128 .f32) (s m : Fin 2) : Vec F S1x1x512x128 .f32 :=
  VecWindow.window X ![s.val, m.val, 0, 0] ![1, 1, 512, 128] (by intro a; have := s.isLt; have := m.isLt; fin_cases a <;> simp [S2x2x512x128] <;> omega)

/-- One kept tile, put. -/
def putL (X : Vec F S2x2x512x2048 .f32) (s m : Fin 2) (t : Fin 4) (P : Vec F S1x1x512x512 .f32) : Vec F S2x2x512x2048 .f32 :=
  VecWindow.put X ![s.val, m.val, 0, 512 * t.val] ![1, 1, 512, 512] P
def putM (X : Vec F S2x2x512x128 .f32) (s m : Fin 2) (P : Vec F S1x1x512x128 .f32) : Vec F S2x2x512x128 .f32 :=
  VecWindow.put X ![s.val, m.val, 0, 0] ![1, 1, 512, 128] P

/-- The kept logits of one slot, all eight tiles put. -/
def put8 (X : Vec F S2x2x512x2048 .f32) (s : Fin 2) (P : Fin 2 → Fin 4 → Vec F S1x1x512x512 .f32) : Vec F S2x2x512x2048 .f32 :=
  putL (putL (putL (putL (putL (putL (putL (putL X s 0 0 (P 0 0)) s 0 1 (P 0 1)) s 0 2 (P 0 2)) s 0 3 (P 0 3)) s 1 0 (P 1 0)) s 1 1 (P 1 1)) s 1 2 (P 1 2)) s 1 3 (P 1 3)

/-- The kept row maxima of one slot, both put. -/
def put2 (X : Vec F S2x2x512x128 .f32) (s : Fin 2) (P : Fin 2 → Vec F S1x1x512x128 .f32) : Vec F S2x2x512x128 .f32 :=
  putM (putM X s 0 (P 0)) s 1 (P 1)

/-- The results' rows of query block `j`, put. -/
def putO (X : Vec F S1x2048x128 .bf16) (j : Fin 4) (P : Vec F S1x512x128 .bf16) : Vec F S1x2048x128 .bf16 :=
  VecWindow.put X ![0, 512 * j.val, 0] ![1, 512, 128] P

theorem lW_putL_same (X : Vec F S2x2x512x2048 .f32) (s m : Fin 2) (t : Fin 4) (P : Vec F S1x1x512x512 .f32) : lW (putL X s m t P) s m t = P :=
  VecWindow.window_put_same _ _ _ _ _

theorem lW_putL_ne (X : Vec F S2x2x512x2048 .f32) (s m m' : Fin 2) (t t' : Fin 4) (P : Vec F S1x1x512x512 .f32) (h : m' ≠ m ∨ t' ≠ t) :
    lW (putL X s m t P) s m' t' = lW X s m' t' := by
  rcases h with h | h
  · refine VecWindow.window_put_of_disjoint _ _ _ _ _ _ _ 1 ?_
    have : m'.val ≠ m.val := fun e => h (Fin.ext e)
    show m'.val + 1 ≤ m.val ∨ m.val + 1 ≤ m'.val
    omega
  · refine VecWindow.window_put_of_disjoint _ _ _ _ _ _ _ 3 ?_
    have : t'.val ≠ t.val := fun e => h (Fin.ext e)
    show 512 * t'.val + 512 ≤ 512 * t.val ∨ 512 * t.val + 512 ≤ 512 * t'.val
    omega

theorem mW_putM_same (X : Vec F S2x2x512x128 .f32) (s m : Fin 2) (P : Vec F S1x1x512x128 .f32) : mW (putM X s m P) s m = P :=
  VecWindow.window_put_same _ _ _ _ _

theorem mW_putM_ne (X : Vec F S2x2x512x128 .f32) (s m m' : Fin 2) (P : Vec F S1x1x512x128 .f32) (h : m' ≠ m) :
    mW (putM X s m P) s m' = mW X s m' := by
  refine VecWindow.window_put_of_disjoint _ _ _ _ _ _ _ 1 ?_
  have : m'.val ≠ m.val := fun e => h (Fin.ext e)
  show m'.val + 1 ≤ m.val ∨ m.val + 1 ≤ m'.val
  omega

theorem lW_put8 (X : Vec F S2x2x512x2048 .f32) (s : Fin 2) (P : Fin 2 → Fin 4 → Vec F S1x1x512x512 .f32) (m : Fin 2) (t : Fin 4) :
    lW (put8 X s P) s m t = P m t := by
  unfold put8
  fin_cases m <;> fin_cases t <;>
  repeat (first
    | exact lW_putL_same _ _ _ _ _
    | refine (lW_putL_ne _ _ _ _ _ _ _ (by decide)).trans ?_)

theorem mW_put2 (X : Vec F S2x2x512x128 .f32) (s : Fin 2) (P : Fin 2 → Vec F S1x1x512x128 .f32) (m : Fin 2) :
    mW (put2 X s P) s m = P m := by
  unfold put2
  fin_cases m
  · exact (mW_putM_ne _ _ _ _ _ (by decide)).trans (mW_putM_same _ _ _ _)
  · exact mW_putM_same _ _ _ _

theorem qW_putO_same (X : Vec F S1x2048x128 .bf16) (j : Fin 4) (P : Vec F S1x512x128 .bf16) : qW (putO X j P) j = P :=
  VecWindow.window_put_same _ _ _ _ _

theorem qW_putO_ne (X : Vec F S1x2048x128 .bf16) (j j' : Fin 4) (h : j' ≠ j) (P : Vec F S1x512x128 .bf16) : qW (putO X j P) j' = qW X j' := by
  refine VecWindow.window_put_of_disjoint _ _ _ _ _ _ _ 1 ?_
  have : j'.val ≠ j.val := fun e => h (Fin.ext e)
  show 512 * j'.val + 512 ≤ 512 * j.val ∨ 512 * j.val + 512 ≤ 512 * j'.val
  omega

/-- The kept logits and row maxima of query block `j`. -/
def keptL (Q K : Vec F S1x2048x128 .bf16) (B : Vec F S1x512x3584 .f32) (j : Fin 4) (m : Fin 2) (t : Fin 4) : FVec F S512x512 .f32 :=
  logits (qHalf m (qW Q j)) (bW B j t) (qW K t)
def keptM (Q K : Vec F S1x2048x128 .bf16) (B : Vec F S1x512x3584 .f32) (j : Fin 4) (m : Fin 2) : FVec F S512x128 .f32 :=
  rowMax (keptL Q K B j m)

/-! The printed sub-terms of the second pass, as the functions above. -/

theorem pay2_eq (M : Vec F S1x1x512x128 .f32) : k0_pay2 M = unboxM M := rfl
theorem pay12_eq (M : Vec F S1x1x512x128 .f32) : k0_pay12 M = unboxM M := rfl
theorem pay3_eq (M : Vec F S1x1x512x128 .f32) (L : Vec F S1x1x512x512 .f32) (W : Vec F S512x256 .bf16) :
    k0_pay3 M L W = addf (broadcast S512x256 (Scalar.ofBits .f32 0x00000000#32 : F .f32)) (pvTile (unboxM M) (unboxL L) W) := rfl
theorem pay13_eq (M : Vec F S1x1x512x128 .f32) (L : Vec F S1x1x512x512 .f32) (W : Vec F S512x256 .bf16) :
    k0_pay13 M L W = addf (broadcast S512x256 (Scalar.ofBits .f32 0x00000000#32 : F .f32)) (pvTile (unboxM M) (unboxL L) W) := rfl
theorem pay6_eq (M : FVec F S512x128 .f32) (acc : FVec F S512x256 .f32) (L L' : Vec F S1x1x512x512 .f32) (W W' : Vec F S512x256 .bf16) :
    k0_pay6 M acc (k0_pay4 L) (k0_pay5 L) W L' W' = addf (addf acc (pvTile M (unboxL L) W)) (pvTile M (unboxL L') W') := rfl
theorem pay11_eq (M : FVec F S512x128 .f32) (acc : FVec F S512x256 .f32) (L : Vec F S1x1x512x512 .f32) (W : Vec F S512x256 .bf16) :
    k0_pay11 M acc (k0_pay7 L) (k0_pay8 M L) (k0_pay9 M L) (k0_pay10 M L) W
      = divf (extractStridedSlice S512x128 ![0, 0] (addf acc (pvTile M (unboxL L) W)) slices_S512x256_o0_0_S512x128) (extractStridedSlice S512x128 ![0, 128] (addf acc (pvTile M (unboxL L) W)) slices_S512x256_o0_128_S512x128) := rfl
theorem pay17_eq (M : Vec F S1x1x512x128 .f32) (acc : FVec F S512x256 .f32) (L L' : Vec F S1x1x512x512 .f32) (W W' : Vec F S512x256 .bf16) :
    k0_pay17 (unboxM M) acc (k0_pay14 L) (k0_pay15 M L) (k0_pay16 M L) W L' W' = addf (addf acc (pvTile (unboxM M) (unboxL L) W)) (pvTile (unboxM M) (unboxL L') W') := rfl
theorem pay18_eq (M : FVec F S512x128 .f32) (L : Vec F S1x1x512x512 .f32) : k0_pay18 M L = weights M (unboxL L) := rfl
theorem pay19_eq (lam : FVec F S1x1 .f32) (o : FVec F S512x128 .f32) (acc : FVec F S512x256 .f32) (w : FVec F S512x512 .bf16) (W : Vec F S512x256 .bf16) (G : Vec F S1x128 .f32) :
    k0_pay19 lam o acc w W G = shapeCast S1x512x128 (truncf .bf16 (normed (diffOf lam o
      (divf (extractStridedSlice S512x128 ![0, 0] (addf acc (matmul dot_S512x512_S512x256_S512x256_1_0_0_1_n_n none w W (constant S512x256 .f32 0x00000000#32))) slices_S512x256_o0_0_S512x128)
        (extractStridedSlice S512x128 ![0, 128] (addf acc (matmul dot_S512x512_S512x256_S512x256_1_0_0_1_n_n none w W (constant S512x256 .f32 0x00000000#32))) slices_S512x256_o0_128_S512x128))) G) bitsLt_bf16_f32) shapeCasts_S512x128_S1x512x128 := rfl

end Cert.KernelIdeal.Diff
end
-- ==== Proof.Diff.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Tile

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

theorem k0_off1_eq : ∀ k : Fin k0_t1_loop.trips, k0_off1 k = ![k.val % 2, 0, 0, 0] := by decide +kernel
instance (k : Fin k0_t1_loop.trips) : ClosedOff (k0_off1 k) := ⟨_, k0_off1_eq k⟩
theorem k0_off6_eq : ∀ k : Fin k0_t1_loop.trips, k0_off6 k = ![k.val % 2, 1, 0, 0] := by decide +kernel
instance (k : Fin k0_t1_loop.trips) : ClosedOff (k0_off6 k) := ⟨_, k0_off6_eq k⟩
theorem k0_off2_eq : ∀ k : Fin k0_t1_loop.trips, k0_off2 k = ![k.val % 2, 0, 0, 0] := by decide +kernel
instance (k : Fin k0_t1_loop.trips) : ClosedOff (k0_off2 k) := ⟨_, k0_off2_eq k⟩
theorem k0_off3_eq : ∀ k : Fin k0_t1_loop.trips, k0_off3 k = ![k.val % 2, 0, 0, 512] := by decide +kernel
instance (k : Fin k0_t1_loop.trips) : ClosedOff (k0_off3 k) := ⟨_, k0_off3_eq k⟩
theorem k0_off4_eq : ∀ k : Fin k0_t1_loop.trips, k0_off4 k = ![k.val % 2, 0, 0, 1024] := by decide +kernel
instance (k : Fin k0_t1_loop.trips) : ClosedOff (k0_off4 k) := ⟨_, k0_off4_eq k⟩
theorem k0_off5_eq : ∀ k : Fin k0_t1_loop.trips, k0_off5 k = ![k.val % 2, 0, 0, 1536] := by decide +kernel
instance (k : Fin k0_t1_loop.trips) : ClosedOff (k0_off5 k) := ⟨_, k0_off5_eq k⟩
theorem k0_off7_eq : ∀ k : Fin k0_t1_loop.trips, k0_off7 k = ![k.val % 2, 1, 0, 0] := by decide +kernel
instance (k : Fin k0_t1_loop.trips) : ClosedOff (k0_off7 k) := ⟨_, k0_off7_eq k⟩
theorem k0_off8_eq : ∀ k : Fin k0_t1_loop.trips, k0_off8 k = ![k.val % 2, 1, 0, 512] := by decide +kernel
instance (k : Fin k0_t1_loop.trips) : ClosedOff (k0_off8 k) := ⟨_, k0_off8_eq k⟩
theorem k0_off9_eq : ∀ k : Fin k0_t1_loop.trips, k0_off9 k = ![k.val % 2, 1, 0, 1024] := by decide +kernel
instance (k : Fin k0_t1_loop.trips) : ClosedOff (k0_off9 k) := ⟨_, k0_off9_eq k⟩
theorem k0_off10_eq : ∀ k : Fin k0_t1_loop.trips, k0_off10 k = ![k.val % 2, 1, 0, 1536] := by decide +kernel
instance (k : Fin k0_t1_loop.trips) : ClosedOff (k0_off10 k) := ⟨_, k0_off10_eq k⟩
theorem k0_off14_eq : ∀ k : Fin k0_t1_loop.trips, k0_off14 k = ![(k.val + 1) % 2, 0, 0, 0] := by decide +kernel
instance (k : Fin k0_t1_loop.trips) : ClosedOff (k0_off14 k) := ⟨_, k0_off14_eq k⟩
theorem k0_off15_eq : ∀ k : Fin k0_t1_loop.trips, k0_off15 k = ![(k.val + 1) % 2, 0, 0, 512] := by decide +kernel
instance (k : Fin k0_t1_loop.trips) : ClosedOff (k0_off15 k) := ⟨_, k0_off15_eq k⟩
theorem k0_off16_eq : ∀ k : Fin k0_t1_loop.trips, k0_off16 k = ![(k.val + 1) % 2, 0, 0, 1024] := by decide +kernel
instance (k : Fin k0_t1_loop.trips) : ClosedOff (k0_off16 k) := ⟨_, k0_off16_eq k⟩
theorem k0_off17_eq : ∀ k : Fin k0_t1_loop.trips, k0_off17 k = ![(k.val + 1) % 2, 0, 0, 1536] := by decide +kernel
instance (k : Fin k0_t1_loop.trips) : ClosedOff (k0_off17 k) := ⟨_, k0_off17_eq k⟩
theorem k0_off19_eq : ∀ k : Fin k0_t1_loop.trips, k0_off19 k = ![(k.val + 1) % 2, 1, 0, 0] := by decide +kernel
instance (k : Fin k0_t1_loop.trips) : ClosedOff (k0_off19 k) := ⟨_, k0_off19_eq k⟩
theorem k0_off20_eq : ∀ k : Fin k0_t1_loop.trips, k0_off20 k = ![(k.val + 1) % 2, 1, 0, 512] := by decide +kernel
instance (k : Fin k0_t1_loop.trips) : ClosedOff (k0_off20 k) := ⟨_, k0_off20_eq k⟩
theorem k0_off21_eq : ∀ k : Fin k0_t1_loop.trips, k0_off21 k = ![(k.val + 1) % 2, 1, 0, 1024] := by decide +kernel
instance (k : Fin k0_t1_loop.trips) : ClosedOff (k0_off21 k) := ⟨_, k0_off21_eq k⟩
theorem k0_off22_eq : ∀ k : Fin k0_t1_loop.trips, k0_off22 k = ![(k.val + 1) % 2, 1, 0, 1536] := by decide +kernel
instance (k : Fin k0_t1_loop.trips) : ClosedOff (k0_off22 k) := ⟨_, k0_off22_eq k⟩
theorem k0_off18_eq : ∀ k : Fin k0_t1_loop.trips, k0_off18 k = ![(k.val + 1) % 2, 0, 0, 0] := by decide +kernel
instance (k : Fin k0_t1_loop.trips) : ClosedOff (k0_off18 k) := ⟨_, k0_off18_eq k⟩
theorem k0_off23_eq : ∀ k : Fin k0_t1_loop.trips, k0_off23 k = ![(k.val + 1) % 2, 1, 0, 0] := by decide +kernel
instance (k : Fin k0_t1_loop.trips) : ClosedOff (k0_off23 k) := ⟨_, k0_off23_eq k⟩

section Trip

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

abbrev Trip (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

set_option maxHeartbeats 4000000 in
/-- One trip of the loop, with the contents it leaves in the result's window and the two scratch arrays. -/
def trip (v27 : FVec F S1x1 .f32) (v218 : FVec F S512x128 .f32) (k : Fin k0_t1_loop.trips)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    Σ' (g11 : Buf (Elt F) (arg11.view.loc (c : Thread nD τ))) (g13 : Buf (Elt F) (arg13.view.loc (c : Thread nD τ))),
    { g14 : Buf (Elt F) (arg14.view.loc (c : Thread nD τ)) //
    Trip c arg2 arg3 arg5 arg10 arg11 arg12 arg13 arg14 f2 f3 f5 f10 f11 f12 f13 f14
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 v27 v218 k ()) (fun _ =>
        Trip c arg2 arg3 arg5 arg10 arg11 arg12 arg13 arg14 f2 f3 f5 f10 g11 f12 g13 g14) } := by
  refine ⟨?_, ?_, ?_, ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    iintro ⟨H2, H3, H5, H10, H11, H12, H13, H14⟩
    sl_exec
    sl_step
    isplitl [H2]; · iexact H2
    isplitl [H3]; · iexact H3
    isplitl [H5]; · iexact H5
    isplitl [H10]; · iexact H10
    isplitl [H11]; · iexact H11
    isplitl [H12]; · iexact H12
    isplitl [H13]; · iexact H13
    iexact H14

attribute [irreducible] trip

end Trip
end Cert.KernelIdeal.Diff
end
-- ==== Proof.Diff.Inv.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Trip

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section Trip

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

/-- The contents after `k` trips. -/
def st (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    ℕ → Buf (Elt F) (arg11.view.loc (c : Thread nD τ)) × Buf (Elt F) (arg13.view.loc (c : Thread nD τ)) × Buf (Elt F) (arg14.view.loc (c : Thread nD τ))
  | 0 => (f11, f13, f14)
  | k + 1 =>
    let s := st v27 v218 f2 f3 f5 f10 f11 f12 f13 f14 k
    if h : k < k0_t1_loop.trips then
      let t := trip c i arg2 harg2 arg3 harg3 arg4 harg4 arg5 harg5 arg6 harg6 arg7 harg7 arg8 harg8 arg9 harg9 arg10 harg10 arg11 harg11 arg12 harg12 arg13 harg13 arg14 harg14 v27 v218 ⟨k, h⟩ f2 f3 f5 f10 s.1 f12 s.2.1 s.2.2
      (t.1, t.2.1, t.2.2.1)
    else s

theorem st_succ (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (k : Fin k0_t1_loop.trips) :
    st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 (k.val + 1)
      = let s := st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k.val
        let t := trip c i arg2 harg2 arg3 harg3 arg4 harg4 arg5 harg5 arg6 harg6 arg7 harg7 arg8 harg8 arg9 harg9 arg10 harg10 arg11 harg11 arg12 harg12 arg13 harg13 arg14 harg14 v27 v218 k f2 f3 f5 f10 s.1 f12 s.2.1 s.2.2
        (t.1, t.2.1, t.2.2.1) := by
  rw [st, dif_pos k.isLt]

/-- The resources before trip `k`. -/
def TripAt (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (k : ℕ) (_ : PUnit.{1}) : sProp 𝕄 :=
  Trip c arg2 arg3 arg5 arg10 arg11 arg12 arg13 arg14 f2 f3 f5 f10 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).1 f12 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).2.1 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).2.2

theorem tripAt_zero (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    TripAt c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 0 ⟨⟩ = Trip c arg2 arg3 arg5 arg10 arg11 arg12 arg13 arg14 f2 f3 f5 f10 f11 f12 f13 f14 := by
  rw [TripAt, st]

theorem tripAt_step (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (k : Fin k0_t1_loop.trips) :
    TripAt c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k.val ⟨⟩
      ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 v27 v218 k ())
        (fun _ => TripAt c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 (k.val + 1) ⟨⟩) := by
  have h := (trip c i arg2 harg2 arg3 harg3 arg4 harg4 arg5 harg5 arg6 harg6 arg7 harg7 arg8 harg8 arg9 harg9 arg10 harg10 arg11 harg11 arg12 harg12 arg13 harg13 arg14 harg14 v27 v218 k f2 f3 f5 f10 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k.val).1 f12 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k.val).2.1 (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k.val).2.2).2.2.2
  unfold TripAt
  rw [st_succ]
  exact h

/-- The loop, before any continuation. -/
theorem loop_wp {α : Type} (v27 : FVec F S1x1 .f32) (v218 : FVec F S512x128 .f32)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) (kk : PUnit.{1} → Prog (TpuEff nD τ sig (Elt F) Λ₀ .tc) α) (Q : α → sProp 𝕄) :
    iprop(Trip c arg2 arg3 arg5 arg10 arg11 arg12 arg13 arg14 f2 f3 f5 f10 f11 f12 f13 f14
      ∗ (TripAt c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k0_t1_loop.trips ⟨⟩
          -∗ wp frame (wpE (defs₀ (F := F)) Variants.none c none) Set.univ (kk ⟨⟩) Q))
      ⊢ wp frame (wpE (defs₀ (F := F)) Variants.none c none) Set.univ (k0_t1_loop.for k0_t1_ok PUnit.unit (k0_t1_body i arg2 harg2 arg3 harg3 arg4 harg4 arg5 harg5 arg6 harg6 arg7 harg7 arg8 harg8 arg9 harg9 arg10 harg10 arg11 harg11 arg12 harg12 arg13 harg13 arg14 harg14 v27 v218) >>= kk) Q := by
  iintro ⟨H, Hk⟩
  sl_for (TripAt c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14) $$ [H]
  · intro k acc
    exact tripAt_step c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k
  · rw [tripAt_zero]
    iexact H
  · iintro %acc HI
    iapply Hk
    iexact HI

end Trip
end Cert.KernelIdeal.Diff
end
-- ==== Proof.Diff.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Inv

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section Trip

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

set_option maxHeartbeats 4000000 in
/-- The whole body, with the contents it leaves in the result's window. -/
def body
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ))) :
    { g11 : Buf (Elt F) (arg11.view.loc (c : Thread nD τ)) //
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) Variants.none c none) Set.univ (cc0_diff_attn i arg2 harg2 arg3 harg3 arg4 harg4 arg5 harg5 arg6 harg6 arg7 harg7 arg8 harg8 arg9 harg9 arg10 harg10 arg11 harg11 arg12 harg12 arg13 harg13 arg14 harg14) (fun _ =>
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} g11) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g)) ∗ (∃ g : Buf (Elt F) (arg14.view.loc (c : Thread nD τ)), (arg14.view.loc (c : Thread nD τ) ↦[arg14.view.set]{fullShare} g)))) } := by
  refine ⟨?_, ?run⟩
  case run =>
    simp only [cc0_diff_attn_eq_skeleton]; unfold cc0_diff_attn_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    iintro ⟨H2, H3, H4, H5, H6, H7, H8, H9, H10, H11, H12, H13, H14⟩
    sl_exec
    iapply (loop_wp c i arg2 harg2 arg3 harg3 arg4 harg4 arg5 harg5 arg6 harg6 arg7 harg7 arg8 harg8 arg9 harg9 arg10 harg10 arg11 harg11 arg12 harg12 arg13 harg13 arg14 harg14 _ _ f2 f3 f5 f10 _ _ _ _ _ _)
    isplitl [H2 H3 H5 H10 H11 H12 H13 H14]
    · isplitl [H2]; · iexact H2
      isplitl [H3]; · iexact H3
      isplitl [H5]; · iexact H5
      isplitl [H10]; · iexact H10
      isplitl [H11]; · iexact H11
      isplitl [H12]; · iexact H12
      isplitl [H13]; · iexact H13
      iexact H14
    iintro HI
    unfold TripAt
    icases HI with ⟨H2, H3, H5, H10, H11, H12, H13, H14⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

attribute [irreducible] body

end Trip
end Cert.KernelIdeal.Diff
end
-- ==== Proof.Diff.Read.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Trip

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section Trip

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

theorem trips_eq : k0_t1_loop.trips = 3 := by decide +kernel

/-- The query block that trip `k` finishes, and the one it begins. -/
def jNow (k : Fin k0_t1_loop.trips) : Fin 4 := ⟨k.val, by have := k.isLt; have := trips_eq; omega⟩
def jNext (k : Fin k0_t1_loop.trips) : Fin 4 := ⟨k.val + 1, by have := k.isLt; have := trips_eq; omega⟩
/-- The slots of the two. -/
def sNow (k : Fin k0_t1_loop.trips) : Fin 2 := ⟨k.val % 2, by omega⟩
def sNext (k : Fin k0_t1_loop.trips) : Fin 2 := ⟨(k.val + 1) % 2, by omega⟩

theorem off11_j : ∀ k : Fin k0_t1_loop.trips, k0_off11 k = ![0, 512 * (jNow k).val, 0] := by decide +kernel
theorem off12_j : ∀ k : Fin k0_t1_loop.trips, k0_off12 k = ![0, 512 * (jNext k).val, 0] := by decide +kernel
theorem off13_0 : ∀ k : Fin k0_t1_loop.trips, k0_off13 k 0#32 = ![0, 0, 512 * (0 : Fin 4).val + 1536 - 512 * (jNext k).val] := by decide +kernel
theorem off13_1 : ∀ k : Fin k0_t1_loop.trips, k0_off13 k 512#32 = ![0, 0, 512 * (1 : Fin 4).val + 1536 - 512 * (jNext k).val] := by decide +kernel
theorem off13_2 : ∀ k : Fin k0_t1_loop.trips, k0_off13 k 1024#32 = ![0, 0, 512 * (2 : Fin 4).val + 1536 - 512 * (jNext k).val] := by decide +kernel
theorem off13_3 : ∀ k : Fin k0_t1_loop.trips, k0_off13 k 1536#32 = ![0, 0, 512 * (3 : Fin 4).val + 1536 - 512 * (jNext k).val] := by decide +kernel

theorem rd2 (k : Fin k0_t1_loop.trips) (f2 : Buf (Elt F) (arg2.view.loc (c : Thread nD τ))) (inb) :
    arg2.view.readAt (Elt F) (Rect.unit (k0_off12 k) ![1, 512, 128] inb).toLoadRect f2 = qW (arg2.view.read (Elt F) f2) (jNext k) :=
  View.readAt_unit _ _ _ (off12_j k) _
theorem rd3_0 (f3 : Buf (Elt F) (arg3.view.loc (c : Thread nD τ))) (inb) :
    arg3.view.readAt (Elt F) (Rect.unit ![0, 0, 0] ![1, 512, 128] inb).toLoadRect f3 = qW (arg3.view.read (Elt F) f3) 0 :=
  View.readAt_unit _ _ _ (by rfl) _
theorem rd5_0 (k : Fin k0_t1_loop.trips) (f5 : Buf (Elt F) (arg5.view.loc (c : Thread nD τ))) (inb) :
    arg5.view.readAt (Elt F) (Rect.unit (k0_off13 k 0#32) ![1, 512, 512] inb).toLoadRect f5 = bW (arg5.view.read (Elt F) f5) (jNext k) 0 :=
  View.readAt_unit _ _ _ (off13_0 k) _
theorem rd12_0 (f12 : Buf (Elt F) (arg12.view.loc (c : Thread nD τ))) (inb) :
    arg12.view.readAt (Elt F) (Rect.unit ![0, 0] ![512, 256] inb).toLoadRect f12 = vW (arg12.view.read (Elt F) f12) 0 :=
  View.readAt_unit _ _ _ (by rfl) _
theorem rd13_0_0 (k : Fin k0_t1_loop.trips) (f13 : Buf (Elt F) (arg13.view.loc (c : Thread nD τ))) (inb) :
    arg13.view.readAt (Elt F) (Rect.unit (k0_off2 k) ![1, 1, 512, 512] inb).toLoadRect f13 = lW (arg13.view.read (Elt F) f13) (sNow k) 0 0 :=
  View.readAt_unit _ _ _ (k0_off2_eq k) _
theorem rd13_1_0 (k : Fin k0_t1_loop.trips) (f13 : Buf (Elt F) (arg13.view.loc (c : Thread nD τ))) (inb) :
    arg13.view.readAt (Elt F) (Rect.unit (k0_off7 k) ![1, 1, 512, 512] inb).toLoadRect f13 = lW (arg13.view.read (Elt F) f13) (sNow k) 1 0 :=
  View.readAt_unit _ _ _ (k0_off7_eq k) _
theorem rd3_1 (f3 : Buf (Elt F) (arg3.view.loc (c : Thread nD τ))) (inb) :
    arg3.view.readAt (Elt F) (Rect.unit ![0, 512, 0] ![1, 512, 128] inb).toLoadRect f3 = qW (arg3.view.read (Elt F) f3) 1 :=
  View.readAt_unit _ _ _ (by rfl) _
theorem rd5_1 (k : Fin k0_t1_loop.trips) (f5 : Buf (Elt F) (arg5.view.loc (c : Thread nD τ))) (inb) :
    arg5.view.readAt (Elt F) (Rect.unit (k0_off13 k 512#32) ![1, 512, 512] inb).toLoadRect f5 = bW (arg5.view.read (Elt F) f5) (jNext k) 1 :=
  View.readAt_unit _ _ _ (off13_1 k) _
theorem rd12_1 (f12 : Buf (Elt F) (arg12.view.loc (c : Thread nD τ))) (inb) :
    arg12.view.readAt (Elt F) (Rect.unit ![512, 0] ![512, 256] inb).toLoadRect f12 = vW (arg12.view.read (Elt F) f12) 1 :=
  View.readAt_unit _ _ _ (by rfl) _
theorem rd13_0_1 (k : Fin k0_t1_loop.trips) (f13 : Buf (Elt F) (arg13.view.loc (c : Thread nD τ))) (inb) :
    arg13.view.readAt (Elt F) (Rect.unit (k0_off3 k) ![1, 1, 512, 512] inb).toLoadRect f13 = lW (arg13.view.read (Elt F) f13) (sNow k) 0 1 :=
  View.readAt_unit _ _ _ (k0_off3_eq k) _
theorem rd13_1_1 (k : Fin k0_t1_loop.trips) (f13 : Buf (Elt F) (arg13.view.loc (c : Thread nD τ))) (inb) :
    arg13.view.readAt (Elt F) (Rect.unit (k0_off8 k) ![1, 1, 512, 512] inb).toLoadRect f13 = lW (arg13.view.read (Elt F) f13) (sNow k) 1 1 :=
  View.readAt_unit _ _ _ (k0_off8_eq k) _
theorem rd3_2 (f3 : Buf (Elt F) (arg3.view.loc (c : Thread nD τ))) (inb) :
    arg3.view.readAt (Elt F) (Rect.unit ![0, 1024, 0] ![1, 512, 128] inb).toLoadRect f3 = qW (arg3.view.read (Elt F) f3) 2 :=
  View.readAt_unit _ _ _ (by rfl) _
theorem rd5_2 (k : Fin k0_t1_loop.trips) (f5 : Buf (Elt F) (arg5.view.loc (c : Thread nD τ))) (inb) :
    arg5.view.readAt (Elt F) (Rect.unit (k0_off13 k 1024#32) ![1, 512, 512] inb).toLoadRect f5 = bW (arg5.view.read (Elt F) f5) (jNext k) 2 :=
  View.readAt_unit _ _ _ (off13_2 k) _
theorem rd12_2 (f12 : Buf (Elt F) (arg12.view.loc (c : Thread nD τ))) (inb) :
    arg12.view.readAt (Elt F) (Rect.unit ![1024, 0] ![512, 256] inb).toLoadRect f12 = vW (arg12.view.read (Elt F) f12) 2 :=
  View.readAt_unit _ _ _ (by rfl) _
theorem rd13_0_2 (k : Fin k0_t1_loop.trips) (f13 : Buf (Elt F) (arg13.view.loc (c : Thread nD τ))) (inb) :
    arg13.view.readAt (Elt F) (Rect.unit (k0_off4 k) ![1, 1, 512, 512] inb).toLoadRect f13 = lW (arg13.view.read (Elt F) f13) (sNow k) 0 2 :=
  View.readAt_unit _ _ _ (k0_off4_eq k) _
theorem rd13_1_2 (k : Fin k0_t1_loop.trips) (f13 : Buf (Elt F) (arg13.view.loc (c : Thread nD τ))) (inb) :
    arg13.view.readAt (Elt F) (Rect.unit (k0_off9 k) ![1, 1, 512, 512] inb).toLoadRect f13 = lW (arg13.view.read (Elt F) f13) (sNow k) 1 2 :=
  View.readAt_unit _ _ _ (k0_off9_eq k) _
theorem rd3_3 (f3 : Buf (Elt F) (arg3.view.loc (c : Thread nD τ))) (inb) :
    arg3.view.readAt (Elt F) (Rect.unit ![0, 1536, 0] ![1, 512, 128] inb).toLoadRect f3 = qW (arg3.view.read (Elt F) f3) 3 :=
  View.readAt_unit _ _ _ (by rfl) _
theorem rd5_3 (k : Fin k0_t1_loop.trips) (f5 : Buf (Elt F) (arg5.view.loc (c : Thread nD τ))) (inb) :
    arg5.view.readAt (Elt F) (Rect.unit (k0_off13 k 1536#32) ![1, 512, 512] inb).toLoadRect f5 = bW (arg5.view.read (Elt F) f5) (jNext k) 3 :=
  View.readAt_unit _ _ _ (off13_3 k) _
theorem rd12_3 (f12 : Buf (Elt F) (arg12.view.loc (c : Thread nD τ))) (inb) :
    arg12.view.readAt (Elt F) (Rect.unit ![1536, 0] ![512, 256] inb).toLoadRect f12 = vW (arg12.view.read (Elt F) f12) 3 :=
  View.readAt_unit _ _ _ (by rfl) _
theorem rd13_0_3 (k : Fin k0_t1_loop.trips) (f13 : Buf (Elt F) (arg13.view.loc (c : Thread nD τ))) (inb) :
    arg13.view.readAt (Elt F) (Rect.unit (k0_off5 k) ![1, 1, 512, 512] inb).toLoadRect f13 = lW (arg13.view.read (Elt F) f13) (sNow k) 0 3 :=
  View.readAt_unit _ _ _ (k0_off5_eq k) _
theorem rd13_1_3 (k : Fin k0_t1_loop.trips) (f13 : Buf (Elt F) (arg13.view.loc (c : Thread nD τ))) (inb) :
    arg13.view.readAt (Elt F) (Rect.unit (k0_off10 k) ![1, 1, 512, 512] inb).toLoadRect f13 = lW (arg13.view.read (Elt F) f13) (sNow k) 1 3 :=
  View.readAt_unit _ _ _ (k0_off10_eq k) _
theorem rd14_0 (k : Fin k0_t1_loop.trips) (f14 : Buf (Elt F) (arg14.view.loc (c : Thread nD τ))) (inb) :
    arg14.view.readAt (Elt F) (Rect.unit (k0_off1 k) ![1, 1, 512, 128] inb).toLoadRect f14 = mW (arg14.view.read (Elt F) f14) (sNow k) 0 :=
  View.readAt_unit _ _ _ (k0_off1_eq k) _
theorem rd14_1 (k : Fin k0_t1_loop.trips) (f14 : Buf (Elt F) (arg14.view.loc (c : Thread nD τ))) (inb) :
    arg14.view.readAt (Elt F) (Rect.unit (k0_off6 k) ![1, 1, 512, 128] inb).toLoadRect f14 = mW (arg14.view.read (Elt F) f14) (sNow k) 1 :=
  View.readAt_unit _ _ _ (k0_off6_eq k) _
theorem rd10 (f10 : Buf (Elt F) (arg10.view.loc (c : Thread nD τ))) (inb) :
    arg10.view.readAt (Elt F) (Rect.unit ![0, 0] ![1, 128] inb).toLoadRect f10 = arg10.view.read (Elt F) f10 :=
  View.readAt_full _ _ _

theorem trip_read13 (v27 : FVec F S1x1 .f32) (v218 : FVec F S512x128 .f32) (k : Fin k0_t1_loop.trips)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    arg13.view.read (Elt F) (trip c i arg2 harg2 arg3 harg3 arg4 harg4 arg5 harg5 arg6 harg6 arg7 harg7 arg8 harg8 arg9 harg9 arg10 harg10 arg11 harg11 arg12 harg12 arg13 harg13 arg14 harg14 v27 v218 k f2 f3 f5 f10 f11 f12 f13 f14).2.1 = put8 (arg13.view.read (Elt F) f13) (sNext k) (fun m t => boxL (keptL (arg2.view.read (Elt F) f2) (arg3.view.read (Elt F) f3) (arg5.view.read (Elt F) f5) (jNext k) m t)) := by
  unfold trip
  dsimp only
  rw [View.read_writes_cons_put _ _ _ _ _ (k0_off22_eq k)]
  rw [View.read_writes_cons_put _ _ _ _ _ (k0_off21_eq k)]
  rw [View.read_writes_cons_put _ _ _ _ _ (k0_off20_eq k)]
  rw [View.read_writes_cons_put _ _ _ _ _ (k0_off19_eq k)]
  rw [View.read_writes_cons_put _ _ _ _ _ (k0_off17_eq k)]
  rw [View.read_writes_cons_put _ _ _ _ _ (k0_off16_eq k)]
  rw [View.read_writes_cons_put _ _ _ _ _ (k0_off15_eq k)]
  rw [View.read_writes_cons_put _ _ _ _ _ (k0_off14_eq k)]
  rw [View.writes_nil]
  simp only [trip.sl.r_1, trip.sl.r_2, trip.sl.r_3, trip.sl.r_4, trip.sl.r_5, trip.sl.r_6, trip.sl.r_7, trip.sl.r_8, trip.sl.r_9, trip.sl.r_10, trip.sl.r_11, trip.sl.r_12, trip.sl.r_13, trip.sl.r_14, trip.sl.r_15, trip.sl.r_16, trip.sl.r_17, trip.sl.r_18, trip.sl.r_19, trip.sl.r_20, trip.sl.r_21, trip.sl.r_22, trip.sl.r_23, trip.sl.r_24, trip.sl.r_25, trip.sl.r_26, trip.sl.r_27, trip.sl.r_28, trip.sl.r_29, rd2, rd3_0, rd5_0, rd12_0, rd13_0_0, rd13_1_0, rd3_1, rd5_1, rd12_1, rd13_0_1, rd13_1_1, rd3_2, rd5_2, rd12_2, rd13_0_2, rd13_1_2, rd3_3, rd5_3, rd12_3, rd13_0_3, rd13_1_3, rd14_0, rd14_1, rd10]
  rfl

theorem trip_read14 (v27 : FVec F S1x1 .f32) (v218 : FVec F S512x128 .f32) (k : Fin k0_t1_loop.trips)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    arg14.view.read (Elt F) (trip c i arg2 harg2 arg3 harg3 arg4 harg4 arg5 harg5 arg6 harg6 arg7 harg7 arg8 harg8 arg9 harg9 arg10 harg10 arg11 harg11 arg12 harg12 arg13 harg13 arg14 harg14 v27 v218 k f2 f3 f5 f10 f11 f12 f13 f14).2.2.1 = put2 (arg14.view.read (Elt F) f14) (sNext k) (fun m => boxM (keptM (arg2.view.read (Elt F) f2) (arg3.view.read (Elt F) f3) (arg5.view.read (Elt F) f5) (jNext k) m)) := by
  unfold trip
  dsimp only
  rw [View.read_writes_cons_put _ _ _ _ _ (k0_off23_eq k)]
  rw [View.read_writes_cons_put _ _ _ _ _ (k0_off18_eq k)]
  rw [View.writes_nil]
  simp only [trip.sl.r_1, trip.sl.r_2, trip.sl.r_3, trip.sl.r_4, trip.sl.r_5, trip.sl.r_6, trip.sl.r_7, trip.sl.r_8, trip.sl.r_9, trip.sl.r_10, trip.sl.r_11, trip.sl.r_12, trip.sl.r_13, trip.sl.r_14, trip.sl.r_15, trip.sl.r_16, trip.sl.r_17, trip.sl.r_18, trip.sl.r_19, trip.sl.r_20, trip.sl.r_21, trip.sl.r_22, trip.sl.r_23, trip.sl.r_24, trip.sl.r_25, trip.sl.r_26, trip.sl.r_27, trip.sl.r_28, trip.sl.r_29, rd2, rd3_0, rd5_0, rd12_0, rd13_0_0, rd13_1_0, rd3_1, rd5_1, rd12_1, rd13_0_1, rd13_1_1, rd3_2, rd5_2, rd12_2, rd13_0_2, rd13_1_2, rd3_3, rd5_3, rd12_3, rd13_0_3, rd13_1_3, rd14_0, rd14_1, rd10]
  rfl

theorem trip_read11 (v27 : FVec F S1x1 .f32) (v218 : FVec F S512x128 .f32) (k : Fin k0_t1_loop.trips)
    (f2 : Buf (Elt F) (arg2.view.loc (c : Thread nD τ))) (f3 : Buf (Elt F) (arg3.view.loc (c : Thread nD τ)))
    (f5 : Buf (Elt F) (arg5.view.loc (c : Thread nD τ))) (f10 : Buf (Elt F) (arg10.view.loc (c : Thread nD τ)))
    (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ))) :
    arg11.view.read (Elt F) (trip c i arg2 harg2 arg3 harg3 arg4 harg4 arg5 harg5 arg6 harg6 arg7 harg7 arg8 harg8 arg9 harg9 arg10 harg10 arg11 harg11 arg12 harg12 arg13 harg13 arg14 harg14 v27 v218 k f2 f3 f5 f10 f11 f12 f13 f14).1 = putO (arg11.view.read (Elt F) f11) (jNow k) (outOf v27 (fun m => mW (arg14.view.read (Elt F) f14) (sNow k) m) (fun m t => lW (arg13.view.read (Elt F) f13) (sNow k) m t) (vW (arg12.view.read (Elt F) f12)) (arg10.view.read (Elt F) f10)) := by
  unfold trip
  dsimp only
  rw [View.read_writes_cons_put _ _ _ _ _ (off11_j k)]
  rw [View.writes_nil]
  simp only [trip.sl.r_1, trip.sl.r_2, trip.sl.r_3, trip.sl.r_4, trip.sl.r_5, trip.sl.r_6, trip.sl.r_7, trip.sl.r_8, trip.sl.r_9, trip.sl.r_10, trip.sl.r_11, trip.sl.r_12, trip.sl.r_13, trip.sl.r_14, trip.sl.r_15, trip.sl.r_16, trip.sl.r_17, trip.sl.r_18, trip.sl.r_19, trip.sl.r_20, trip.sl.r_21, trip.sl.r_22, trip.sl.r_23, trip.sl.r_24, trip.sl.r_25, trip.sl.r_26, trip.sl.r_27, trip.sl.r_28, trip.sl.r_29, rd2, rd3_0, rd5_0, rd12_0, rd13_0_0, rd13_1_0, rd3_1, rd5_1, rd12_1, rd13_0_1, rd13_1_1, rd3_2, rd5_2, rd12_2, rd13_0_2, rd13_1_2, rd3_3, rd5_3, rd12_3, rd13_0_3, rd13_1_3, rd14_0, rd14_1, rd10, trip.sl.r, pay2_eq, pay3_eq, pay6_eq, pay11_eq, pay12_eq, pay13_eq, pay17_eq, pay18_eq, pay19_eq]
  rfl

end Trip
end Cert.KernelIdeal.Diff
end
-- ==== Proof.Diff.BodyRead.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Body
public import proofs.«01_k».proof.Proof.Diff.Read

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section Trip

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

/-! # What the body leaves, read back

The three trips write query blocks 0, 1, 2 and keep block 3's logits; the text after the loop writes block 3.
So the result's window holds four blocks, each the same function of its block of queries. -/

/-- The four blocks of results, put. -/
def putAll (X : Vec F S1x2048x128 .bf16) (P : Fin 4 → Vec F S1x512x128 .bf16) : Vec F S1x2048x128 .bf16 :=
  putO (putO (putO (putO X 0 (P 0)) 1 (P 1)) 2 (P 2)) 3 (P 3)

/-- The values and the ones beside them. -/
def valOnes (X : Vec F S2048x256 .bf16) (V : Vec F S1x2048x128 .bf16) : Vec F S2048x256 .bf16 :=
  VecWindow.put (VecWindow.put X ![0, 0] ![2048, 128] (k0_pay47 V)) ![0, 128] ![2048, 128] (k0_pay48 (F := F))

/-- Results of block `j`, when the kept tiles are those of block `j`. -/
def outBlk (lam : FVec F S1x1 .f32) (Q K : Vec F S1x2048x128 .bf16) (B : Vec F S1x512x3584 .f32) (W : Fin 4 → Vec F S512x256 .bf16) (G : Vec F S1x128 .f32) (j : Fin 4) : FVec F S1x512x128 .bf16 :=
  outOf lam (fun m => boxM (keptM Q K B j m)) (fun m t => boxL (keptL Q K B j m t)) W G

/-! The printed sub-terms of the first pass before the loop and of the second after it. -/

theorem pay56_eq (Q : Vec F S1x512x128 .bf16) (B : Vec F S1x512x512 .f32) (K : Vec F S1x512x128 .bf16) :
    k0_pay56 (k0_pay50 Q) (Named.named κ "q_scale" 0x3E38AA3B#32 : F .f32) B K = boxL (logits (qHalf 0 Q) B K) := rfl
theorem pay92_eq (M : Vec F S1x1x512x128 .f32) (acc : FVec F S512x256 .f32) (L L' : Vec F S1x1x512x512 .f32) (W W' : Vec F S512x256 .bf16) :
    k0_pay92 (unboxM M) acc (k0_pay88 L) (k0_pay89 M L) (k0_pay90 M L) (k0_pay91 L) W L' W' = addf (addf acc (pvTile (unboxM M) (unboxL L) W)) (pvTile (unboxM M) (unboxL L') W') := rfl
theorem pay86_eq (M : Vec F S1x1x512x128 .f32) : k0_pay86 M = unboxM M := rfl
theorem pay95_eq (M : Vec F S1x1x512x128 .f32) : k0_pay95 M = unboxM M := rfl
theorem pay87_eq (M : Vec F S1x1x512x128 .f32) (L : Vec F S1x1x512x512 .f32) (W : Vec F S512x256 .bf16) :
    k0_pay87 M L W = addf (broadcast S512x256 (Scalar.ofBits .f32 0x00000000#32 : F .f32)) (pvTile (unboxM M) (unboxL L) W) := rfl
theorem pay96_eq (M : Vec F S1x1x512x128 .f32) (L : Vec F S1x1x512x512 .f32) (W : Vec F S512x256 .bf16) :
    k0_pay96 M L W = addf (broadcast S512x256 (Scalar.ofBits .f32 0x00000000#32 : F .f32)) (pvTile (unboxM M) (unboxL L) W) := rfl
theorem pay93_eq (M : FVec F S512x128 .f32) (L : Vec F S1x1x512x512 .f32) : k0_pay93 M L = weights M (unboxL L) := rfl
theorem pay94_eq (acc : FVec F S512x256 .f32) (w : FVec F S512x512 .bf16) (W : Vec F S512x256 .bf16) :
    k0_pay94 acc w W = divf (extractStridedSlice S512x128 ![0, 0] (addf acc (matmul dot_S512x512_S512x256_S512x256_1_0_0_1_n_n none w W (constant S512x256 .f32 0x00000000#32))) slices_S512x256_o0_0_S512x128)
        (extractStridedSlice S512x128 ![0, 128] (addf acc (matmul dot_S512x512_S512x256_S512x256_1_0_0_1_n_n none w W (constant S512x256 .f32 0x00000000#32))) slices_S512x256_o0_128_S512x128) := rfl
theorem pay102_eq (M : Vec F S1x1x512x128 .f32) (acc : FVec F S512x256 .f32) (L L' L'' : Vec F S1x1x512x512 .f32) (W W' W'' : Vec F S512x256 .bf16) :
    k0_pay102 (unboxM M) acc (k0_pay98 M L) (k0_pay99 M L) (k0_pay100 M L) (k0_pay101 M L) W L' W' L'' W''
      = addf (addf (addf acc (pvTile (unboxM M) (unboxL L) W)) (pvTile (unboxM M) (unboxL L') W')) (pvTile (unboxM M) (unboxL L'') W'') := rfl
theorem pay1_eq (lam : FVec F S1x1 .f32) (o : FVec F S512x128 .f32) (acc : FVec F S512x256 .f32) (G : Vec F S1x128 .f32) :
    k0_pay1 lam o acc G = shapeCast S1x512x128 (truncf .bf16 (normed (diffOf lam o
      (divf (extractStridedSlice S512x128 ![0, 0] acc slices_S512x256_o0_0_S512x128) (extractStridedSlice S512x128 ![0, 128] acc slices_S512x256_o0_128_S512x128))) G) bitsLt_bf16_f32) shapeCasts_S512x128_S1x512x128 := rfl

/-! The reads before the loop. -/

theorem pd2 (f2 : Buf (Elt F) (arg2.view.loc (c : Thread nD τ))) (inb) :
    arg2.view.readAt (Elt F) (Rect.unit ![0, 0, 0] ![1, 512, 128] inb).toLoadRect f2 = qW (arg2.view.read (Elt F) f2) 0 :=
  View.readAt_unit _ _ _ (by rfl) _
theorem pd4 (f4 : Buf (Elt F) (arg4.view.loc (c : Thread nD τ))) (inb) :
    arg4.view.readAt (Elt F) (Rect.unit ![0, 0, 0] ![1, 2048, 128] inb).toLoadRect f4 = arg4.view.read (Elt F) f4 :=
  View.readAt_full _ _ _
theorem pd6 (f6 : Buf (Elt F) (arg6.view.loc (c : Thread nD τ))) (inb) :
    arg6.view.readAt (Elt F) (Rect.unit ![0, 0] ![1, 64] inb).toLoadRect f6 = arg6.view.read (Elt F) f6 :=
  View.readAt_full _ _ _
theorem pd7 (f7 : Buf (Elt F) (arg7.view.loc (c : Thread nD τ))) (inb) :
    arg7.view.readAt (Elt F) (Rect.unit ![0, 0] ![1, 64] inb).toLoadRect f7 = arg7.view.read (Elt F) f7 :=
  View.readAt_full _ _ _
theorem pd8 (f8 : Buf (Elt F) (arg8.view.loc (c : Thread nD τ))) (inb) :
    arg8.view.readAt (Elt F) (Rect.unit ![0, 0] ![1, 64] inb).toLoadRect f8 = arg8.view.read (Elt F) f8 :=
  View.readAt_full _ _ _
theorem pd9 (f9 : Buf (Elt F) (arg9.view.loc (c : Thread nD τ))) (inb) :
    arg9.view.readAt (Elt F) (Rect.unit ![0, 0] ![1, 64] inb).toLoadRect f9 = arg9.view.read (Elt F) f9 :=
  View.readAt_full _ _ _
theorem pd5_0 (f5 : Buf (Elt F) (arg5.view.loc (c : Thread nD τ))) (inb) :
    arg5.view.readAt (Elt F) (Rect.unit ![0, 0, 1536] ![1, 512, 512] inb).toLoadRect f5 = bW (arg5.view.read (Elt F) f5) 0 0 :=
  View.readAt_unit _ _ _ (by rfl) _
theorem pd5_1 (f5 : Buf (Elt F) (arg5.view.loc (c : Thread nD τ))) (inb) :
    arg5.view.readAt (Elt F) (Rect.unit ![0, 0, 2048] ![1, 512, 512] inb).toLoadRect f5 = bW (arg5.view.read (Elt F) f5) 0 1 :=
  View.readAt_unit _ _ _ (by rfl) _
theorem pd5_2 (f5 : Buf (Elt F) (arg5.view.loc (c : Thread nD τ))) (inb) :
    arg5.view.readAt (Elt F) (Rect.unit ![0, 0, 2560] ![1, 512, 512] inb).toLoadRect f5 = bW (arg5.view.read (Elt F) f5) 0 2 :=
  View.readAt_unit _ _ _ (by rfl) _
theorem pd5_3 (f5 : Buf (Elt F) (arg5.view.loc (c : Thread nD τ))) (inb) :
    arg5.view.readAt (Elt F) (Rect.unit ![0, 0, 3072] ![1, 512, 512] inb).toLoadRect f5 = bW (arg5.view.read (Elt F) f5) 0 3 :=
  View.readAt_unit _ _ _ (by rfl) _
theorem pd14_0 (f14 : Buf (Elt F) (arg14.view.loc (c : Thread nD τ))) (inb) :
    arg14.view.readAt (Elt F) (Rect.unit ![1, 0, 0, 0] ![1, 1, 512, 128] inb).toLoadRect f14 = mW (arg14.view.read (Elt F) f14) 1 0 :=
  View.readAt_unit _ _ _ (by rfl) _
theorem pd13_0_0 (f13 : Buf (Elt F) (arg13.view.loc (c : Thread nD τ))) (inb) :
    arg13.view.readAt (Elt F) (Rect.unit ![1, 0, 0, 0] ![1, 1, 512, 512] inb).toLoadRect f13 = lW (arg13.view.read (Elt F) f13) 1 0 0 :=
  View.readAt_unit _ _ _ (by rfl) _
theorem pd13_0_1 (f13 : Buf (Elt F) (arg13.view.loc (c : Thread nD τ))) (inb) :
    arg13.view.readAt (Elt F) (Rect.unit ![1, 0, 0, 512] ![1, 1, 512, 512] inb).toLoadRect f13 = lW (arg13.view.read (Elt F) f13) 1 0 1 :=
  View.readAt_unit _ _ _ (by rfl) _
theorem pd13_0_2 (f13 : Buf (Elt F) (arg13.view.loc (c : Thread nD τ))) (inb) :
    arg13.view.readAt (Elt F) (Rect.unit ![1, 0, 0, 1024] ![1, 1, 512, 512] inb).toLoadRect f13 = lW (arg13.view.read (Elt F) f13) 1 0 2 :=
  View.readAt_unit _ _ _ (by rfl) _
theorem pd13_0_3 (f13 : Buf (Elt F) (arg13.view.loc (c : Thread nD τ))) (inb) :
    arg13.view.readAt (Elt F) (Rect.unit ![1, 0, 0, 1536] ![1, 1, 512, 512] inb).toLoadRect f13 = lW (arg13.view.read (Elt F) f13) 1 0 3 :=
  View.readAt_unit _ _ _ (by rfl) _
theorem pd14_1 (f14 : Buf (Elt F) (arg14.view.loc (c : Thread nD τ))) (inb) :
    arg14.view.readAt (Elt F) (Rect.unit ![1, 1, 0, 0] ![1, 1, 512, 128] inb).toLoadRect f14 = mW (arg14.view.read (Elt F) f14) 1 1 :=
  View.readAt_unit _ _ _ (by rfl) _
theorem pd13_1_0 (f13 : Buf (Elt F) (arg13.view.loc (c : Thread nD τ))) (inb) :
    arg13.view.readAt (Elt F) (Rect.unit ![1, 1, 0, 0] ![1, 1, 512, 512] inb).toLoadRect f13 = lW (arg13.view.read (Elt F) f13) 1 1 0 :=
  View.readAt_unit _ _ _ (by rfl) _
theorem pd13_1_1 (f13 : Buf (Elt F) (arg13.view.loc (c : Thread nD τ))) (inb) :
    arg13.view.readAt (Elt F) (Rect.unit ![1, 1, 0, 512] ![1, 1, 512, 512] inb).toLoadRect f13 = lW (arg13.view.read (Elt F) f13) 1 1 1 :=
  View.readAt_unit _ _ _ (by rfl) _
theorem pd13_1_2 (f13 : Buf (Elt F) (arg13.view.loc (c : Thread nD τ))) (inb) :
    arg13.view.readAt (Elt F) (Rect.unit ![1, 1, 0, 1024] ![1, 1, 512, 512] inb).toLoadRect f13 = lW (arg13.view.read (Elt F) f13) 1 1 2 :=
  View.readAt_unit _ _ _ (by rfl) _
theorem pd13_1_3 (f13 : Buf (Elt F) (arg13.view.loc (c : Thread nD τ))) (inb) :
    arg13.view.readAt (Elt F) (Rect.unit ![1, 1, 0, 1536] ![1, 1, 512, 512] inb).toLoadRect f13 = lW (arg13.view.read (Elt F) f13) 1 1 3 :=
  View.readAt_unit _ _ _ (by rfl) _

theorem rd12_val (f4 : Buf (Elt F) (arg4.view.loc (c : Thread nD τ))) (f12 : Buf (Elt F) (arg12.view.loc (c : Thread nD τ))) :
    arg12.view.read (Elt F) (arg12.view.writes (Elt F) f12 (body.sl.H12_2 c arg4 f4)) = valOnes (arg12.view.read (Elt F) f12) (arg4.view.read (Elt F) f4) := by
  unfold body.sl.H12_2
  rw [View.read_writes_cons_put _ _ _ _ _ (by rfl : _ = ![0, 128])]
  rw [View.read_writes_cons_put _ _ _ _ _ (by rfl : _ = ![0, 0])]
  rw [View.writes_nil]
  simp only [pd4]
  rfl

/-- After `k` trips slot `k % 2` holds query block `k`'s tiles and maxima. -/
theorem st_kept (v27 : FVec F S1x1 .f32) (v218 : FVec F S512x128 .f32) (f2 : Buf (Elt F) (arg2.view.loc (c : Thread nD τ))) (f3 : Buf (Elt F) (arg3.view.loc (c : Thread nD τ))) (f5 : Buf (Elt F) (arg5.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))
    (h13 : ∀ m t, lW (arg13.view.read (Elt F) f13) 0 m t = boxL (keptL (arg2.view.read (Elt F) f2) (arg3.view.read (Elt F) f3) (arg5.view.read (Elt F) f5) 0 m t))
    (h14 : ∀ m, mW (arg14.view.read (Elt F) f14) 0 m = boxM (keptM (arg2.view.read (Elt F) f2) (arg3.view.read (Elt F) f3) (arg5.view.read (Elt F) f5) 0 m)) :
    ∀ (k : ℕ) (hk : k < 4),
    (∀ m t, lW (arg13.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).2.1) ⟨k % 2, by omega⟩ m t = boxL (keptL (arg2.view.read (Elt F) f2) (arg3.view.read (Elt F) f3) (arg5.view.read (Elt F) f5) ⟨k, hk⟩ m t)) ∧
    (∀ m, mW (arg14.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).2.2) ⟨k % 2, by omega⟩ m = boxM (keptM (arg2.view.read (Elt F) f2) (arg3.view.read (Elt F) f3) (arg5.view.read (Elt F) f5) ⟨k, hk⟩ m))
  | 0, _ => ⟨h13, h14⟩
  | k + 1, hk => by
    have hlt : k < k0_t1_loop.trips := by rw [trips_eq]; omega
    have e := st_succ c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 ⟨k, hlt⟩
    constructor
    · intro m t
      rw [e]; dsimp only
      rw [trip_read13]
      exact lW_put8 _ _ _ _ _
    · intro m
      rw [e]; dsimp only
      rw [trip_read14]
      exact mW_put2 _ _ _ _

theorem st_out (v27 : FVec F S1x1 .f32) (v218 : FVec F S512x128 .f32) (f2 : Buf (Elt F) (arg2.view.loc (c : Thread nD τ))) (f3 : Buf (Elt F) (arg3.view.loc (c : Thread nD τ))) (f5 : Buf (Elt F) (arg5.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))
    (h13 : ∀ m t, lW (arg13.view.read (Elt F) f13) 0 m t = boxL (keptL (arg2.view.read (Elt F) f2) (arg3.view.read (Elt F) f3) (arg5.view.read (Elt F) f5) 0 m t))
    (h14 : ∀ m, mW (arg14.view.read (Elt F) f14) 0 m = boxM (keptM (arg2.view.read (Elt F) f2) (arg3.view.read (Elt F) f3) (arg5.view.read (Elt F) f5) 0 m))
    (k : ℕ) (hk : k < 3) :
    arg11.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 (k + 1)).1
      = putO (arg11.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k).1) ⟨k, by omega⟩
          (outBlk v27 (arg2.view.read (Elt F) f2) (arg3.view.read (Elt F) f3) (arg5.view.read (Elt F) f5) (vW (arg12.view.read (Elt F) f12)) (arg10.view.read (Elt F) f10) ⟨k, by omega⟩) := by
  have hlt : k < k0_t1_loop.trips := by rw [trips_eq]; omega
  have e := st_succ c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 ⟨k, hlt⟩
  obtain ⟨a, b⟩ := st_kept c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 h13 h14 k (by omega)
  rw [e]; dsimp only
  rw [trip_read11]
  refine congrArg (putO _ _) ?_
  unfold outBlk
  exact congrArg₂ (fun M L => outOf v27 M L _ _) (funext fun m => b m) (funext fun m => funext fun t => a m t)

/-- The block after the loop, beside the three of the loop. -/
theorem last_out (v27 : FVec F S1x1 .f32) (v218 : FVec F S512x128 .f32) (f2 : Buf (Elt F) (arg2.view.loc (c : Thread nD τ))) (f3 : Buf (Elt F) (arg3.view.loc (c : Thread nD τ))) (f5 : Buf (Elt F) (arg5.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))
    (h13 : ∀ m t, lW (arg13.view.read (Elt F) f13) 0 m t = boxL (keptL (arg2.view.read (Elt F) f2) (arg3.view.read (Elt F) f3) (arg5.view.read (Elt F) f5) 0 m t))
    (h14 : ∀ m, mW (arg14.view.read (Elt F) f14) 0 m = boxM (keptM (arg2.view.read (Elt F) f2) (arg3.view.read (Elt F) f3) (arg5.view.read (Elt F) f5) 0 m)) :
    putO (arg11.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k0_t1_loop.trips).1) 3
      (outOf v27 (fun m => mW (arg14.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k0_t1_loop.trips).2.2) 1 m) (fun m t => lW (arg13.view.read (Elt F) (st c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 k0_t1_loop.trips).2.1) 1 m t) (vW (arg12.view.read (Elt F) f12)) (arg10.view.read (Elt F) f10))
      = putAll (arg11.view.read (Elt F) f11) (outBlk v27 (arg2.view.read (Elt F) f2) (arg3.view.read (Elt F) f3) (arg5.view.read (Elt F) f5) (vW (arg12.view.read (Elt F) f12)) (arg10.view.read (Elt F) f10)) := by
  rw [trips_eq]
  obtain ⟨a, b⟩ := st_kept c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 h13 h14 3 (by omega)
  rw [st_out c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 h13 h14 2 (by omega)]
  rw [st_out c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 h13 h14 1 (by omega)]
  rw [st_out c i arg2 harg2 arg3 harg3 arg4 harg4 arg5 harg5 arg6 harg6 arg7 harg7 arg8 harg8 arg9 harg9 arg10 harg10 arg11 harg11 arg12 harg12 arg13 harg13 arg14 harg14 v27 v218 f2 f3 f5 f10 f11 f12 f13 f14 h13 h14 0 (by omega)]
  unfold putAll
  refine congrArg (putO _ _) ?_
  unfold outBlk
  exact congrArg₂ (fun M L => outOf v27 M L _ _) (funext fun m => b m) (funext fun m => funext fun t => a m t)

set_option maxHeartbeats 1000000 in
/-- The result's window after the body. -/
theorem body_read (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) :
    arg11.view.read (Elt F) (body c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).1
      = putAll (arg11.view.read (Elt F) f11) (outBlk (k0_pay49 (arg6.view.read (Elt F) f6) (arg7.view.read (Elt F) f7) (arg8.view.read (Elt F) f8) (arg9.view.read (Elt F) f9))
          (arg2.view.read (Elt F) f2) (arg3.view.read (Elt F) f3) (arg5.view.read (Elt F) f5)
          (vW (valOnes (arg12.view.read (Elt F) arg12.view.junk) (arg4.view.read (Elt F) f4))) (arg10.view.read (Elt F) f10)) := by
  unfold body
  dsimp only
  rw [View.read_writes_cons_put _ _ _ _ _ (by rfl : _ = ![0, 512 * (3 : Fin 4).val, 0]), View.writes_nil]
  simp only [body.sl.r, body.sl.r_1, body.sl.r_2, body.sl.r_3, body.sl.r_4, body.sl.r_5, body.sl.r_6, body.sl.r_7, body.sl.r_8, body.sl.r_9, body.sl.r_10, body.sl.r_11, body.sl.r_12, body.sl.r_13, body.sl.r_14, body.sl.r_15, body.sl.r_16, body.sl.r_17, body.sl.r_18, body.sl.r_19, body.sl.r_20, body.sl.r_21, body.sl.r_22, body.sl.r_23, body.sl.r_24, body.sl.r_25, body.sl.r_26, body.sl.r_27, body.sl.r_28, body.sl.r_29, body.sl.r_30, body.sl.v223, body.sl.v226, body.sl.v242, body.sl.v245, body.sl.v261, body.sl.v264, body.sl.v280, body.sl.v283, body.sl.v299, body.sl.v305, body.sl.v308, body.sl.v327, body.sl.v346, body.sl.v365, body.sl.cst_18, body.sl.H12_2, pd2, pd4, pd6, pd7, pd8, pd9, pd5_0, pd5_1, pd5_2, pd5_3, pd14_0, pd13_0_0, pd13_0_1, pd13_0_2, pd13_0_3, pd14_1, pd13_1_0, pd13_1_1, pd13_1_2, pd13_1_3, rd3_0, rd3_1, rd3_2, rd3_3, rd12_0, rd12_1, rd12_2, rd12_3, rd10]
  simp only [pay86_eq, pay87_eq, pay92_eq, pay93_eq, pay94_eq, pay95_eq, pay96_eq, pay102_eq, pay1_eq]
  refine (last_out c i arg2 harg2 arg3 harg3 arg4 harg4 arg5 harg5 arg6 harg6 arg7 harg7 arg8 harg8 arg9 harg9 arg10 harg10 arg11 harg11 arg12 harg12 arg13 harg13 arg14 harg14 _ _ f2 f3 f5 f10 f11 _ _ _ ?h13 ?h14).trans ?e
  case h13 =>
    intro m t
    rw [View.read_writes_cons_put _ _ _ _ _ (by rfl : _ = ![(0 : Fin 2).val, (1 : Fin 2).val, 0, 512 * (3 : Fin 4).val])]
    rw [View.read_writes_cons_put _ _ _ _ _ (by rfl : _ = ![(0 : Fin 2).val, (1 : Fin 2).val, 0, 512 * (2 : Fin 4).val])]
    rw [View.read_writes_cons_put _ _ _ _ _ (by rfl : _ = ![(0 : Fin 2).val, (1 : Fin 2).val, 0, 512 * (1 : Fin 4).val])]
    rw [View.read_writes_cons_put _ _ _ _ _ (by rfl : _ = ![(0 : Fin 2).val, (1 : Fin 2).val, 0, 512 * (0 : Fin 4).val])]
    rw [View.read_writes_cons_put _ _ _ _ _ (by rfl : _ = ![(0 : Fin 2).val, (0 : Fin 2).val, 0, 512 * (3 : Fin 4).val])]
    rw [View.read_writes_cons_put _ _ _ _ _ (by rfl : _ = ![(0 : Fin 2).val, (0 : Fin 2).val, 0, 512 * (2 : Fin 4).val])]
    rw [View.read_writes_cons_put _ _ _ _ _ (by rfl : _ = ![(0 : Fin 2).val, (0 : Fin 2).val, 0, 512 * (1 : Fin 4).val])]
    rw [View.read_writes_cons_put _ _ _ _ _ (by rfl : _ = ![(0 : Fin 2).val, (0 : Fin 2).val, 0, 512 * (0 : Fin 4).val])]
    rw [View.writes_nil]
    exact lW_put8 _ 0 (fun m t => boxL (keptL (arg2.view.read (Elt F) f2) (arg3.view.read (Elt F) f3) (arg5.view.read (Elt F) f5) 0 m t)) m t
  case h14 =>
    intro m
    rw [View.read_writes_cons_put _ _ _ _ _ (by rfl : _ = ![(0 : Fin 2).val, (1 : Fin 2).val, 0, 0])]
    rw [View.read_writes_cons_put _ _ _ _ _ (by rfl : _ = ![(0 : Fin 2).val, (0 : Fin 2).val, 0, 0])]
    rw [View.writes_nil]
    exact mW_put2 _ 0 (fun m => boxM (keptM (arg2.view.read (Elt F) f2) (arg3.view.read (Elt F) f3) (arg5.view.read (Elt F) f5) 0 m)) m
  case e =>
    have e := rd12_val c arg4 arg12 f4 arg12.view.junk
    simp only [body.sl.H12_2, pd4] at e
    rw [e]

end Trip
end Cert.KernelIdeal.Diff
end
-- ==== Proof.Diff.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.BodyRead
public import Idealize.ShloMosaic.Lib.Pipeline.FrameBody
public import Idealize.ShloMosaic.Lib.Claim

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run of the whole launch -/

/-- Every row of the results' window lies in one of the four blocks. -/
theorem row_block (y : S1x2048x128.Idx) : ∃ (j : Fin 4) (z : S1x512x128.Idx), ∀ X : Vec F S1x2048x128 .bf16, X y = qW X j z := by
  have h0 : (y 0).val < 1 := (y 0).isLt
  have h1 : (y 1).val < 2048 := (y 1).isLt
  have h2 : (y 2).val < 128 := (y 2).isLt
  refine ⟨⟨(y 1).val / 512, by omega⟩, fun a => match a with | ⟨0, _⟩ => ⟨0, Nat.one_pos⟩ | ⟨1, _⟩ => ⟨(y 1).val % 512, Nat.mod_lt _ (by decide)⟩ | ⟨2, _⟩ => ⟨(y 2).val, h2⟩, fun X => ?_⟩
  unfold qW VecWindow.window
  refine congrArg X (funext fun a => Fin.ext ?_)
  match a with
  | ⟨0, _⟩ => show (y 0).val = 0 + 1 * 0; omega
  | ⟨1, _⟩ => show (y 1).val = 512 * ((y 1).val / 512) + 1 * ((y 1).val % 512); omega
  | ⟨2, _⟩ => show (y 2).val = 0 + 1 * (y 2).val; omega

theorem qW_putAll (X : Vec F S1x2048x128 .bf16) (P : Fin 4 → Vec F S1x512x128 .bf16) (j : Fin 4) : qW (putAll X P) j = P j := by
  unfold putAll
  fin_cases j <;>
  repeat (first
    | exact qW_putO_same _ _ _
    | refine (qW_putO_ne _ _ _ (by decide) _).trans ?_)

/-- The four blocks are all of the window: what was there before does not matter. -/
theorem putAll_base (X X' : Vec F S1x2048x128 .bf16) (P : Fin 4 → Vec F S1x512x128 .bf16) : putAll X P = putAll X' P := by
  funext y
  obtain ⟨j, z, h⟩ := row_block (F := F) y
  rw [h (putAll X P), h (putAll X' P), qW_putAll, qW_putAll]

/-- Every column lies among the values or the ones. -/
theorem valOnes_base (X X' : Vec F S2048x256 .bf16) (V : Vec F S1x2048x128 .bf16) : valOnes X V = valOnes X' V := by
  funext y
  have h0 : (y 0).val < 2048 := (y 0).isLt
  have h1 : (y 1).val < 256 := (y 1).isLt
  unfold valOnes VecWindow.put
  by_cases ha : ∀ a, ![0, 128] a ≤ (y a).val ∧ (y a).val < ![0, 128] a + ![2048, 128] a
  · rw [dif_pos ha, dif_pos ha]
  · rw [dif_neg ha, dif_neg ha]
    have hb : ∀ a, ![0, 0] a ≤ (y a).val ∧ (y a).val < ![0, 0] a + ![2048, 128] a := by
      have hlt : (y 1).val < 128 := by
        by_contra hc
        refine ha fun a => ?_
        match a with
        | ⟨0, _⟩ => exact ⟨Nat.zero_le _, by show (y 0).val < 0 + 2048; omega⟩
        | ⟨1, _⟩ => exact ⟨by show 128 ≤ (y 1).val; omega, by show (y 1).val < 128 + 128; omega⟩
      intro a
      match a with
      | ⟨0, _⟩ => exact ⟨Nat.zero_le _, by show (y 0).val < 0 + 2048; omega⟩
      | ⟨1, _⟩ => exact ⟨Nat.zero_le _, by show (y 1).val < 0 + 128; omega⟩
    rw [dif_pos hb, dif_pos hb]

/-- What one call of the body leaves in the result's window, from the blocks it reads. -/
def bodyOut (x2 : Vec F S1x2048x128 .bf16) (x3 : Vec F S1x2048x128 .bf16) (x4 : Vec F S1x2048x128 .bf16) (x5 : Vec F S1x512x3584 .f32) (x6 : Vec F S1x64 .f32) (x7 : Vec F S1x64 .f32) (x8 : Vec F S1x64 .f32) (x9 : Vec F S1x64 .f32) (x10 : Vec F S1x128 .f32) : Vec F S1x2048x128 .bf16 :=
  putAll x2 (outBlk (k0_pay49 x6 x7 x8 x9) x2 x3 x5 (vW (valOnes (fun _ => Scalar.ofBits .bf16 0x0000#16) x4)) x10)

section Run

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x512x3584 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128 .f32) (harg10 : arg10.IsWhole) (arg11 : Memref sig .tc .vmem S1x2048x128 .bf16) (harg11 : arg11.IsWhole) (arg12 : Memref sig .tc .vmem S2048x256 .bf16) (harg12 : arg12.IsWhole) (arg13 : Memref sig .tc .vmem S2x2x512x2048 .f32) (harg13 : arg13.IsWhole) (arg14 : Memref sig .tc .vmem S2x2x512x128 .f32) (harg14 : arg14.IsWhole)

set_option maxHeartbeats 1000000 in
/-- The body's triple: the inputs' memrefs at their blocks, the result's at `bodyOut` afterwards, the scratch arrays at some contents. -/
theorem kernel_run (x2 : Vec F S1x2048x128 .bf16) (x3 : Vec F S1x2048x128 .bf16) (x4 : Vec F S1x2048x128 .bf16) (x5 : Vec F S1x512x3584 .f32) (x6 : Vec F S1x64 .f32) (x7 : Vec F S1x64 .f32) (x8 : Vec F S1x64 .f32) (x9 : Vec F S1x64 .f32) (x10 : Vec F S1x128 .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
      ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) : sProp 𝕄)
      ⊢ wp frame (wpE (defs₀ (F := F)) Variants.none c none) Set.univ (cc0_diff_attn i arg2 harg2 arg3 harg3 arg4 harg4 arg5 harg5 arg6 harg6 arg7 harg7 arg8 harg8 arg9 harg9 arg10 harg10 arg11 harg11 arg12 harg12 arg13 harg13 arg14 harg14) (fun _ =>
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
          ∗ owns (c : Thread nD τ) arg11 fullShare (bodyOut x2 x3 x4 x5 x6 x7 x8 x9 x10) ∗ (∃ d, owns (c : Thread nD τ) arg12 fullShare d) ∗ (∃ d, owns (c : Thread nD τ) arg13 fullShare d) ∗ (∃ d, owns (c : Thread nD τ) arg14 fullShare d))) := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%d14, %f14, %hf14, H14⟩⟩
  have hr := body_read c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
  rw [hf2, hf3, hf4, hf5, hf6, hf7, hf8, hf9, hf10, putAll_base _ x2, valOnes_base _ (fun _ => Scalar.ofBits .bf16 0x0000#16)] at hr
  iapply ((body c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14).2.trans (wp_mono _ _ _ (fun _ => ?post)))
  case post =>
    iintro ⟨H2, H3, H4, H5, H6, H7, H8, H9, H10, H11, ⟨%g12, H12⟩, ⟨%g13, H13⟩, ⟨%g14, H14⟩⟩
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact hf10
      iexact H10
    isplitl [H11]
    · iexists _; isplitr
      · ipureintro; exact hr
      iexact H11
    isplitl [H12]
    · iexists _; iexists g12; isplitr
      · ipureintro; rfl
      iexact H12
    isplitl [H13]
    · iexists _; iexists g13; isplitr
      · ipureintro; rfl
      iexact H13
    iexists _; iexists g14; isplitr
    · ipureintro; rfl
    iexact H14
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Run

end Cert.KernelIdeal.Diff
end
-- ==== Proof.Diff.Launch.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Diff.Run
public import Idealize.ShloMosaic.Lib.Pipeline.FrameBody
public import Idealize.ShloMosaic.Lib.Claim

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The attention's output block at grid point `t`, from the blocks the pipeline stages there. -/
def ptOut (c : Dev nD) (t : Fin cfg0.N) : Vec F S1x2048x128 .bf16 :=
  bodyOut (iblk m c 0 t) (iblk m c 1 t) (iblk m c 2 t) (iblk m c 3 t) (iblk m c 4 t) (iblk m c 5 t) (iblk m c 6 t) (iblk m c 7 t) (iblk m c 8 t)

/-- The region's scratch arrays, each owned whole at some contents, and the generator's register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- The pipeline's data on core `c`: each input's buffer keeps its block, the output's holds `ptOut`; the three
windows of the joint projection share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => ptOut m c t
  Φ _ := Pipeline.ΦA spec0 c
  q w := Pipeline.shareOf spec0 w
  owed _ := 0

theorem array_eq (c : Dev nD) (w : Fin cfg0.W) : (dats m 0 c).A w = V m c (Pipeline.arrRef spec0 w) := by
  dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem left_5 (c : Dev nD) (t : Fin cfg0.N) : (dats m 0 c).after 5 t = iblk m c 5 t := by dsimp only [dats]
theorem left_6 (c : Dev nD) (t : Fin cfg0.N) : (dats m 0 c).after 6 t = iblk m c 6 t := by dsimp only [dats]
theorem left_7 (c : Dev nD) (t : Fin cfg0.N) : (dats m 0 c).after 7 t = iblk m c 7 t := by dsimp only [dats]
theorem left_8 (c : Dev nD) (t : Fin cfg0.N) : (dats m 0 c).after 8 t = iblk m c 8 t := by dsimp only [dats]
theorem left_9 (c : Dev nD) (t : Fin cfg0.N) : (dats m 0 c).after 9 t = ptOut m c t := by dsimp only [dats]

theorem found_0 (c : Dev nD) (t : Fin cfg0.N) (d) : (dats m 0 c).before 0 t d = iblk m c 0 t :=
  before0_0_of m (dats m 0 c) (array_eq m c 0) (left_0 m c) t d
theorem found_1 (c : Dev nD) (t : Fin cfg0.N) (d) : (dats m 0 c).before 1 t d = iblk m c 1 t :=
  before0_1_of m (dats m 0 c) (array_eq m c 1) (left_1 m c) t d
theorem found_2 (c : Dev nD) (t : Fin cfg0.N) (d) : (dats m 0 c).before 2 t d = iblk m c 2 t :=
  before0_2_of m (dats m 0 c) (array_eq m c 2) (left_2 m c) t d
theorem found_3 (c : Dev nD) (t : Fin cfg0.N) (d) : (dats m 0 c).before 3 t d = iblk m c 3 t :=
  before0_3_of m (dats m 0 c) (array_eq m c 3) (left_3 m c) t d
theorem found_4 (c : Dev nD) (t : Fin cfg0.N) (d) : (dats m 0 c).before 4 t d = iblk m c 4 t :=
  before0_4_of m (dats m 0 c) (array_eq m c 4) (left_4 m c) t d
theorem found_5 (c : Dev nD) (t : Fin cfg0.N) (d) : (dats m 0 c).before 5 t d = iblk m c 5 t :=
  before0_5_of m (dats m 0 c) (array_eq m c 5) (left_5 m c) t d
theorem found_6 (c : Dev nD) (t : Fin cfg0.N) (d) : (dats m 0 c).before 6 t d = iblk m c 6 t :=
  before0_6_of m (dats m 0 c) (array_eq m c 6) (left_6 m c) t d
theorem found_7 (c : Dev nD) (t : Fin cfg0.N) (d) : (dats m 0 c).before 7 t d = iblk m c 7 t :=
  before0_7_of m (dats m 0 c) (array_eq m c 7) (left_7 m c) t d
theorem found_8 (c : Dev nD) (t : Fin cfg0.N) (d) : (dats m 0 c).before 8 t d = iblk m c 8 t :=
  before0_8_of m (dats m 0 c) (array_eq m c 8) (left_8 m c) t d

/-- What the pipeline hands the body at point `t`. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body hands back at point `t`. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point. -/
theorem point_wp (c : Dev nD) (t : Fin cfg0.N) :
    given m c t ⊢ wp frame (wpE (defs₀ (F := F)) Variants.none c none) Set.univ (bodyAt0 t) (fun _ => returned m c t) := by
  unfold given returned bodyAt0
  simp only [found_0, found_1, found_2, found_3, found_4, found_5, found_6, found_7, found_8]
  rw [show (dats m 0 c).Φ t.succ = (dats m 0 c).Φ t.castSucc from rfl,
    show (dats m 0 c).owesAt () t.succ = (dats m 0 c).owesAt () t.castSucc from rfl,
    left_0, left_1, left_2, left_3, left_4, left_5, left_6, left_7, left_8, left_9]
  rw [show (dats m 0 c).Φ t.castSucc = Pipeline.ΦA spec0 c from rfl, scratch_eq]
  unfold ptOut
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none (c : Thread nD τ) none) Set.univ)
  isplitr [Hg Ho]
  · iapply (kernel_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    iexact S2
  iintro %_ ⟨H0, H1, H2, H3, H4, H5, H6, H7, H8, H9, S0, S1, S2⟩
  isplitl [S0 S1 S2 Hg]
  · isplitr [Hg]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body the pipeline calls at point `t` is the kernel's on that point's buffers. -/
theorem row_eq (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, row_eq]
  exact triple_restated (point_wp m c t) rfl .rfl fun _ => .rfl

set_option backward.isDefEq.respectTransparency.types false in
set_option maxHeartbeats 800000 in
/-- The run: every array of the pipeline ends as the library computes it from `dats`, every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := array_eq m) (hΦ := fun _ _ => rfl)

/-- The frame, for any reading of the floats: the argument arrays end unchanged and the counters at zero. -/
theorem frame_any : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (array_eq m) ((θ_run defs _ _).mono (fun _ h => h.1) (run m ρ)))
    ((θ_run defs _ _).mono (fun _ h => h.2) (run m ρ))

end Cert.KernelIdeal.Diff
end
-- ==== Proof.Diff.Words.lean ====
module

public import proofs.«01_k».proof.Defs
public import proofs.«01_k».proof.Proof.Gen.Kernel
public import proofs.«01_k».proof.Proof.Gen.KernelIdeal
public import proofs.«01_k».proof.Proof.Diff.Launch

@[expose] public section

set_option maxRecDepth 16384

noncomputable section

namespace Cert.Proof

open Idealize.ShloMosaic Idealize.SL.Sem

/-- Over the machine's words a named constant is the word it stands for. -/
local instance wordNamed : Named Bits where
  named := fun _ _ {φ} b => Scalar.ofBits φ b

/-- The two programs' kernel functions are one function over the words. -/
theorem body_words : Cert.KernelIdeal.cc0_diff_attn (F := Bits) = Cert.Kernel.cc0_diff_attn (F := Bits) := rfl

/-- So are their tables of kernel functions, -/
theorem rows_words : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so the whole tables. -/
theorem defs_words : Cert.KernelIdeal.defs (F := Bits) = Cert.Kernel.defs (F := Bits) :=
  congrArg (Idealize.ShloMosaic.Pipeline.defs Cert.Kernel.pcfgs) rows_words

set_option maxHeartbeats 4000000 in
theorem main_words : Cert.KernelIdeal.main (F := Bits) = Cert.Kernel.main (F := Bits) := by
  exact rfl

/-- The kernel's frame: its text is `KernelIdeal`'s with the names read as their words, so the one run serves. -/
theorem frame_kernel : Cert.quiescent_Kernel := fun m ρ _ => by
  have h := Cert.KernelIdeal.Diff.frame_any (F := Bits) m ρ
  rw [defs_words, main_words] at h
  exact h

end Cert.Proof
end
-- ==== Proof.Diff.Host.lean ====
module

public import proofs.«01_k».proof.Proof.Diff.Launch
public import Idealize.ShloMosaic.Lib.Pointwise

/-! # What the region's arrays hold on entry -/

@[expose] public section

set_option maxRecDepth 16384

noncomputable section

namespace Cert.KernelIdeal.Diff

open Idealize.ShloMosaic Idealize.ShloMosaic.TcCoe
open Idealize.SL Idealize.SL.Sem
open Cert.KernelIdeal Cert.KernelIdeal.Gen

variable {F : FTy → Type} [FloatOps F] [Named F]

/-- The relative position at a strip's row and column. -/
def relS : IVec S512x3584 32 :=
  subi (subi (iotaInDim S512x3584 32 1) (broadcastInDim S512x3584 ![] bcast_S_S512x3584 (constantI S_ 32 1536#32))) (iotaInDim S512x3584 32 0)

/-- The bucket of each relative position. -/
def bucketS (F : FTy → Type) [FloatOps F] (z : IVec S512x3584 32) : IVec S512x3584 32 :=
  addi (id (select (cmpi .sgt z (broadcastInDim S512x3584 ![] bcast_S_S512x3584 (constantI S_ 32 0#32))) (broadcastInDim S512x3584 ![] bcast_S_S512x3584 (constantI S_ 32 16#32)) (broadcastInDim S512x3584 ![] bcast_S_S512x3584 (constantI S_ 32 0#32))))
    (select (cmpi .slt (absi z) (broadcastInDim S512x3584 ![] bcast_S_S512x3584 (constantI S_ 32 8#32))) (absi z)
      (minsi (addi (broadcastInDim S512x3584 ![] bcast_S_S512x3584 (constantI S_ 32 8#32))
        (fptosi 32 (mulf (Host.divf (Host.log (Host.divf (sitofp .f32 (maxsi (absi z) (broadcastInDim S512x3584 ![] bcast_S_S512x3584 (constantI S_ 32 1#32)))) (broadcastInDim S512x3584 ![] bcast_S_S512x3584 (constant S_ .f32 0x41000000#32)))) (broadcastInDim S512x3584 ![] bcast_S_S512x3584 (constant S_ .f32 0x409B43D5#32))) (broadcastInDim S512x3584 ![] bcast_S_S512x3584 (constant S_ .f32 0x41000000#32)) : FVec F S512x3584 .f32)))
        (broadcastInDim S512x3584 ![] bcast_S_S512x3584 (constantI S_ 32 15#32))))

/-- The row of the table that a bucket looks up. -/
def rowS (y : IVec S512x3584 32) : IVec S512x3584x1 32 :=
  broadcastInDim S512x3584x1 ![0, 1] bcast_S512x3584_S512x3584x1_0_1
    (select (cmpi .slt y (broadcastInDim S512x3584 ![] bcast_S_S512x3584 (constantI S_ 32 0#32))) (addi y (broadcastInDim S512x3584 ![] bcast_S_S512x3584 (constantI S_ 32 32#32))) y)

variable (m : (ℓ : Loc nD τ sig) → Buf (Elt F) ℓ)

set_option maxHeartbeats 4000000 in
/-- The strips of biases. -/
theorem V_strip (c : Dev nD) : V m c main_v40 = transpose S4x512x3584 [2, 0, 1]
    (Host.gather gather_S32x4_S512x3584x1_S512x3584x4_2_0_n_n_0_2_14 (extractStridedSlice S32x4 ![0, 6] (m ((c : Thread nD τ).loc main_arg8) : Vec F S32x10 .f32) slices_S32x10_S32x4_0_6) (rowS (bucketS F relS)))
    transposes_S512x3584x4_S4x512x3584_2_0_1 := by
  simp only [V, hostOps0, hostOps0_1, hostOps0_2, hostOps0_3, hostOps0_4, List.flatten_cons, List.flatten_nil, List.append_nil, List.cons_append, List.nil_append]
  run_tidy
  rfl

/-- The joint projection. -/
theorem V_joint (c : Dev nD) : V m c main_v41 = shapeCast S8x2048x1536 (shapeCast S16384x1536 (truncf .bf16
    (concatenate S8x2048x1536 2 [⟨S8x2048x512, (m ((c : Thread nD τ).loc main_arg0) : Vec F S8x2048x512 .f32)⟩, ⟨S8x2048x512, (m ((c : Thread nD τ).loc main_arg1) : Vec F S8x2048x512 .f32)⟩, ⟨S8x2048x512, (m ((c : Thread nD τ).loc main_arg2) : Vec F S8x2048x512 .f32)⟩] concatenates_S8x2048x512_S8x2048x512_S8x2048x512_S8x2048x1536_d2)
    bitsLt_bf16_f32) shapeCasts_S8x2048x1536_S16384x1536) shapeCasts_S16384x1536_S8x2048x1536 := by
  simp only [V, hostOps0, hostOps0_1, hostOps0_2, hostOps0_3, hostOps0_4, List.flatten_cons, List.flatten_nil, List.append_nil, List.cons_append, List.nil_append]
  run_tidy
  rfl

theorem V_v42 (c : Dev nD) : V m c main_v42 = shapeCast S1x64 (m ((c : Thread nD τ).loc main_arg3) : Vec F S64 .f32) shapeCasts_S64_S1x64 := by
  simp only [V, hostOps0, hostOps0_1, hostOps0_2, hostOps0_3, hostOps0_4, List.flatten_cons, List.flatten_nil, List.append_nil, List.cons_append, List.nil_append]
  run_tidy
  rfl
theorem V_v43 (c : Dev nD) : V m c main_v43 = shapeCast S1x64 (m ((c : Thread nD τ).loc main_arg4) : Vec F S64 .f32) shapeCasts_S64_S1x64 := by
  simp only [V, hostOps0, hostOps0_1, hostOps0_2, hostOps0_3, hostOps0_4, List.flatten_cons, List.flatten_nil, List.append_nil, List.cons_append, List.nil_append]
  run_tidy
  rfl
theorem V_v44 (c : Dev nD) : V m c main_v44 = shapeCast S1x64 (m ((c : Thread nD τ).loc main_arg5) : Vec F S64 .f32) shapeCasts_S64_S1x64 := by
  simp only [V, hostOps0, hostOps0_1, hostOps0_2, hostOps0_3, hostOps0_4, List.flatten_cons, List.flatten_nil, List.append_nil, List.cons_append, List.nil_append]
  run_tidy
  rfl
theorem V_v45 (c : Dev nD) : V m c main_v45 = shapeCast S1x64 (m ((c : Thread nD τ).loc main_arg6) : Vec F S64 .f32) shapeCasts_S64_S1x64 := by
  simp only [V, hostOps0, hostOps0_1, hostOps0_2, hostOps0_3, hostOps0_4, List.flatten_cons, List.flatten_nil, List.append_nil, List.cons_append, List.nil_append]
  run_tidy
  rfl
theorem V_v46 (c : Dev nD) : V m c main_v46 = shapeCast S1x128 (m ((c : Thread nD τ).loc main_arg7) : Vec F S128 .f32) shapeCasts_S128_S1x128 := by
  simp only [V, hostOps0, hostOps0_1, hostOps0_2, hostOps0_3, hostOps0_4, List.flatten_cons, List.flatten_nil, List.append_nil, List.cons_append, List.nil_append]
  run_tidy
  rfl

end Cert.KernelIdeal.Diff
end
-- ==== Proof.Diff.Weight.lean ====
module

public import proofs.«01_k».proof.Proof.Diff.Tile
public import Idealize.ShloMosaic.Lib.Pointwise

/-! # One softmax map of the kernel, over the reals

Where a block's logits and values are real numbers and its row maximum is any real number, the quotient
of the two products is the softmax average: the shift by the maximum cancels. -/

@[expose] public section

set_option maxRecDepth 16384

noncomputable section

namespace Cert.KernelIdeal.Diff

open Idealize.ShloMosaic Idealize.ShloMosaic.TcCoe
open Cert.KernelIdeal Cert.KernelIdeal.Gen

/-- Key `k` of tile `t`. -/
def key (t : Fin 4) (k : Fin 512) : Fin 2048 := ⟨512 * t.val + k.val, by omega⟩

/-- A sum over the keys is the sum of the four tiles' sums. -/
theorem sum_tiles (f : Fin 2048 → ℝ) :
    ∑ k, f k = ∑ k, f (key 0 k) + ∑ k, f (key 1 k) + ∑ k, f (key 2 k) + ∑ k, f (key 3 k) := by
  have e : ∑ k : Fin 2048, f k = ∑ p : Fin 4 × Fin 512, f (key p.1 p.2) := by
    refine (Fintype.sum_equiv (finProdFinEquiv (m := 4) (n := 512)) (fun p => f (key p.1 p.2)) (fun k => f k) ?_).symm
    intro p
    congr 1
    apply Fin.ext
    simp [key, finProdFinEquiv, Nat.add_comm]
  rw [e, Fintype.sum_prod_type, Fin.sum_univ_four]

/-- A finite sum of real numbers is the real sum. -/
theorem sum_real {ι : Type} [Fintype ι] (f : ι → ℝ) : ∑ k, ((f k : ℝ) : EReal) = ((∑ k, f k : ℝ) : EReal) := by
  classical
  have h : ∀ s : Finset ι, ∑ k ∈ s, ((f k : ℝ) : EReal) = ((∑ k ∈ s, f k : ℝ) : EReal) := by
    intro s
    induction s using Finset.induction_on with
    | empty => simp
    | insert a s ha ih => rw [Finset.sum_insert ha, Finset.sum_insert ha, ih, EReal.coe_add]
  exact h Finset.univ

/-- Softmax averages do not see a shift of the logits. -/
theorem shift_quotient {ι : Type} [Fintype ι] (f v : ι → ℝ) (μ : ℝ) :
    (∑ k, Real.exp (f k - μ) * v k) / (∑ k, Real.exp (f k - μ)) = (∑ k, Real.exp (f k) * v k) / (∑ k, Real.exp (f k)) := by
  have e : ∀ k, Real.exp (f k - μ) = Real.exp (-μ) * Real.exp (f k) := fun k => by rw [← Real.exp_add]; congr 1; ring
  simp only [e, mul_assoc, ← Finset.mul_sum]
  exact mul_div_mul_left _ _ (Real.exp_ne_zero _)

/-- Two to a logit that was divided by `log 2` is its exponential. -/
theorem two_rpow_shift (s μ : ℝ) : Real.rpow 2 (s * (Real.log 2)⁻¹ - μ) = Real.exp (s - μ * Real.log 2) := by
  have h : Real.log 2 ≠ 0 := (Real.log_pos (by norm_num)).ne'
  show (2 : ℝ) ^ (s * (Real.log 2)⁻¹ - μ) = _
  rw [Real.rpow_def_of_pos (by norm_num)]
  congr 1
  field_simp

/-- The softmax average of `v` with the logits `f`. -/
def average {ι : Type} [Fintype ι] (f v : ι → ℝ) : ℝ := (∑ k, Real.exp (f k) * v k) / (∑ k, Real.exp (f k))

/-- The weight of one logit. -/
theorem weights_apply (M : FVec Ideal S512x128 .f32) (μ : Fin 512 → ℝ) (hM : ∀ r e, M (ix2 r e) = ((μ r : ℝ) : EReal))
    (L : FVec Ideal S512x512 .f32) (s : Fin 512 → Fin 512 → ℝ) (hL : ∀ r k, L (ix2 r k) = ((s r k * (Real.log 2)⁻¹ : ℝ) : EReal)) (r : Fin 512) (k : Fin 512) :
    weights M L (ix2 r k) = ((Real.exp (s r k - μ r * Real.log 2) : ℝ) : EReal) := by
  unfold weights sl0 sl1 sl2 sl3
  pointwise
  have w : ∀ a : Fin 512, FloatOps.exp2 (F := Ideal) (φ := .f32) (((s r a * (Real.log 2)⁻¹ : ℝ) : EReal) - ((μ r : ℝ) : EReal)) = ((Real.exp (s r a - μ r * Real.log 2) : ℝ) : EReal) := by
    intro a
    rw [← EReal.coe_sub, ← two_rpow_shift]
    rfl
  simp only [hM, hL, w]
  split
  · rfl
  · split
    · congr 4; apply Fin.ext; simp; omega
    · split
      · congr 4; apply Fin.ext; simp; omega
      · congr 4; apply Fin.ext; simp; omega

/-- One tile's product at an index. -/
theorem pvTile_apply (M : FVec Ideal S512x128 .f32) (L : FVec Ideal S512x512 .f32) (W : Vec Ideal S512x256 .bf16) (r : Fin 512) (e : Fin 256) :
    pvTile M L W (ix2 r e) = ∑ k : Fin 512, weights M L (ix2 r k) * W (ix2 k e) := by
  unfold pvTile
  pointwise

/-- The four tiles' products at an index. -/
theorem pvSum_apply (M : FVec Ideal S512x128 .f32) (μ : Fin 512 → ℝ) (hM : ∀ r e, M (ix2 r e) = ((μ r : ℝ) : EReal))
    (L : Fin 4 → FVec Ideal S512x512 .f32) (s : Fin 512 → Fin 2048 → ℝ) (hL : ∀ t r k, L t (ix2 r k) = ((s r (key t k) * (Real.log 2)⁻¹ : ℝ) : EReal))
    (W : Fin 4 → Vec Ideal S512x256 .bf16) (w : Fin 2048 → Fin 256 → ℝ) (hW : ∀ t k e, W t (ix2 k e) = ((w (key t k) e : ℝ) : EReal)) (r : Fin 512) (e : Fin 256) :
    pvSum M L W (ix2 r e) = ((∑ k, Real.exp (s r k - μ r * Real.log 2) * w k e : ℝ) : EReal) := by
  have h : ∀ t, pvTile M (L t) (W t) (ix2 r e) = ((∑ k, Real.exp (s r (key t k) - μ r * Real.log 2) * w (key t k) e : ℝ) : EReal) := by
    intro t
    rw [pvTile_apply, ← sum_real]
    refine Finset.sum_congr rfl fun k _ => ?_
    rw [weights_apply M μ hM (L t) (fun r k => s r (key t k)) (hL t), hW, EReal.coe_mul]
  rw [sum_tiles, EReal.coe_add, EReal.coe_add, EReal.coe_add, ← h, ← h, ← h, ← h]
  unfold pvSum
  pointwise

/-- The quotient: the softmax average of the values beside the ones. -/
theorem att_apply (M : FVec Ideal S512x128 .f32) (μ : Fin 512 → ℝ) (hM : ∀ r e, M (ix2 r e) = ((μ r : ℝ) : EReal))
    (L : Fin 4 → FVec Ideal S512x512 .f32) (s : Fin 512 → Fin 2048 → ℝ) (hL : ∀ t r k, L t (ix2 r k) = ((s r (key t k) * (Real.log 2)⁻¹ : ℝ) : EReal))
    (W : Fin 4 → Vec Ideal S512x256 .bf16) (w : Fin 2048 → Fin 256 → ℝ) (hW : ∀ t k e, W t (ix2 k e) = ((w (key t k) e : ℝ) : EReal))
    (v : Fin 2048 → Fin 128 → ℝ) (hv : ∀ k (e : Fin 128), w k ⟨e.val, by omega⟩ = v k e) (h1 : ∀ k (e : Fin 128), w k ⟨128 + e.val, by omega⟩ = 1)
    (r : Fin 512) (e : Fin 128) :
    att M L W (ix2 r e) = ((average (s r) (fun k => v k e) : ℝ) : EReal) := by
  unfold att
  pointwise
  have a := pvSum_apply M μ hM L s hL W w hW r ⟨e.val, by omega⟩
  have b := pvSum_apply M μ hM L s hL W w hW r ⟨128 + e.val, by omega⟩
  have hpos : (∑ k, Real.exp (s r k - μ r * Real.log 2)) ≠ 0 :=
    (Finset.sum_pos (fun k _ => Real.exp_pos _) ⟨(0 : Fin 2048), Finset.mem_univ _⟩).ne'
  simp only [hv] at a
  simp only [h1, mul_one] at b
  rw [a, b, Ideal.div_coe hpos, ← EReal.coe_mul, average, ← shift_quotient (s r) (fun k => v k e) (μ r * Real.log 2), mul_one_div]

end Cert.KernelIdeal.Diff
end
-- ==== Proof.Diff.Fold.lean ====
module

public import proofs.«01_k».proof.Proof.Gen.KernelIdeal
public import Idealize.ShloMosaic.Lib.Pointwise

/-! # Maxima of real numbers -/

@[expose] public section

noncomputable section

namespace Cert.Diff

open Idealize.ShloMosaic Idealize.ShloMosaic.TcCoe

/-- The word a maximum starts from is below everything. -/
theorem lowest : Ideal.ofBits .f32 (0xFF800000#32) = (⊥ : EReal) := by
  simp [Ideal.ofBits, Ideal.ieee]

/-- The larger of two real numbers is real. -/
theorem max_real (a b : ℝ) : max ((a : ℝ) : EReal) ((b : ℝ) : EReal) = ((max a b : ℝ) : EReal) :=
  (EReal.coe_strictMono.monotone.map_max).symm

/-- The maximum of one or more real numbers is real. -/
theorem fold_real {ι : Type} (f : ι → EReal) (h : ∀ i, ∃ a : ℝ, f i = ((a : ℝ) : EReal)) (s : Finset ι) (hs : s.Nonempty) :
    ∃ μ : ℝ, Finset.fold max (Ideal.ofBits .f32 (0xFF800000#32)) f s = ((μ : ℝ) : EReal) := by
  classical
  choose g h using h
  induction hs using Finset.Nonempty.cons_induction with
  | singleton a => exact ⟨g a, by rw [Finset.fold_singleton, lowest, h]; exact max_eq_left bot_le⟩
  | cons a s ha hs ih =>
    obtain ⟨μ, hμ⟩ := ih
    exact ⟨max (g a) μ, by rw [Finset.fold_cons, hμ, h]; exact max_real _ _⟩

end Cert.Diff
end
-- ==== Proof.Diff.Logit.lean ====
module

public import proofs.«01_k».proof.Proof.Diff.Weight
public import proofs.«01_k».proof.Proof.Diff.Fold

/-! # The kernel's logits and row maximum, over the reals -/

@[expose] public section

set_option maxRecDepth 16384

noncomputable section

namespace Cert.KernelIdeal.Diff

open Idealize.ShloMosaic Idealize.ShloMosaic.TcCoe
open Cert.KernelIdeal Cert.KernelIdeal.Gen

/-- The number that `log2_e` names. -/
theorem log2_e_value : (Named.named κ "log2_e" 0x3FB8AA3B#32 : Ideal .f32) = (((Real.log 2)⁻¹ : ℝ) : EReal) :=
  IdealRules.named_const.ideal_named_scalar _ _ _ _ rfl

/-- The number that `q_scale` names. -/
theorem q_scale_value : (Named.named κ "q_scale" 0x3E38AA3B#32 : Ideal .f32) = (((1 / 8) * (Real.log 2)⁻¹ : ℝ) : EReal) :=
  IdealRules.named_const.ideal_named_scalar _ _ _ _ rfl

/-- Which columns the first half's mask keeps. -/
theorem mask_apply (r : Fin 512) (c : Fin 128) : k0_pay21 (ix2 r c) = if c.val < 64 then 1#1 else 0#1 := by
  have h : ∀ c : Fin 128, IntOp.cmpi .slt (BitVec.ofNat 32 c.val) 64#32 = if c.val < 64 then 1#1 else 0#1 := by decide +kernel
  unfold k0_pay21
  pointwise
  exact h c

/-- The scaled queries of one half. -/
theorem qHalf_apply (m : Fin 2) (Q : Vec Ideal S1x512x128 .bf16) (q : Fin 512 → Fin 128 → ℝ) (hQ : ∀ r c, Q (ix3 0 r c) = ((q r c : ℝ) : EReal)) (r : Fin 512) (c : Fin 128) :
    qHalf m Q (ix2 r c) = (((if c.val / 64 = m.val then q r c * ((1 / 8) * (Real.log 2)⁻¹) else 0 : ℝ)) : EReal) := by
  unfold qHalf
  split
  next hm =>
    pointwise [k0_pay20, k0_pay22]
    rw [mask_apply, hQ, q_scale_value, ← EReal.coe_mul]
    by_cases hc : c.val < 64
    · rw [if_pos hc, if_pos (by subst hm; show c.val / 64 = 0; omega)]
      rfl
    · rw [if_neg hc, if_neg (by subst hm; show ¬ c.val / 64 = 0; omega)]
      rfl
  next hm =>
    have hm : m.val = 1 := by have := m.isLt; have : m.val ≠ 0 := fun e => hm (Fin.ext e); omega
    pointwise [k0_pay20, k0_pay22]
    rw [mask_apply, hQ, q_scale_value, ← EReal.coe_mul]
    by_cases hc : c.val < 64
    · rw [if_pos hc, if_neg (by omega)]
      rfl
    · rw [if_neg hc, if_pos (by omega)]
      rfl

/-- The products over all columns of a half are the half's own. -/
theorem half_sum (m : Fin 2) (q k : Fin 128 → ℝ) (a : ℝ) :
    ∑ c, (if c.val / 64 = m.val then q c * a else 0) * k c = (∑ c : Fin 64, q ⟨64 * m.val + c.val, by omega⟩ * k ⟨64 * m.val + c.val, by omega⟩) * a := by
  have e : ∀ f : Fin 128 → ℝ, ∑ c, f c = ∑ p : Fin 2 × Fin 64, f ⟨64 * p.1.val + p.2.val, by omega⟩ := by
    intro f
    refine (Fintype.sum_equiv (finProdFinEquiv (m := 2) (n := 64)) (fun p => f ⟨64 * p.1.val + p.2.val, by omega⟩) (fun k => f k) ?_).symm
    intro p
    congr 1
    apply Fin.ext
    simp [finProdFinEquiv, Nat.add_comm]
  rw [e, Fintype.sum_prod_type, Finset.sum_mul, Finset.sum_eq_single m]
  · refine Finset.sum_congr rfl fun c _ => ?_
    rw [if_pos (by show (64 * m.val + c.val) / 64 = m.val; omega)]
    ring
  · intro n _ hn
    refine Finset.sum_eq_zero fun c _ => ?_
    have : n.val ≠ m.val := fun e => hn (Fin.ext e)
    rw [if_neg (by show ¬ (64 * n.val + c.val) / 64 = m.val; omega), zero_mul]
  · exact fun h => absurd (Finset.mem_univ _) h

/-- A tile's logits, divided by `log 2`. -/
theorem logits_apply (m : Fin 2) (Q : Vec Ideal S1x512x128 .bf16) (q : Fin 512 → Fin 128 → ℝ) (hQ : ∀ r c, Q (ix3 0 r c) = ((q r c : ℝ) : EReal))
    (K : Vec Ideal S1x512x128 .bf16) (k : Fin 512 → Fin 128 → ℝ) (hK : ∀ r c, K (ix3 0 r c) = ((k r c : ℝ) : EReal))
    (B : Vec Ideal S1x512x512 .f32) (b : Fin 512 → Fin 512 → ℝ) (hB : ∀ r c, B (ix3 0 r c) = ((b r c : ℝ) : EReal)) (r t : Fin 512) :
    logits (qHalf m Q) B K (ix2 r t) = ((((∑ c : Fin 64, q r ⟨64 * m.val + c.val, by omega⟩ * k t ⟨64 * m.val + c.val, by omega⟩) * (1 / 8) + b r t) * (Real.log 2)⁻¹ : ℝ) : EReal) := by
  unfold logits
  pointwise
  simp only [qHalf_apply m Q q hQ, hK, hB, log2_e_value, ← EReal.coe_mul, sum_real, ← EReal.coe_add]
  congr 1
  rw [half_sum m (fun c => q r c) (fun c => k t c)]
  ring

/-- The row maximum is a real number, the same in each lane. -/
theorem rowMax_real (L : Fin 4 → FVec Ideal S512x512 .f32) (l : Fin 4 → Fin 512 → Fin 512 → ℝ) (hL : ∀ t r k, L t (ix2 r k) = ((l t r k : ℝ) : EReal)) :
    ∃ μ : Fin 512 → ℝ, ∀ r e, rowMax L (ix2 r e) = ((μ r : ℝ) : EReal) := by
  have h : ∀ r, ∃ μ : ℝ, ∀ e, rowMax L (ix2 r e) = ((μ : ℝ) : EReal) := by
    intro r
    unfold rowMax
    pointwise
    refine (Cert.Diff.fold_real _ ?_ Finset.univ ⟨0, Finset.mem_univ _⟩).imp fun μ h e => h
    intro x
    unfold maxStep maxFirst sl0 sl1 sl2 sl3
    pointwise
    simp only [hL, Cert.Diff.max_real]
    exact ⟨_, rfl⟩
  choose μ hμ using h
  exact ⟨μ, hμ⟩

end Cert.KernelIdeal.Diff
end
-- ==== Proof.Diff.Out.lean ====
module

public import proofs.«01_k».proof.Proof.Diff.Logit
public import proofs.«01_k».proof.Proof.Diff.Run

/-! # One grid step of the kernel, over the reals

The rows a grid step writes are the normalised difference of two softmax averages, each over all the
keys of its batch entry. -/

@[expose] public section

set_option maxRecDepth 16384

noncomputable section

namespace Cert.KernelIdeal.Diff

open Idealize.ShloMosaic Idealize.ShloMosaic.TcCoe
open Cert.KernelIdeal Cert.KernelIdeal.Gen

/-- The logit of key `k` for query `s` in map `m`: the scaled product of a half, and the bias. -/
def score (q k : Fin 2048 → Fin 128 → ℝ) (b : Fin 2048 → Fin 2048 → ℝ) (m : Fin 2) (s i : Fin 2048) : ℝ :=
  (∑ c : Fin 64, q s ⟨64 * m.val + c.val, by omega⟩ * k i ⟨64 * m.val + c.val, by omega⟩) * (1 / 8) + b s i

/-- The difference of the two maps' averages. -/
def diff (lam : EReal) (q k v : Fin 2048 → Fin 128 → ℝ) (b : Fin 2048 → Fin 2048 → ℝ) (s : Fin 2048) (e : Fin 128) : EReal :=
  ((average (score q k b 0 s) (fun i => v i e) : ℝ) : EReal) - lam * ((average (score q k b 1 s) (fun i => v i e) : ℝ) : EReal)

/-- The row normalisation with its gain. -/
def finish (o g : Fin 128 → EReal) (e : Fin 128) : EReal :=
  o e * Ideal.rsqrt (Ideal.div (∑ i, o i * o i) (Ideal.ofBits .f32 0x43000000#32) + Ideal.ofBits .f32 0x3727C5AC#32) * g e * Ideal.ofBits .f32 0x3F4CCCCD#32

/-- The row normalisation at an index. -/
theorem normed_apply (o : FVec Ideal S512x128 .f32) (G : Vec Ideal S1x128 .f32) (r : Fin 512) (e : Fin 128) :
    normed o G (ix2 r e) = finish (fun i => o (ix2 r i)) (fun i => G (ix2 0 i)) e := by
  unfold normed finish
  pointwise

theorem qW_apply (X : Vec Ideal S1x2048x128 .bf16) (j : Fin 4) (r : Fin 512) (c : Fin 128) : qW X j (ix3 0 r c) = X (ix3 0 (key j r) c) := by
  unfold qW VecWindow.window
  refine congrArg X (funext fun a => Fin.ext ?_)
  match a with
  | ⟨0, _⟩ => rfl
  | ⟨1, _⟩ => show 512 * j.val + 1 * r.val = 512 * j.val + r.val; omega
  | ⟨2, _⟩ => show 0 + 1 * c.val = c.val; omega

theorem bW_apply (X : Vec Ideal S1x512x3584 .f32) (j t : Fin 4) (r c : Fin 512) :
    bW X j t (ix3 0 r c) = X (ix3 0 r ⟨512 * t.val + 1536 - 512 * j.val + c.val, by omega⟩) := by
  unfold bW VecWindow.window
  refine congrArg X (funext fun a => Fin.ext ?_)
  match a with
  | ⟨0, _⟩ => rfl
  | ⟨1, _⟩ => show 0 + 1 * r.val = r.val; omega
  | ⟨2, _⟩ => show 512 * t.val + 1536 - 512 * j.val + 1 * c.val = 512 * t.val + 1536 - 512 * j.val + c.val; omega

theorem vW_apply (X : Vec Ideal S2048x256 .bf16) (t : Fin 4) (r : Fin 512) (c : Fin 256) : vW X t (ix2 r c) = X (ix2 (key t r) c) := by
  unfold vW VecWindow.window
  refine congrArg X (funext fun a => Fin.ext ?_)
  match a with
  | ⟨0, _⟩ => show 512 * t.val + 1 * r.val = 512 * t.val + r.val; omega
  | ⟨1, _⟩ => show 0 + 1 * c.val = c.val; omega

/-- The first 128 columns hold the values. -/
theorem valOnes_left (X : Vec Ideal S2048x256 .bf16) (V : Vec Ideal S1x2048x128 .bf16) (k : Fin 2048) (e : Fin 128) :
    valOnes X V (ix2 k ⟨e.val, by omega⟩) = V (ix3 0 k e) := by
  unfold valOnes VecWindow.put
  rw [dif_neg (by intro h; have := (h 1).1; revert this; show ¬ 128 ≤ e.val; omega)]
  rw [dif_pos (by intro a; fin_cases a; exact ⟨Nat.zero_le _, by show k.val < 0 + 2048; omega⟩; exact ⟨Nat.zero_le _, by show e.val < 0 + 128; omega⟩)]
  refine (congrArg (k0_pay47 V) (a₂ := ix2 k e) (funext fun a => Fin.ext ?_)).trans ?_
  · match a with
    | ⟨0, _⟩ => show k.val - 0 = k.val; omega
    | ⟨1, _⟩ => show e.val - 0 = e.val; omega
  · unfold k0_pay47
    pointwise

/-- The other 128 columns hold ones. -/
theorem valOnes_right (X : Vec Ideal S2048x256 .bf16) (V : Vec Ideal S1x2048x128 .bf16) (k : Fin 2048) (e : Fin 128) :
    valOnes X V (ix2 k ⟨128 + e.val, by omega⟩) = 1 := by
  unfold valOnes VecWindow.put
  rw [dif_pos (by intro a; fin_cases a; exact ⟨Nat.zero_le _, by show k.val < 0 + 2048; omega⟩; exact ⟨by show 128 ≤ 128 + e.val; omega, by show 128 + e.val < 128 + 128; omega⟩)]
  refine (congrArg (k0_pay48 (F := Ideal)) (a₂ := ix2 k e) (funext fun a => Fin.ext ?_)).trans ?_
  · match a with
    | ⟨0, _⟩ => show k.val - 0 = k.val; omega
    | ⟨1, _⟩ => show 128 + e.val - 128 = e.val; omega
  · unfold k0_pay48
    pointwise

section Block

variable (Q K V : Vec Ideal S1x2048x128 .bf16) (B : Vec Ideal S1x512x3584 .f32) (q k v : Fin 2048 → Fin 128 → ℝ) (b : Fin 2048 → Fin 2048 → ℝ)
variable (hQ : ∀ s c, Q (ix3 0 s c) = ((q s c : ℝ) : EReal)) (hK : ∀ s c, K (ix3 0 s c) = ((k s c : ℝ) : EReal)) (hV : ∀ s c, V (ix3 0 s c) = ((v s c : ℝ) : EReal))
variable (hB : ∀ (j t : Fin 4) (r c : Fin 512), B (ix3 0 r ⟨512 * t.val + 1536 - 512 * j.val + c.val, by omega⟩) = ((b (key j r) (key t c) : ℝ) : EReal))

include hQ hK hB in
/-- The kept logits of a block. -/
theorem keptL_apply (j : Fin 4) (m : Fin 2) (t : Fin 4) (r c : Fin 512) :
    keptL Q K B j m t (ix2 r c) = ((score q k b m (key j r) (key t c) * (Real.log 2)⁻¹ : ℝ) : EReal) := by
  unfold keptL
  exact logits_apply m (qW Q j) (fun r c => q (key j r) c) (fun r c => (qW_apply Q j r c).trans (hQ _ _))
    (qW K t) (fun r c => k (key t r) c) (fun r c => (qW_apply K t r c).trans (hK _ _))
    (bW B j t) (fun r c => b (key j r) (key t c)) (fun r c => (bW_apply B j t r c).trans (hB j t r c)) r c

include hQ hK hV hB in
/-- One map's average for a query of block `j`. -/
theorem block_att (j : Fin 4) (m : Fin 2) (X : Vec Ideal S2048x256 .bf16) (r : Fin 512) (e : Fin 128) :
    att (keptM Q K B j m) (keptL Q K B j m) (vW (valOnes X V)) (ix2 r e) = ((average (score q k b m (key j r)) (fun i => v i e) : ℝ) : EReal) := by
  obtain ⟨μ, hμ⟩ := rowMax_real (keptL Q K B j m) (fun t r c => score q k b m (key j r) (key t c) * (Real.log 2)⁻¹)
    (fun t r c => keptL_apply Q K B q k b hQ hK hB j m t r c)
  refine att_apply (keptM Q K B j m) μ hμ (keptL Q K B j m) (fun r i => score q k b m (key j r) i)
    (fun t r c => keptL_apply Q K B q k b hQ hK hB j m t r c) (vW (valOnes X V))
    (fun i c => if h : c.val < 128 then v i ⟨c.val, h⟩ else 1) ?_ v ?_ ?_ r e
  · intro t i c
    rw [vW_apply]
    by_cases h : c.val < 128
    · rw [dif_pos h]
      exact (valOnes_left X V (key t i) ⟨c.val, h⟩).trans (hV _ _)
    · rw [dif_neg h]
      refine Eq.trans (congrArg (valOnes X V) (congrArg (ix2 (key t i)) (Fin.ext ?_))) (valOnes_right X V (key t i) ⟨c.val - 128, by omega⟩)
      show c.val = 128 + (c.val - 128)
      omega
  · intro i e
    exact dif_pos e.isLt
  · intro i e
    exact dif_neg (by show ¬ 128 + e.val < 128; omega)

include hQ hK hV hB in
/-- What a grid step writes. -/
theorem bodyOut_apply (x6 x7 x8 x9 : Vec Ideal S1x64 .f32) (G : Vec Ideal S1x128 .f32) (s : Fin 2048) (e : Fin 128) :
    bodyOut Q K V B x6 x7 x8 x9 G (ix3 0 s e) = finish (diff (k0_pay49 x6 x7 x8 x9 (ix2 0 0)) q k v b s) (fun i => G (ix2 0 i)) e := by
  have hs : s = key ⟨s.val / 512, by omega⟩ ⟨s.val % 512, by omega⟩ := Fin.ext (by show s.val = 512 * (s.val / 512) + s.val % 512; omega)
  generalize (⟨s.val / 512, by omega⟩ : Fin 4) = j at hs
  generalize (⟨s.val % 512, by omega⟩ : Fin 512) = r at hs
  subst hs
  unfold bodyOut
  rw [← qW_apply (putAll Q _), qW_putAll]
  generalize k0_pay49 x6 x7 x8 x9 = lam
  unfold outBlk outOf
  pointwise
  rw [normed_apply]
  congr 1
  funext i
  have u : ∀ m, unboxM (boxM (keptM Q K B j m)) = keptM Q K B j m := by
    intro m
    funext y
    idx_vars y
    unfold unboxM boxM
    pointwise
  have l : ∀ m t, unboxL (boxL (keptL Q K B j m t)) = keptL Q K B j m t := by
    intro m t
    funext y
    idx_vars y
    unfold unboxL boxL
    pointwise
  simp only [u, l]
  unfold diffOf diff
  pointwise
  rw [block_att Q K V B q k v b hQ hK hV hB, block_att Q K V B q k v b hQ hK hV hB]

end Block

end Cert.KernelIdeal.Diff
end
-- ==== Proof.Diff.Table.lean ====
module

public import proofs.«01_k».proof.Proof.Gen.KernelIdeal
public import Idealize.ShloMosaic.Lib.Pointwise

/-! # Rows of the bias table looked up by a two-dimensional array of row numbers -/

@[expose] public section

noncomputable section

namespace Cert.Diff

open Idealize.ShloMosaic Idealize.ShloMosaic.TcCoe

/-- The dimension numbers of a look-up of whole rows of a 32-row, 4-column table. -/
abbrev tableDims (R C : Nat) (wf : GatherDims.WF ⟨2, ![32, 4]⟩ ⟨3, ![R, C, 1]⟩ ⟨3, ![R, C, 4]⟩ [2] [0] [] [0] [] 2 ![1, 4]) :
    GatherDims ⟨2, ![32, 4]⟩ ⟨3, ![R, C, 1]⟩ ⟨3, ![R, C, 4]⟩ where
  offsetDims := [2]
  collapsedSliceDims := [0]
  operandBatchingDims := []
  startIndicesBatchingDims := []
  startIndexMap := [0]
  indexVectorDim := 2
  sliceSizes := ![1, 4]
  wf := wf

/-- The table's row that a word names, clamped into the table. -/
def rowAt (z : BitVec 32) : Fin 32 := ⟨min z.toInt.toNat 31, by omega⟩

/-- The look-up at an index. -/
theorem table_apply {α : Type} {R C : Nat} (wf : GatherDims.WF ⟨2, ![32, 4]⟩ ⟨3, ![R, C, 1]⟩ ⟨3, ![R, C, 4]⟩ [2] [0] [] [0] [] 2 ![1, 4])
    (x : (⟨2, ![32, 4]⟩ : Shape).Idx → α) (idx : IVec ⟨3, ![R, C, 1]⟩ 32) (r : Fin R) (u : Fin C) (h : Fin 4) :
    Host.gather (tableDims R C wf) x idx (ix3 r u h) = x (ix2 (rowAt (idx (ix3 r u 0))) h) := by
  unfold Host.gather
  refine congrArg x (funext fun a => Fin.ext ?_)
  match a with
  | ⟨0, _⟩ =>
    show (tableDims R C wf).start (ix3 r u h) idx 0 + (tableDims R C wf).batchCoord (ix3 r u h) 0 + (tableDims R C wf).offCoord (ix3 r u h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims R C wf).startIndexMap from List.mem_singleton.mpr rfl)]
    have hsi : (tableDims R C wf).siIdx (ix3 r u h) ⟨List.idxOf (0 : Fin 2) (tableDims R C wf).startIndexMap,
        List.idxOf_lt_length_iff.2 (List.mem_singleton.mpr rfl)⟩ = ix3 r u 0 := by
      funext b
      refine Fin.ext ?_
      match b with
      | ⟨0, _⟩ => rfl
      | ⟨1, _⟩ => rfl
      | ⟨2, _⟩ => rfl
    rw [hsi]
    rfl
  | ⟨1, _⟩ =>
    show (tableDims R C wf).start (ix3 r u h) idx 1 + (tableDims R C wf).batchCoord (ix3 r u h) 1 + (tableDims R C wf).offCoord (ix3 r u h) 1 = _
    rw [GatherDims.batchCoord_eq_zero _ _ _ List.not_mem_nil]
    unfold GatherDims.start
    rw [dif_neg (show (1 : Fin 2) ∉ (tableDims R C wf).startIndexMap from fun e => absurd (List.mem_singleton.mp e) (by decide))]
    simp only [Nat.add_zero, Nat.zero_add]
    rfl

/-- The bucket of a relative position. -/
def bucketOf (z : BitVec 32) : BitVec 32 :=
  IntOp.addi (Scalar.select (IntOp.cmpi .sgt z 0#32) 16#32 0#32)
    (Scalar.select (IntOp.cmpi .slt (IntOp.absi z) 8#32) (IntOp.absi z)
      (IntOp.minsi (IntOp.addi 8#32 (FloatOps.fptosi (F := Ideal) (φ := .f32) 32
        (Ideal.div (Ideal.log (Ideal.div (FloatOps.sitofp (F := Ideal) .f32 (IntOp.maxsi (IntOp.absi z) 1#32)) (Ideal.ofBits .f32 0x41000000#32))) (Ideal.ofBits .f32 0x409B43D5#32)
          * Ideal.ofBits .f32 0x41000000#32))) 15#32))

/-- The table's row for a key and a query. -/
def rowFor (s i : Fin 2048) : Fin 32 :=
  let y := bucketOf (IntOp.subi (BitVec.ofNat 32 i.val) (BitVec.ofNat 32 s.val))
  rowAt (Scalar.select (IntOp.cmpi .slt y 0#32) (IntOp.addi y 32#32) y)

end Cert.Diff
end
-- ==== Proof.Diff.Entry.lean ====
module

public import proofs.«01_k».proof.Proof.Diff.Host
public import proofs.«01_k».proof.Proof.Diff.Out
public import proofs.«01_k».proof.Proof.Diff.Table
public import Idealize.ShloMosaic.Lib.Pipeline.ValueKit

/-! # The blocks a grid step reads, and the array after the launch, over the reals -/

@[expose] public section

set_option maxRecDepth 16384

noncomputable section

namespace Cert.KernelIdeal.Diff

open Idealize.ShloMosaic Idealize.ShloMosaic.TcCoe
open Idealize.SL Idealize.SL.Sem
open Cert.KernelIdeal Cert.KernelIdeal.Gen
open Cert.Diff (bucketOf rowFor rowAt)

variable (m : (ℓ : Loc nD τ sig) → Buf (Elt Ideal) ℓ)

/-- The head and the batch entry of a grid step. -/
def hd (t : Fin cfg0.N) : Fin 4 := ⟨t.val / 8, by have : t.val < 32 := t.isLt; omega⟩
def bt (t : Fin cfg0.N) : Fin 8 := ⟨t.val % 8, by omega⟩

theorem idx_0 : ∀ t : Fin cfg0.N, win0_0.index t 0 = t.val % 8 ∧ win0_0.index t 1 = 0 ∧ win0_0.index t 2 = t.val / 8 := by decide +kernel
theorem idx_1 : ∀ t : Fin cfg0.N, win0_1.index t 0 = t.val % 8 ∧ win0_1.index t 1 = 0 ∧ win0_1.index t 2 = 4 + t.val / 8 := by decide +kernel
theorem idx_2 : ∀ t : Fin cfg0.N, win0_2.index t 0 = t.val % 8 ∧ win0_2.index t 1 = 0 ∧ win0_2.index t 2 = 8 + t.val / 8 := by decide +kernel
theorem idx_3 : ∀ t : Fin cfg0.N, win0_3.index t 0 = t.val / 8 ∧ win0_3.index t 1 = 0 ∧ win0_3.index t 2 = 0 := by decide +kernel
theorem idx_4 : ∀ t : Fin cfg0.N, win0_4.index t 0 = 0 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_9 : ∀ t : Fin cfg0.N, win0_9.index t 0 = t.val % 8 ∧ win0_9.index t 1 = 0 ∧ win0_9.index t 2 = t.val / 8 := by decide +kernel

/-- The joint projection at an index of the first, second and third part. -/
theorem joint_0 (c : Dev nD) (b : Fin 8) (s : Fin 2048) (n : Fin 512) :
    V m c main_v41 (ix3 b s (⟨n.val, by omega⟩ : Fin 1536)) = m ((c : Thread nD τ).loc main_arg0) (ix3 b s n) := by
  rw [V_joint]
  pointwise
theorem joint_1 (c : Dev nD) (b : Fin 8) (s : Fin 2048) (n : Fin 512) :
    V m c main_v41 (ix3 b s (⟨512 + n.val, by omega⟩ : Fin 1536)) = m ((c : Thread nD τ).loc main_arg1) (ix3 b s n) := by
  rw [V_joint]
  pointwise
theorem joint_2 (c : Dev nD) (b : Fin 8) (s : Fin 2048) (n : Fin 512) :
    V m c main_v41 (ix3 b s (⟨1024 + n.val, by omega⟩ : Fin 1536)) = m ((c : Thread nD τ).loc main_arg2) (ix3 b s n) := by
  rw [V_joint]
  pointwise
  rw [dif_neg (by omega), dif_neg (by omega)]
  refine congrArg (fun k => m ((c : Thread nD τ).loc main_arg2) (ix3 b s k)) (Fin.ext ?_)
  show 1024 + n.val - 512 - 512 = n.val
  omega

/-- The strip's bucket at an index is the bucket of its relative position. -/
theorem bucketS_apply (z : IVec S512x3584 32) (r : Fin 512) (u : Fin 3584) : bucketS Ideal z (ix2 r u) = bucketOf (z (ix2 r u)) := by
  pointwise [bucketS]
  rfl

/-- A block's relative position is the key's place less the query's. -/
theorem rel_block (j t : Fin 4) (r c : Fin 512) :
    IntOp.subi (IntOp.subi (BitVec.ofNat 32 (512 * t.val + 1536 - 512 * j.val + c.val)) 1536#32) (BitVec.ofNat 32 r.val)
      = IntOp.subi (BitVec.ofNat 32 (key t c).val) (BitVec.ofNat 32 (key j r).val) := by
  have := j.isLt; have := t.isLt; have := r.isLt; have := c.isLt
  show BitVec.ofNat 32 (512 * t.val + 1536 - 512 * j.val + c.val) - 1536#32 - BitVec.ofNat 32 r.val
    = BitVec.ofNat 32 (512 * t.val + c.val) - BitVec.ofNat 32 (512 * j.val + r.val)
  apply BitVec.eq_of_toNat_eq
  simp only [BitVec.toNat_sub, BitVec.toNat_ofNat]
  omega

/-- The strip at a block's index. -/
theorem strip_apply (c : Dev nD) (h : Fin 4) (j t : Fin 4) (r i : Fin 512) :
    V m c main_v40 (ix3 h r (⟨512 * t.val + 1536 - 512 * j.val + i.val, by omega⟩ : Fin 3584))
      = m ((c : Thread nD τ).loc main_arg8) (ix2 (rowFor (key j r) (key t i)) (⟨6 + h.val, by omega⟩ : Fin 10)) := by
  rw [V_strip]
  pointwise
  refine (Cert.Diff.table_apply gather_S32x4_S512x3584x1_S512x3584x4_2_0_n_n_0_2_14_wf _ _ r _ h).trans ?_
  pointwise [rowS]
  rw [bucketS_apply]
  have e : relS (ix2 r (⟨512 * t.val + 1536 - 512 * j.val + i.val, by omega⟩ : Fin 3584)) = IntOp.subi (BitVec.ofNat 32 (key t i).val) (BitVec.ofNat 32 (key j r).val) := by
    pointwise [relS]
    exact rel_block j t r i
  rw [e]
  rfl

end Cert.KernelIdeal.Diff
end
-- ==== Proof.Diff.Blocks.lean ====
module

public import proofs.«01_k».proof.Proof.Diff.Host
public import proofs.«01_k».proof.Proof.Diff.Out
public import proofs.«01_k».proof.Proof.Diff.Table
public import proofs.«01_k».proof.Proof.Diff.Entry
public import Idealize.ShloMosaic.Lib.Pipeline.ValueKit

/-! # The blocks a grid step reads -/

@[expose] public section

set_option maxRecDepth 16384

noncomputable section

namespace Cert.KernelIdeal.Diff

open Idealize.ShloMosaic Idealize.ShloMosaic.TcCoe
open Idealize.SL Idealize.SL.Sem
open Cert.KernelIdeal Cert.KernelIdeal.Gen
open Cert.Diff (bucketOf rowFor rowAt)

variable (m : (ℓ : Loc nD τ sig) → Buf (Elt Ideal) ℓ)

theorem emb_0 (t : Fin cfg0.N) (s : Fin 2048) (e : Fin 128) :
    (win0_0.blk t).view.emb (ix3 0 s e : S1x2048x128.Idx) = (ix3 (bt t) s (⟨(128 * (hd t).val + e.val), by omega⟩ : Fin 1536) : S8x2048x1536.Idx) := by
  obtain ⟨e0, e1, e2⟩ := idx_0 t
  funext a
  apply Fin.ext
  match a with
  | ⟨0, _⟩ => blk_simp; rw [e0]; rfl
  | ⟨1, _⟩ => blk_simp; rw [e1]; show 0 * 2048 + s.val = s.val; omega
  | ⟨2, _⟩ => blk_simp; rw [e2]; show _ * 128 + e.val = (128 * (t.val / 8) + e.val); omega

theorem emb_1 (t : Fin cfg0.N) (s : Fin 2048) (e : Fin 128) :
    (win0_1.blk t).view.emb (ix3 0 s e : S1x2048x128.Idx) = (ix3 (bt t) s (⟨512 + (128 * (hd t).val + e.val), by omega⟩ : Fin 1536) : S8x2048x1536.Idx) := by
  obtain ⟨e0, e1, e2⟩ := idx_1 t
  funext a
  apply Fin.ext
  match a with
  | ⟨0, _⟩ => blk_simp; rw [e0]; rfl
  | ⟨1, _⟩ => blk_simp; rw [e1]; show 0 * 2048 + s.val = s.val; omega
  | ⟨2, _⟩ => blk_simp; rw [e2]; show _ * 128 + e.val = 512 + (128 * (t.val / 8) + e.val); omega

theorem emb_2 (t : Fin cfg0.N) (s : Fin 2048) (e : Fin 128) :
    (win0_2.blk t).view.emb (ix3 0 s e : S1x2048x128.Idx) = (ix3 (bt t) s (⟨1024 + (128 * (hd t).val + e.val), by omega⟩ : Fin 1536) : S8x2048x1536.Idx) := by
  obtain ⟨e0, e1, e2⟩ := idx_2 t
  funext a
  apply Fin.ext
  match a with
  | ⟨0, _⟩ => blk_simp; rw [e0]; rfl
  | ⟨1, _⟩ => blk_simp; rw [e1]; show 0 * 2048 + s.val = s.val; omega
  | ⟨2, _⟩ => blk_simp; rw [e2]; show _ * 128 + e.val = 1024 + (128 * (t.val / 8) + e.val); omega

/-- A read through window 0's block, of any contents of the arrays. -/
theorem read_0 (c : Dev nD) (X : (b : Ref sig .tc) → Buf (Elt Ideal) ((c : Thread nD τ).loc b)) (t : Fin cfg0.N) (y : S1x2048x128.Idx) :
    ((cfg0.win 0).blk t).view.read (Elt Ideal) (X (Pipeline.arrRef spec0 0)) y = X main_v41 ((win0_0.blk t).view.emb y) := rfl

/-- Window 0's block: a head's columns of argument 0. -/
theorem blk_0 (c : Dev nD) (t : Fin cfg0.N) (s : Fin 2048) (e : Fin 128) :
    (iblk m c 0 t : Vec Ideal S1x2048x128 .bf16) (ix3 0 s e) = (m ((c : Thread nD τ).loc main_arg0) : Vec Ideal S8x2048x512 .f32) (ix3 (bt t) s (⟨128 * (hd t).val + e.val, by omega⟩ : Fin 512)) := by
  refine (read_0 c (V m c) t (ix3 0 s e)).trans ((congrArg (V m c main_v41) (emb_0 t s e)).trans ?_)
  exact joint_0 m c (bt t) s ⟨128 * (hd t).val + e.val, by omega⟩

/-- A read through window 1's block, of any contents of the arrays. -/
theorem read_1 (c : Dev nD) (X : (b : Ref sig .tc) → Buf (Elt Ideal) ((c : Thread nD τ).loc b)) (t : Fin cfg0.N) (y : S1x2048x128.Idx) :
    ((cfg0.win 1).blk t).view.read (Elt Ideal) (X (Pipeline.arrRef spec0 1)) y = X main_v41 ((win0_1.blk t).view.emb y) := rfl

/-- Window 1's block: a head's columns of argument 1. -/
theorem blk_1 (c : Dev nD) (t : Fin cfg0.N) (s : Fin 2048) (e : Fin 128) :
    (iblk m c 1 t : Vec Ideal S1x2048x128 .bf16) (ix3 0 s e) = (m ((c : Thread nD τ).loc main_arg1) : Vec Ideal S8x2048x512 .f32) (ix3 (bt t) s (⟨128 * (hd t).val + e.val, by omega⟩ : Fin 512)) := by
  refine (read_1 c (V m c) t (ix3 0 s e)).trans ((congrArg (V m c main_v41) (emb_1 t s e)).trans ?_)
  exact joint_1 m c (bt t) s ⟨128 * (hd t).val + e.val, by omega⟩

/-- A read through window 2's block, of any contents of the arrays. -/
theorem read_2 (c : Dev nD) (X : (b : Ref sig .tc) → Buf (Elt Ideal) ((c : Thread nD τ).loc b)) (t : Fin cfg0.N) (y : S1x2048x128.Idx) :
    ((cfg0.win 2).blk t).view.read (Elt Ideal) (X (Pipeline.arrRef spec0 2)) y = X main_v41 ((win0_2.blk t).view.emb y) := rfl

/-- Window 2's block: a head's columns of argument 2. -/
theorem blk_2 (c : Dev nD) (t : Fin cfg0.N) (s : Fin 2048) (e : Fin 128) :
    (iblk m c 2 t : Vec Ideal S1x2048x128 .bf16) (ix3 0 s e) = (m ((c : Thread nD τ).loc main_arg2) : Vec Ideal S8x2048x512 .f32) (ix3 (bt t) s (⟨128 * (hd t).val + e.val, by omega⟩ : Fin 512)) := by
  refine (read_2 c (V m c) t (ix3 0 s e)).trans ((congrArg (V m c main_v41) (emb_2 t s e)).trans ?_)
  exact joint_2 m c (bt t) s ⟨128 * (hd t).val + e.val, by omega⟩

theorem emb_3 (t : Fin cfg0.N) (r : Fin 512) (u : Fin 3584) :
    (win0_3.blk t).view.emb (ix3 0 r u : S1x512x3584.Idx) = (ix3 (hd t) r u : S4x512x3584.Idx) := by
  obtain ⟨e0, e1, e2⟩ := idx_3 t
  funext a
  apply Fin.ext
  match a with
  | ⟨0, _⟩ => blk_simp; rw [e0]; rfl
  | ⟨1, _⟩ => blk_simp; rw [e1]; show 0 * 512 + r.val = r.val; omega
  | ⟨2, _⟩ => blk_simp; rw [e2]; show 0 * 3584 + u.val = u.val; omega

/-- A read through window 3's block, of any contents of the arrays. -/
theorem read_3 (c : Dev nD) (X : (b : Ref sig .tc) → Buf (Elt Ideal) ((c : Thread nD τ).loc b)) (t : Fin cfg0.N) (y : S1x512x3584.Idx) :
    ((cfg0.win 3).blk t).view.read (Elt Ideal) (X (Pipeline.arrRef spec0 3)) y = X main_v40 ((win0_3.blk t).view.emb y) := rfl

/-- The strip's block: a head's biases, by query and key. -/
theorem blk_3 (c : Dev nD) (t : Fin cfg0.N) (j i : Fin 4) (r k : Fin 512) :
    (iblk m c 3 t : Vec Ideal S1x512x3584 .f32) (ix3 0 r (⟨512 * i.val + 1536 - 512 * j.val + k.val, by omega⟩ : Fin 3584))
      = (m ((c : Thread nD τ).loc main_arg8) : Vec Ideal S32x10 .f32) (ix2 (rowFor (key j r) (key i k)) (⟨6 + (hd t).val, by omega⟩ : Fin 10)) := by
  refine (read_3 c (V m c) t _).trans ((congrArg (V m c main_v40) (emb_3 t r _)).trans ?_)
  exact strip_apply m c (hd t) j i r k

theorem emb_4 (t : Fin cfg0.N) (e : Fin 64) :
    (win0_4.blk t).view.emb (ix2 0 e : S1x64.Idx) = (ix2 0 e : S1x64.Idx) := by
  obtain ⟨e0, e1⟩ := idx_4 t
  funext a
  apply Fin.ext
  match a with
  | ⟨0, _⟩ => blk_simp; rw [e0]; rfl
  | ⟨1, _⟩ => blk_simp; rw [e1]; show 0 * 64 + e.val = e.val; omega

/-- A read through window 4's block, of any contents of the arrays. -/
theorem read_4 (c : Dev nD) (X : (b : Ref sig .tc) → Buf (Elt Ideal) ((c : Thread nD τ).loc b)) (t : Fin cfg0.N) (y : S1x64.Idx) :
    ((cfg0.win 4).blk t).view.read (Elt Ideal) (X (Pipeline.arrRef spec0 4)) y = X main_v42 ((win0_4.blk t).view.emb y) := rfl

/-- Window 4's block: argument 3. -/
theorem blk_4 (c : Dev nD) (t : Fin cfg0.N) (e : Fin 64) :
    (iblk m c 4 t : Vec Ideal S1x64 .f32) (ix2 0 e) = (m ((c : Thread nD τ).loc main_arg3) : Vec Ideal S64 .f32) (ix1 e) := by
  refine (read_4 c (V m c) t (ix2 0 e)).trans ((congrArg (V m c main_v42) (emb_4 t e)).trans ?_)
  rw [V_v42]
  pointwise

theorem emb_5 (t : Fin cfg0.N) (e : Fin 64) :
    (win0_5.blk t).view.emb (ix2 0 e : S1x64.Idx) = (ix2 0 e : S1x64.Idx) := by
  obtain ⟨e0, e1⟩ := idx_5 t
  funext a
  apply Fin.ext
  match a with
  | ⟨0, _⟩ => blk_simp; rw [e0]; rfl
  | ⟨1, _⟩ => blk_simp; rw [e1]; show 0 * 64 + e.val = e.val; omega

/-- A read through window 5's block, of any contents of the arrays. -/
theorem read_5 (c : Dev nD) (X : (b : Ref sig .tc) → Buf (Elt Ideal) ((c : Thread nD τ).loc b)) (t : Fin cfg0.N) (y : S1x64.Idx) :
    ((cfg0.win 5).blk t).view.read (Elt Ideal) (X (Pipeline.arrRef spec0 5)) y = X main_v43 ((win0_5.blk t).view.emb y) := rfl

/-- Window 5's block: argument 4. -/
theorem blk_5 (c : Dev nD) (t : Fin cfg0.N) (e : Fin 64) :
    (iblk m c 5 t : Vec Ideal S1x64 .f32) (ix2 0 e) = (m ((c : Thread nD τ).loc main_arg4) : Vec Ideal S64 .f32) (ix1 e) := by
  refine (read_5 c (V m c) t (ix2 0 e)).trans ((congrArg (V m c main_v43) (emb_5 t e)).trans ?_)
  rw [V_v43]
  pointwise

theorem emb_6 (t : Fin cfg0.N) (e : Fin 64) :
    (win0_6.blk t).view.emb (ix2 0 e : S1x64.Idx) = (ix2 0 e : S1x64.Idx) := by
  obtain ⟨e0, e1⟩ := idx_6 t
  funext a
  apply Fin.ext
  match a with
  | ⟨0, _⟩ => blk_simp; rw [e0]; rfl
  | ⟨1, _⟩ => blk_simp; rw [e1]; show 0 * 64 + e.val = e.val; omega

/-- A read through window 6's block, of any contents of the arrays. -/
theorem read_6 (c : Dev nD) (X : (b : Ref sig .tc) → Buf (Elt Ideal) ((c : Thread nD τ).loc b)) (t : Fin cfg0.N) (y : S1x64.Idx) :
    ((cfg0.win 6).blk t).view.read (Elt Ideal) (X (Pipeline.arrRef spec0 6)) y = X main_v44 ((win0_6.blk t).view.emb y) := rfl

/-- Window 6's block: argument 5. -/
theorem blk_6 (c : Dev nD) (t : Fin cfg0.N) (e : Fin 64) :
    (iblk m c 6 t : Vec Ideal S1x64 .f32) (ix2 0 e) = (m ((c : Thread nD τ).loc main_arg5) : Vec Ideal S64 .f32) (ix1 e) := by
  refine (read_6 c (V m c) t (ix2 0 e)).trans ((congrArg (V m c main_v44) (emb_6 t e)).trans ?_)
  rw [V_v44]
  pointwise

theorem emb_7 (t : Fin cfg0.N) (e : Fin 64) :
    (win0_7.blk t).view.emb (ix2 0 e : S1x64.Idx) = (ix2 0 e : S1x64.Idx) := by
  obtain ⟨e0, e1⟩ := idx_7 t
  funext a
  apply Fin.ext
  match a with
  | ⟨0, _⟩ => blk_simp; rw [e0]; rfl
  | ⟨1, _⟩ => blk_simp; rw [e1]; show 0 * 64 + e.val = e.val; omega

/-- A read through window 7's block, of any contents of the arrays. -/
theorem read_7 (c : Dev nD) (X : (b : Ref sig .tc) → Buf (Elt Ideal) ((c : Thread nD τ).loc b)) (t : Fin cfg0.N) (y : S1x64.Idx) :
    ((cfg0.win 7).blk t).view.read (Elt Ideal) (X (Pipeline.arrRef spec0 7)) y = X main_v45 ((win0_7.blk t).view.emb y) := rfl

/-- Window 7's block: argument 6. -/
theorem blk_7 (c : Dev nD) (t : Fin cfg0.N) (e : Fin 64) :
    (iblk m c 7 t : Vec Ideal S1x64 .f32) (ix2 0 e) = (m ((c : Thread nD τ).loc main_arg6) : Vec Ideal S64 .f32) (ix1 e) := by
  refine (read_7 c (V m c) t (ix2 0 e)).trans ((congrArg (V m c main_v45) (emb_7 t e)).trans ?_)
  rw [V_v45]
  pointwise

theorem emb_8 (t : Fin cfg0.N) (e : Fin 128) :
    (win0_8.blk t).view.emb (ix2 0 e : S1x128.Idx) = (ix2 0 e : S1x128.Idx) := by
  obtain ⟨e0, e1⟩ := idx_8 t
  funext a
  apply Fin.ext
  match a with
  | ⟨0, _⟩ => blk_simp; rw [e0]; rfl
  | ⟨1, _⟩ => blk_simp; rw [e1]; show 0 * 128 + e.val = e.val; omega

/-- A read through window 8's block, of any contents of the arrays. -/
theorem read_8 (c : Dev nD) (X : (b : Ref sig .tc) → Buf (Elt Ideal) ((c : Thread nD τ).loc b)) (t : Fin cfg0.N) (y : S1x128.Idx) :
    ((cfg0.win 8).blk t).view.read (Elt Ideal) (X (Pipeline.arrRef spec0 8)) y = X main_v46 ((win0_8.blk t).view.emb y) := rfl

/-- Window 8's block: argument 7. -/
theorem blk_8 (c : Dev nD) (t : Fin cfg0.N) (e : Fin 128) :
    (iblk m c 8 t : Vec Ideal S1x128 .f32) (ix2 0 e) = (m ((c : Thread nD τ).loc main_arg7) : Vec Ideal S128 .f32) (ix1 e) := by
  refine (read_8 c (V m c) t (ix2 0 e)).trans ((congrArg (V m c main_v46) (emb_8 t e)).trans ?_)
  rw [V_v46]
  pointwise

end Cert.KernelIdeal.Diff
end
-- ==== Proof.Diff.Array.lean ====
module

public import proofs.«01_k».proof.Proof.Diff.Blocks

/-! # The array that the launch leaves, over the reals -/

@[expose] public section

set_option maxRecDepth 16384

noncomputable section

namespace Cert.KernelIdeal.Diff

open Idealize.ShloMosaic Idealize.ShloMosaic.TcCoe
open Idealize.SL Idealize.SL.Sem
open Cert.KernelIdeal Cert.KernelIdeal.Gen
open Cert.Diff (bucketOf rowFor rowAt)

/-- A head's columns of one batch entry. -/
def headOf (a : Fin 8 → Fin 2048 → Fin 512 → ℝ) (b : Fin 8) (h : Fin 4) (s : Fin 2048) (c : Fin 128) : ℝ := a b s ⟨128 * h.val + c.val, by omega⟩

/-- A head's bias for a query and a key. -/
def biasOf (tb : Fin 32 → Fin 10 → ℝ) (h : Fin 4) (s i : Fin 2048) : ℝ := tb (rowFor s i) ⟨6 + h.val, by omega⟩

/-- The factor of the second map. -/
def lamOf (u1 k1 u2 k2 : Fin 64 → EReal) : EReal :=
  Ideal.exp (∑ i, u1 i * k1 i) - Ideal.exp (∑ i, u2 i * k2 i) + Ideal.ofBits .f32 0x3E4CCCCD#32

/-- The attention's result for batch entry `b`, query `s`, head `h` and column `e`. -/
def resultOf (qa ka va : Fin 8 → Fin 2048 → Fin 512 → ℝ) (lam : EReal) (g : Fin 128 → EReal) (tb : Fin 32 → Fin 10 → ℝ)
    (b : Fin 8) (s : Fin 2048) (h : Fin 4) (e : Fin 128) : EReal :=
  finish (diff lam (headOf qa b h) (headOf ka b h) (headOf va b h) (biasOf tb h) s) g e

/-- The body's factor at its one index. -/
theorem lam_apply (x6 x7 x8 x9 : Vec Ideal S1x64 .f32) :
    k0_pay49 x6 x7 x8 x9 (ix2 0 0) = lamOf (fun i => x6 (ix2 0 i)) (fun i => x7 (ix2 0 i)) (fun i => x8 (ix2 0 i)) (fun i => x9 (ix2 0 i)) := by
  unfold lamOf
  pointwise [k0_pay49]

variable (m : (ℓ : Loc nD τ sig) → Buf (Elt Ideal) ℓ) (c : Dev nD)

/-- A head's number, of a column. -/
def hdOf (n : Fin 512) : Fin 4 := ⟨n.val / 128, by omega⟩
def colOf (n : Fin 512) : Fin 128 := ⟨n.val % 128, by omega⟩

section Real

variable (qa ka va : Fin 8 → Fin 2048 → Fin 512 → ℝ) (tb : Fin 32 → Fin 10 → ℝ)
variable (hq : ∀ b s n, (m ((c : Thread nD τ).loc main_arg0) : Vec Ideal S8x2048x512 .f32) (ix3 b s n) = ((qa b s n : ℝ) : EReal))
variable (hk : ∀ b s n, (m ((c : Thread nD τ).loc main_arg1) : Vec Ideal S8x2048x512 .f32) (ix3 b s n) = ((ka b s n : ℝ) : EReal))
variable (hv : ∀ b s n, (m ((c : Thread nD τ).loc main_arg2) : Vec Ideal S8x2048x512 .f32) (ix3 b s n) = ((va b s n : ℝ) : EReal))
variable (ht : ∀ r n, (m ((c : Thread nD τ).loc main_arg8) : Vec Ideal S32x10 .f32) (ix2 r n) = ((tb r n : ℝ) : EReal))

/-- The factor that the launch's arguments give. -/
def lamM : EReal :=
  lamOf (fun i => (m ((c : Thread nD τ).loc main_arg3) : Vec Ideal S64 .f32) (ix1 i)) (fun i => (m ((c : Thread nD τ).loc main_arg4) : Vec Ideal S64 .f32) (ix1 i))
    (fun i => (m ((c : Thread nD τ).loc main_arg5) : Vec Ideal S64 .f32) (ix1 i)) (fun i => (m ((c : Thread nD τ).loc main_arg6) : Vec Ideal S64 .f32) (ix1 i))

/-- The gain that the launch's arguments give. -/
def gainM (e : Fin 128) : EReal := (m ((c : Thread nD τ).loc main_arg7) : Vec Ideal S128 .f32) (ix1 e)

include hq hk hv ht in
/-- What a grid step writes, of its batch entry and head. -/
theorem ptOut_apply (t : Fin cfg0.N) (s : Fin 2048) (e : Fin 128) :
    ptOut m c t (ix3 0 s e) = resultOf qa ka va (lamM m c) (gainM m c) tb (bt t) s (hd t) e := by
  unfold ptOut
  rw [bodyOut_apply (iblk m c 0 t) (iblk m c 1 t) (iblk m c 2 t) (iblk m c 3 t) (headOf qa (bt t) (hd t)) (headOf ka (bt t) (hd t)) (headOf va (bt t) (hd t)) (biasOf tb (hd t))
    (fun s e => (blk_0 m c t s e).trans (hq _ _ _)) (fun s e => (blk_1 m c t s e).trans (hk _ _ _)) (fun s e => (blk_2 m c t s e).trans (hv _ _ _))
    (fun j i r k => (blk_3 m c t j i r k).trans (ht _ _)), lam_apply]
  unfold resultOf lamM gainM
  rw [show (fun i => (iblk m c 4 t : Vec Ideal S1x64 .f32) (ix2 0 i)) = _ from funext fun i => blk_4 m c t i,
    show (fun i => (iblk m c 5 t : Vec Ideal S1x64 .f32) (ix2 0 i)) = _ from funext fun i => blk_5 m c t i,
    show (fun i => (iblk m c 6 t : Vec Ideal S1x64 .f32) (ix2 0 i)) = _ from funext fun i => blk_6 m c t i,
    show (fun i => (iblk m c 7 t : Vec Ideal S1x64 .f32) (ix2 0 i)) = _ from funext fun i => blk_7 m c t i,
    show (fun i => (iblk m c 8 t : Vec Ideal S1x128 .f32) (ix2 0 i)) = _ from funext fun i => blk_8 m c t i]

theorem emb_9 (t : Fin cfg0.N) (s : Fin 2048) (e : Fin 128) :
    (win0_9.blk t).view.emb (ix3 0 s e : S1x2048x128.Idx) = (ix3 (bt t) s (⟨128 * (hd t).val + e.val, by omega⟩ : Fin 512) : S8x2048x512.Idx) := by
  obtain ⟨e0, e1, e2⟩ := idx_9 t
  funext a
  apply Fin.ext
  match a with
  | ⟨0, _⟩ => blk_simp; rw [e0]; rfl
  | ⟨1, _⟩ => blk_simp; rw [e1]; show 0 * 2048 + s.val = s.val; omega
  | ⟨2, _⟩ => blk_simp; rw [e2]; show _ * 128 + e.val = 128 * (t.val / 8) + e.val; omega

/-- The array, as a function of the arguments. -/
def arrayOf (qa ka va : Fin 8 → Fin 2048 → Fin 512 → ℝ) (lam : EReal) (g : Fin 128 → EReal) (tb : Fin 32 → Fin 10 → ℝ) : Vec Ideal S8x2048x512 .bf16 :=
  fun y => resultOf qa ka va lam g tb ⟨(y 0).val, (y 0).isLt⟩ ⟨(y 1).val, (y 1).isLt⟩ (hdOf ⟨(y 2).val, (y 2).isLt⟩) (colOf ⟨(y 2).val, (y 2).isLt⟩)

theorem arrayOf_head (lam : EReal) (g : Fin 128 → EReal) (b : Fin 8) (s : Fin 2048) (h : Fin 4) (e : Fin 128) :
    arrayOf qa ka va lam g tb (ix3 b s (⟨128 * h.val + e.val, by omega⟩ : Fin 512)) = resultOf qa ka va lam g tb b s h e := by
  have e1 : hdOf ⟨128 * h.val + e.val, by omega⟩ = h := Fin.ext (by show (128 * h.val + e.val) / 128 = h.val; omega)
  have e2 : colOf ⟨128 * h.val + e.val, by omega⟩ = e := Fin.ext (by show (128 * h.val + e.val) % 128 = e.val; omega)
  show resultOf qa ka va lam g tb b s (hdOf ⟨128 * h.val + e.val, _⟩) (colOf ⟨128 * h.val + e.val, _⟩) = _
  rw [e1, e2]

include hq hk hv ht in
/-- The array after the launch. -/
theorem array_end : (dats m 0 c).arrAt 9 (cfgs 0).N = arrayOf qa ka va (lamM m c) (gainM m c) tb := by
  refine (dats m 0 c).arrAt_eq_of_covers 9 _ (by decide +kernel) fun t hf y => ?_
  blk_simp
  rw [left_9]
  obtain ⟨s, e, rfl⟩ : ∃ (s : Fin 2048) (e : Fin 128), y = (ix3 0 s e : S1x2048x128.Idx) := by
    refine ⟨⟨(y 1).val, (y 1).isLt⟩, ⟨(y 2).val, (y 2).isLt⟩, funext fun a => Fin.ext ?_⟩
    match a with
    | ⟨0, _⟩ => have h : (y 0).val < 1 := (y 0).isLt; show (y 0).val = 0; omega
    | ⟨1, _⟩ => rfl
    | ⟨2, _⟩ => rfl
  refine (ptOut_apply m c qa ka va tb hq hk hv ht t s e).trans (Eq.trans ?_ (congrArg (arrayOf qa ka va (lamM m c) (gainM m c) tb) (emb_9 t s e).symm))
  exact (arrayOf_head qa ka va tb (lamM m c) (gainM m c) (bt t) s (hd t) e).symm

end Real

end Cert.KernelIdeal.Diff
end
-- ==== Proof.Diff.RefRead.lean ====
module

public import proofs.«01_k».proof.Proof.Diff.Array
public import proofs.«01_k».proof.Proof.Gen.ReferenceIdeal.Run

/-! # The reference's operations at an index -/

@[expose] public section

set_option maxRecDepth 16384

noncomputable section

namespace Cert.ReferenceIdeal.Diff

open Idealize.ShloMosaic Idealize.ShloMosaic.TcCoe Idealize.ShloMosaic.StableHlo
open Cert.ReferenceIdeal Cert.ReferenceIdeal.Gen Cert.ReferenceIdeal.Value
open Cert.Diff (bucketOf rowFor rowAt)
open Cert.KernelIdeal.Diff (score average headOf biasOf lamOf diff finish resultOf arrayOf hdOf colOf shift_quotient sum_real)

/-- The maximum of real logits is real. -/
theorem top_real (X : FVec Ideal S8x4x2x2048x2048 .f32) (hX : ∀ i, ∃ r : ℝ, X i = (r : EReal)) (j : S8x4x2x2048.Idx) :
    ∃ μ : ℝ, (Host.reduce FloatOps.maximumf X (constant S_ .f32 0xFF800000#32) reducesTo_S8x4x2x2048x2048_S8x4x2x2048_d4 h_S_ : FVec Ideal S8x4x2x2048 .f32) j = (μ : EReal) := by
  rw [Host.reduce_eq_fold_single FloatOps.maximumf X _ _ (by decide) _ j]
  exact Cert.Diff.fold_real _ (fun k => hX _) _ ⟨⟨0, by decide⟩, Finset.mem_univ _⟩

/-- The exponentials of the logits less a row number. -/
theorem shifted_apply (X : FVec Ideal S8x4x2x2048x2048 .f32) (M : FVec Ideal S8x4x2x2048 .f32) (b : Fin 8) (h : Fin 4) (m : Fin 2) (s i : Fin 2048) :
    (Host.exp (subf X (broadcastInDim S8x4x2x2048x2048 ![0, 1, 2, 3, 4] bcast_S8x4x2x2048x1_S8x4x2x2048x2048_0_1_2_3_4 (broadcastInDim S8x4x2x2048x1 ![0, 1, 2, 3] bcast_S8x4x2x2048_S8x4x2x2048x1_0_1_2_3 (maximumf (broadcastInDim S8x4x2x2048 ![] bcast_S_S8x4x2x2048 (constant S_ .f32 0xFF800000#32)) M)))) : FVec Ideal S8x4x2x2048x2048 .f32) (ix5 b h m s i) = Ideal.exp (X (ix5 b h m s i) - max (Ideal.ofBits .f32 0xFF800000#32) (M (ix4 b h m s))) := by
  pointwise

/-- The product of the weights with the values. -/
theorem dot_apply (A : FVec Ideal S8x2048x4x128 .f32) (W : FVec Ideal S8x4x2048x2048 .f32) (b : Fin 8) (h : Fin 4) (s : Fin 2048) (e : Fin 128) :
    (transpose S8x2048x4x128 [0, 3, 1, 2] (Host.dotGeneral dot_S8x2048x4x128_S8x4x2048x2048_S8x4x128x2048_1_3_3_2_02_01 none A W) transposes_S8x4x128x2048_S8x2048x4x128_0_3_1_2 : FVec Ideal S8x2048x4x128 .f32) (ix4 b s h e)
      = ∑ k : Fin 2048, A (ix4 b k h e) * W (ix4 b h s k) := by
  pointwise

/-- The difference of the two weights. -/
theorem pair_apply (P : FVec Ideal S8x4x2x2048x2048 .f32) (L : FVec Ideal S_ .f32) (b : Fin 8) (h : Fin 4) (s k : Fin 2048) :
    (subf (shapeCast _ (extractStridedSlice S8x4x1x2048x2048 ![0, 0, 0, 0, 0] P slices_S8x4x2x2048x2048_S8x4x1x2048x2048_0_0_0_0_0) shapeCasts_S8x4x1x2048x2048_S8x4x2048x2048) (mulf (broadcastInDim S8x4x2048x2048 ![] bcast_S_S8x4x2048x2048 L) (shapeCast _ (extractStridedSlice S8x4x1x2048x2048 ![0, 0, 1, 0, 0] P slices_S8x4x2x2048x2048_S8x4x1x2048x2048_0_0_1_0_0) shapeCasts_S8x4x1x2048x2048_S8x4x2048x2048)) : FVec Ideal S8x4x2048x2048 .f32) (ix4 b h s k)
      = P (ix5 b h 0 s k) - L ix0 * P (ix5 b h 1 s k) := by
  pointwise

/-- The values, head by head. -/
theorem flat_apply (A : FVec Ideal S8x2048x512 .f32) (b : Fin 8) (h : Fin 4) (s : Fin 2048) (e : Fin 128) :
    (shapeCast _ A shapeCasts_S8x2048x512_S8x2048x4x128 : FVec Ideal S8x2048x4x128 .f32) (ix4 b s h e) = A (ix3 b s ⟨128 * h.val + e.val, by omega⟩) := by
  pointwise
  refine congrArg (fun n => A (ix3 b s n)) (Fin.ext ?_)
  show h.val * 128 + e.val = 128 * h.val + e.val
  omega

/-- The factor of the second weight. -/
theorem lam_apply (u1 k1 u2 k2 : FVec Ideal S64 .f32) :
    (addf (subf (Host.exp (Host.reduceAdd (mulf u1 k1) (constant S_ .f32 0x00000000#32) reducesTo_S64_S_d0 h_S_)) (Host.exp (Host.reduceAdd (mulf u2 k2) (constant S_ .f32 0x00000000#32) reducesTo_S64_S_d0 h_S_))) (constant S_ .f32 0x3E4CCCCD#32) : FVec Ideal S_ .f32) ix0
      = lamOf (fun i => u1 (ix1 i)) (fun i => k1 (ix1 i)) (fun i => u2 (ix1 i)) (fun i => k2 (ix1 i)) := by
  unfold lamOf
  pointwise

/-- The row normalisation, head by head. -/
theorem norm_apply (O : FVec Ideal S8x2048x4x128 .f32) (g : FVec Ideal S128 .f32) (b : Fin 8) (s : Fin 2048) (h : Fin 4) (e : Fin 128) :
    (mulf (mulf (mulf O (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf O O) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x3727C5AC#32)))))) (broadcastInDim S8x2048x4x128 ![0, 1, 2, 3] bcast_S1x1x1x128_S8x2048x4x128_0_1_2_3 (broadcastInDim S1x1x1x128 ![3] bcast_S128_S1x1x1x128_3 g))) (broadcastInDim S8x2048x4x128 ![] bcast_S_S8x2048x4x128 (constant S_ .f32 0x3F4CCCCD#32)) : FVec Ideal S8x2048x4x128 .f32) (ix4 b s h e)
      = finish (fun e => O (ix4 b s h e)) (fun e => g (ix1 e)) e := by
  unfold finish
  pointwise

/-- The heads side by side. -/
theorem joined_apply (X : FVec Ideal S8x2048x4x128 .f32) (b : Fin 8) (s : Fin 2048) (n : Fin 512) :
    (truncf .bf16 (shapeCast _ X shapeCasts_S8x2048x4x128_S8x2048x512) bitsLt_bf16_f32 : FVec Ideal S8x2048x512 .bf16) (ix3 b s n) = X (ix4 b s (hdOf n) (colOf n)) := by
  pointwise
  rfl

/-- The difference's factor is real when its arguments are. -/
theorem lam_real (u1 k1 u2 k2 : Fin 64 → ℝ) :
    ∃ r : ℝ, lamOf (fun i => ((u1 i : ℝ) : EReal)) (fun i => ((k1 i : ℝ) : EReal)) (fun i => ((u2 i : ℝ) : EReal)) (fun i => ((k2 i : ℝ) : EReal)) = (r : EReal) := by
  obtain ⟨z, hz⟩ : ∃ z : ℝ, Ideal.ofBits .f32 0x3E4CCCCD#32 = (z : EReal) :=
    ⟨_, by simp [Ideal.ofBits, Ideal.ieee, -EReal.coe_mul]; rfl⟩
  unfold lamOf
  simp only [← EReal.coe_mul, sum_real, Ideal.exp_coe, hz, ← EReal.coe_sub, ← EReal.coe_add]
  exact ⟨_, rfl⟩

end Cert.ReferenceIdeal.Diff
end
-- ==== Proof.Diff.Ref.lean ====
module

public import proofs.«01_k».proof.Proof.Diff.RefRead

/-! # What the reference computes, over the reals -/

@[expose] public section

set_option maxRecDepth 16384

noncomputable section

namespace Cert.ReferenceIdeal.Diff

open Idealize.ShloMosaic Idealize.ShloMosaic.TcCoe Idealize.ShloMosaic.StableHlo
open Cert.ReferenceIdeal Cert.ReferenceIdeal.Gen Cert.ReferenceIdeal.Value
open Cert.Diff (bucketOf rowFor rowAt)
open Cert.KernelIdeal.Diff (score average headOf biasOf lamOf diff finish resultOf arrayOf hdOf colOf shift_quotient sum_real)

variable (V0 : Valuation τ sig (Elt Ideal))

theorem rel_apply (s i : Fin 2048) : (res_main_v9 V0 : IVec S2048x2048 32) (ix2 s i) = IntOp.subi (BitVec.ofNat 32 i.val) (BitVec.ofNat 32 s.val) := by
  unfold res_main_v9 res_main_v3
  pointwise

theorem bucket_apply (s i : Fin 2048) : (res_main_v33 V0 : IVec S2048x2048 32) (ix2 s i) = bucketOf ((res_main_v9 V0 : IVec S2048x2048 32) (ix2 s i)) := by
  unfold res_main_v33 res_main_v13
  pointwise
  rfl

theorem eighth : Ideal.ofBits .f32 0x3E000000#32 = (((1 / 8 : ℝ)) : EReal) := by
  simp [Ideal.ofBits, Ideal.ieee, -EReal.coe_mul]
  norm_num

section Real

variable (qa ka va : Fin 8 → Fin 2048 → Fin 512 → ℝ) (tb : Fin 32 → Fin 10 → ℝ)
variable (hq : ∀ b s n, (V0 (Proc.devRef .tc main_arg0) : Vec Ideal S8x2048x512 .f32) (ix3 b s n) = ((qa b s n : ℝ) : EReal))
variable (hk : ∀ b s n, (V0 (Proc.devRef .tc main_arg1) : Vec Ideal S8x2048x512 .f32) (ix3 b s n) = ((ka b s n : ℝ) : EReal))
variable (hv : ∀ b s n, (V0 (Proc.devRef .tc main_arg2) : Vec Ideal S8x2048x512 .f32) (ix3 b s n) = ((va b s n : ℝ) : EReal))
variable (ht : ∀ r n, (V0 (Proc.devRef .tc main_arg8) : Vec Ideal S32x10 .f32) (ix2 r n) = ((tb r n : ℝ) : EReal))

include hq hk ht in
/-- The reference's logits. -/
theorem logit_apply (b : Fin 8) (h : Fin 4) (m : Fin 2) (s i : Fin 2048) :
    (res_main_v47 V0 : FVec Ideal S8x4x2x2048x2048 .f32) (ix5 b h m s i) = ((score (headOf qa b h) (headOf ka b h) (biasOf tb h) m s i : ℝ) : EReal) := by
  unfold res_main_v47
  pointwise
  have e : Host.gather gather_S32x4_S2048x2048x1_S2048x2048x4_2_0_n_n_0_2_14
        (extractStridedSlice S32x4 ![0, 6] (V0 (Proc.devRef .tc main_arg8) : Vec Ideal S32x10 .f32) slices_S32x10_S32x4_0_6)
        (broadcastInDim S2048x2048x1 ![0, 1] bcast_S2048x2048_S2048x2048x1_0_1
          (select (cmpi .slt (res_main_v33 V0 : IVec S2048x2048 32) (broadcastInDim S2048x2048 ![] bcast_S_S2048x2048 (constantI S_ 32 0#32)))
            (addi (res_main_v33 V0 : IVec S2048x2048 32) (broadcastInDim S2048x2048 ![] bcast_S_S2048x2048 (constantI S_ 32 32#32)))
            (res_main_v33 V0 : IVec S2048x2048 32))) (ix3 s i h) = ((biasOf tb h s i : ℝ) : EReal) := by
    refine (Cert.Diff.table_apply gather_S32x4_S2048x2048x1_S2048x2048x4_2_0_n_n_0_2_14_wf _ _ s i h).trans ?_
    pointwise
    rw [bucket_apply, rel_apply]
    exact ht _ _
  rw [e, eighth]
  simp only [hq, hk, ← EReal.coe_mul, sum_real, ← EReal.coe_add]
  congr 1
  unfold score headOf
  congr 2
  refine Finset.sum_congr rfl fun x _ => ?_
  congr 2 <;> apply Fin.ext
  · show h.val * 128 + m.val * 64 + x.val = 128 * h.val + (64 * m.val + x.val); omega
  · show h.val * 128 + m.val * 64 + x.val = 128 * h.val + (64 * m.val + x.val); omega

include hq hk ht in
/-- The reference's exponentials: a real shift of the logits. -/
theorem exp_apply (b : Fin 8) (h : Fin 4) (m : Fin 2) (s : Fin 2048) :
    ∃ μ : ℝ, ∀ i, (res_main_v54 V0 : FVec Ideal S8x4x2x2048x2048 .f32) (ix5 b h m s i) = ((Real.exp (score (headOf qa b h) (headOf ka b h) (biasOf tb h) m s i - μ) : ℝ) : EReal) := by
  obtain ⟨μ, hμ⟩ := top_real (res_main_v47 V0) (fun i => by
    rw [show i = ix5 (i 0) (i 1) (i 2) (i 3) (i 4) from eq_ix5 i]
    exact ⟨_, logit_apply V0 qa ka tb hq hk ht _ _ _ _ _⟩) (ix4 b h m s)
  refine ⟨μ, fun i => ?_⟩
  unfold res_main_v54
  refine (shifted_apply (res_main_v47 V0) _ b h m s i).trans ?_
  rw [logit_apply V0 qa ka tb hq hk ht, hμ, Cert.Diff.lowest, max_eq_right bot_le, ← EReal.coe_sub, Ideal.exp_coe]

include hq hk ht in
/-- The reference's weights. -/
theorem weight_apply (b : Fin 8) (h : Fin 4) (m : Fin 2) (s : Fin 2048) :
    ∃ μ : ℝ, ∀ i, (res_main_v58 V0 : FVec Ideal S8x4x2x2048x2048 .f32) (ix5 b h m s i)
      = ((Real.exp (score (headOf qa b h) (headOf ka b h) (biasOf tb h) m s i - μ) / ∑ k, Real.exp (score (headOf qa b h) (headOf ka b h) (biasOf tb h) m s k - μ) : ℝ) : EReal) := by
  obtain ⟨μ, hμ⟩ := exp_apply V0 qa ka tb hq hk ht b h m s
  refine ⟨μ, fun i => ?_⟩
  have e : (res_main_v58 V0 : FVec Ideal S8x4x2x2048x2048 .f32) (ix5 b h m s i)
      = Ideal.div ((res_main_v54 V0 : FVec Ideal S8x4x2x2048x2048 .f32) (ix5 b h m s i)) (∑ x, (res_main_v54 V0 : FVec Ideal S8x4x2x2048x2048 .f32) (ix5 b h m s x)) := by
    unfold res_main_v58
    pointwise
  have pos : (∑ k, Real.exp (score (headOf qa b h) (headOf ka b h) (biasOf tb h) m s k - μ)) ≠ 0 :=
    ne_of_gt (Finset.sum_pos (fun k _ => Real.exp_pos _) ⟨0, Finset.mem_univ _⟩)
  rw [e]
  simp only [hμ, sum_real]
  rw [Ideal.div_coe pos, ← EReal.coe_mul, mul_one_div]

include hq hk hv ht in
/-- The reference's difference of the two averages. -/
theorem out_apply (lam : ℝ) (hl : lamOf (fun i => (V0 (Proc.devRef .tc main_arg3) : FVec Ideal S64 .f32) (ix1 i)) (fun i => (V0 (Proc.devRef .tc main_arg4) : FVec Ideal S64 .f32) (ix1 i))
      (fun i => (V0 (Proc.devRef .tc main_arg5) : FVec Ideal S64 .f32) (ix1 i)) (fun i => (V0 (Proc.devRef .tc main_arg6) : FVec Ideal S64 .f32) (ix1 i)) = (lam : EReal))
    (b : Fin 8) (s : Fin 2048) (h : Fin 4) (e : Fin 128) :
    (res_main_v75 V0 : FVec Ideal S8x2048x4x128 .f32) (ix4 b s h e) = diff (lam : EReal) (headOf qa b h) (headOf ka b h) (headOf va b h) (biasOf tb h) s e := by
  obtain ⟨μ0, h0⟩ := weight_apply V0 qa ka tb hq hk ht b h 0 s
  obtain ⟨μ1, h1⟩ := weight_apply V0 qa ka tb hq hk ht b h 1 s
  unfold res_main_v75
  refine (dot_apply _ _ b h s e).trans ?_
  have t : ∀ k : Fin 2048, ∀ x y : ℝ, ((headOf va b h k e : ℝ) : EReal) * ((x : EReal) - (lam : EReal) * (y : EReal)) = ((x * headOf va b h k e - lam * (y * headOf va b h k e) : ℝ) : EReal) := by
    intro k x y
    rw [← EReal.coe_mul, ← EReal.coe_sub, ← EReal.coe_mul]
    congr 1
    ring
  refine (Finset.sum_congr (g := fun k => (((Real.exp (score (headOf qa b h) (headOf ka b h) (biasOf tb h) 0 s k - μ0) / ∑ i, Real.exp (score (headOf qa b h) (headOf ka b h) (biasOf tb h) 0 s i - μ0)) * headOf va b h k e
      - lam * ((Real.exp (score (headOf qa b h) (headOf ka b h) (biasOf tb h) 1 s k - μ1) / ∑ i, Real.exp (score (headOf qa b h) (headOf ka b h) (biasOf tb h) 1 s i - μ1)) * headOf va b h k e) : ℝ) : EReal)) rfl fun k _ => ?_).trans ?_
  · rw [flat_apply, hv]
    refine (congrArg (_ * ·) ((pair_apply (res_main_v58 V0) _ b h s k).trans ?_)).trans (t k _ _)
    rw [h0, h1]
    exact congrArg (fun z => _ - z * _) ((lam_apply _ _ _ _).trans hl)
  · rw [sum_real, Finset.sum_sub_distrib, ← Finset.mul_sum]
    unfold diff
    rw [← EReal.coe_mul, ← EReal.coe_sub]
    unfold average
    rw [← shift_quotient (score (headOf qa b h) (headOf ka b h) (biasOf tb h) 0 s) _ μ0, ← shift_quotient (score (headOf qa b h) (headOf ka b h) (biasOf tb h) 1 s) _ μ1]
    simp only [div_mul_eq_mul_div, ← Finset.sum_div]

include hq hk hv ht in
/-- The reference's result. -/
theorem result_apply (lam : ℝ) (hl : lamOf (fun i => (V0 (Proc.devRef .tc main_arg3) : FVec Ideal S64 .f32) (ix1 i)) (fun i => (V0 (Proc.devRef .tc main_arg4) : FVec Ideal S64 .f32) (ix1 i))
      (fun i => (V0 (Proc.devRef .tc main_arg5) : FVec Ideal S64 .f32) (ix1 i)) (fun i => (V0 (Proc.devRef .tc main_arg6) : FVec Ideal S64 .f32) (ix1 i)) = (lam : EReal))
    (O : FVec Ideal S8x2048x4x128 .f32) (hO : O = res_main_v75 V0) (g : FVec Ideal S128 .f32) :
    (truncf .bf16 (shapeCast _ (mulf (mulf (mulf O (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf O O) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x3727C5AC#32)))))) (broadcastInDim S8x2048x4x128 ![0, 1, 2, 3] bcast_S1x1x1x128_S8x2048x4x128_0_1_2_3 (broadcastInDim S1x1x1x128 ![3] bcast_S128_S1x1x1x128_3 g))) (broadcastInDim S8x2048x4x128 ![] bcast_S_S8x2048x4x128 (constant S_ .f32 0x3F4CCCCD#32))) shapeCasts_S8x2048x4x128_S8x2048x512) bitsLt_bf16_f32 : FVec Ideal S8x2048x512 .bf16)
      = arrayOf qa ka va (lam : EReal) (fun e => g (ix1 e)) tb := by
  funext y
  obtain ⟨b, s, n, rfl⟩ : ∃ (b : Fin 8) (s : Fin 2048) (n : Fin 512), y = ix3 b s n := ⟨y 0, y 1, y 2, eq_ix3 y⟩
  refine (joined_apply _ b s n).trans ((norm_apply O g b s (hdOf n) (colOf n)).trans ?_)
  show _ = resultOf qa ka va (lam : EReal) (fun e => g (ix1 e)) tb b s (hdOf n) (colOf n)
  unfold resultOf
  refine congrArg (fun o => finish o (fun e => g (ix1 e)) (colOf n)) (funext fun e => ?_)
  rw [hO]
  exact out_apply V0 qa ka va tb hq hk hv ht lam hl b s (hdOf n) e

end Real

end Cert.ReferenceIdeal.Diff
end
-- ==== Proof.Diff.Finite.lean ====
module

public import proofs.«01_k».proof.Defs
public import proofs.«01_k».proof.Proof.Gen.Pre_finite
public import Idealize.ShloMosaic.Lib.ReduceAll
public import Idealize.ShloMosaic.Lib.Affine
public import Idealize.ShloMosaic.PureOps.Ideal.Laws
public import Idealize.ShloMosaic.Lib.Pointwise.Index

/-! # The precondition: the elements are real numbers -/

@[expose] public section

set_option maxRecDepth 16384

noncomputable section

namespace Cert.Diff

open Idealize.ShloMosaic
open Cert.Pre_finite Cert.Pre_finite.Gen

/-- An extended real strictly between two others is a real. -/
theorem between_real (x y z : EReal) (h : IntOp.andi (Ideal.cmp .ogt x y) (Ideal.cmp .olt x z) = 1#1) : ∃ r : ℝ, x = (r : EReal) := by
  obtain ⟨h1, h2⟩ := IntOp.andi_eq_one.1 h
  have a : y < x := by
    by_contra n
    exact absurd (h1.symm.trans (show BitVec.ofBool (decide (y < x)) = 0#1 by rw [decide_eq_false n]; rfl)) (by decide)
  have b : x < z := by
    by_contra n
    exact absurd (h2.symm.trans (show BitVec.ofBool (decide (x < z)) = 0#1 by rw [decide_eq_false n]; rfl)) (by decide)
  exact ⟨x.toReal, (EReal.coe_toReal (ne_of_lt (lt_of_lt_of_le b le_top)) (ne_of_gt (lt_of_le_of_lt bot_le a))).symm⟩

/-- A checked array holds real numbers. -/
theorem all_real {s : Shape} {axes : List (Fin s.rank)} (x : FVec Ideal s .f32) (h : s.ReducesTo axes S_) (hb : S_.BroadcastsInDim s (![] : Fin 0 → Fin s.rank))
    (e : (Host.reduce IntOp.andi (andi (cmpf .ogt x (broadcastInDim s ![] hb (constant S_ .f32 0xFF800000#32))) (cmpf .olt x (broadcastInDim s ![] hb (constant S_ .f32 0x7F800000#32))))
      (constantI S_ 1 1#1) h h_S_ : IVec S_ 1) ix0 = 1#1) (i : s.Idx) : ∃ r : ℝ, x i = (r : EReal) :=
  between_real _ _ _ (Host.reduce_andi_all _ _ _ _ _ e i)

/-- The precondition, argument by argument. -/
theorem args_real (a0 a1 a2 : FVec Ideal S8x2048x512 .f32) (a3 a4 a5 a6 : FVec Ideal S64 .f32) (a7 : FVec Ideal S128 .f32) (a8 : FVec Ideal S32x10 .f32)
    (e : Cert.Pre_finite.fn a0 a1 a2 a3 a4 a5 a6 a7 a8 ix0 = 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) ∧ (∀ i, ∃ r : ℝ, a8 i = (r : EReal)) := by
  obtain ⟨e, h8⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  obtain ⟨e, h0⟩ := IntOp.andi_eq_one.1 e
  exact ⟨all_real a0 _ _ h0, all_real a1 _ _ h1, all_real a2 _ _ h2, all_real a3 _ _ h3, all_real a4 _ _ h4, all_real a5 _ _ h5, all_real a6 _ _ h6, all_real a8 _ _ h8⟩

end Cert.Diff
end
-- ==== Proof.Diff.Equal.lean ====
module

public import proofs.«01_k».proof.Proof.Diff.Ref
public import proofs.«01_k».proof.Proof.Diff.Finite
public import proofs.«01_k».proof.Proof.Diff.Words
public import Idealize.ShloMosaic.Lib.Claim

/-! # The kernel's result is the reference's -/

@[expose] public section

set_option maxRecDepth 16384

noncomputable section

namespace Cert.Proof

open Idealize.ShloMosaic Idealize.ShloMosaic.TcCoe Idealize.ShloMosaic.StableHlo Idealize.SL.Sem
open Cert.KernelIdeal.Diff

/-- The arguments of a device under the precondition. -/
structure Args (m : (ℓ : Loc Cert.KernelIdeal.nD Cert.KernelIdeal.τ Cert.KernelIdeal.sig) → Buf (Elt Ideal) ℓ) (c : Dev Cert.KernelIdeal.nD) where
  qa : Fin 8 → Fin 2048 → Fin 512 → ℝ
  ka : Fin 8 → Fin 2048 → Fin 512 → ℝ
  va : Fin 8 → Fin 2048 → Fin 512 → ℝ
  tb : Fin 32 → Fin 10 → ℝ
  lam : ℝ
  hq : ∀ b s n, (m ((c : Thread Cert.KernelIdeal.nD Cert.KernelIdeal.τ).loc Cert.KernelIdeal.main_arg0) : Vec Ideal Cert.KernelIdeal.S8x2048x512 .f32) (ix3 b s n) = ((qa b s n : ℝ) : EReal)
  hk : ∀ b s n, (m ((c : Thread Cert.KernelIdeal.nD Cert.KernelIdeal.τ).loc Cert.KernelIdeal.main_arg1) : Vec Ideal Cert.KernelIdeal.S8x2048x512 .f32) (ix3 b s n) = ((ka b s n : ℝ) : EReal)
  hv : ∀ b s n, (m ((c : Thread Cert.KernelIdeal.nD Cert.KernelIdeal.τ).loc Cert.KernelIdeal.main_arg2) : Vec Ideal Cert.KernelIdeal.S8x2048x512 .f32) (ix3 b s n) = ((va b s n : ℝ) : EReal)
  ht : ∀ r n, (m ((c : Thread Cert.KernelIdeal.nD Cert.KernelIdeal.τ).loc Cert.KernelIdeal.main_arg8) : Vec Ideal Cert.KernelIdeal.S32x10 .f32) (ix2 r n) = ((tb r n : ℝ) : EReal)
  hl : lamM m c = (lam : EReal)

theorem args_of [Cert.KernelIdeal.Facts] [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Nonempty (Args m c) := by
  obtain ⟨h0, h1, h2, h3, h4, h5, h6, h8⟩ := Cert.Diff.args_real _ _ _ _ _ _ _ _ _ (congrFun (h c) ix0)
  choose q hq using h0
  choose k hk using h1
  choose v hv using h2
  choose u1 hu1 using h3
  choose k1 hk1 using h4
  choose u2 hu2 using h5
  choose k2 hk2 using h6
  choose t ht using h8
  obtain ⟨r, hr⟩ := Cert.ReferenceIdeal.Diff.lam_real (fun i => u1 (ix1 i)) (fun i => k1 (ix1 i)) (fun i => u2 (ix1 i)) (fun i => k2 (ix1 i))
  refine ⟨⟨fun b s n => q (ix3 b s n), fun b s n => k (ix3 b s n), fun b s n => v (ix3 b s n), fun a b => t (ix2 a b), r,
    fun b s n => hq _, fun b s n => hk _, fun b s n => hv _, fun a b => ht _, ?_⟩⟩
  refine Eq.trans ?_ hr
  unfold lamM
  rw [funext fun i : Fin 64 => hu1 (ix1 i), funext fun i : Fin 64 => hk1 (ix1 i), funext fun i : Fin 64 => hu2 (ix1 i), funext fun i : Fin 64 => hk2 (ix1 i)]

theorem equal : Cert.algebraic_KernelIdeal_ReferenceIdeal_pre_finite := by
  intro m g m' g' hp ha
  choose A _ using fun c => (args_of m hp c).elim fun a => (⟨a, trivial⟩ : ∃ a : Args m c, True)
  refine ⟨fun c => arrayOf (A c).qa (A c).ka (A c).va ((A c).lam : EReal) (gainM m c) (A c).tb, ?_, ?_⟩
  · refine (θ_run _ _ _).mono (fun r h c => ⟨?_, h.1.1 c⟩) (θ_run_and (Cert.KernelIdeal.Diff.frame_any m g) (Cert.KernelIdeal.Diff.run m g))
    refine ((h.2.1 c).1 9).trans ?_
    exact ((array_end m c (A c).qa (A c).ka (A c).va (A c).tb (A c).hq (A c).hk (A c).hv (A c).ht).trans (congrArg (fun l => arrayOf (A c).qa (A c).ka (A c).va l (gainM m c) (A c).tb) (A c).hl) : _)
  · refine (θ_run _ _ _).mono (fun r h c => ⟨?_, (h c).2⟩) (Cert.ReferenceIdeal.Value.run m' g')
    refine (h c).1.trans ?_
    obtain ⟨e0, e1, e2, e3, e4, e5, e6, e7, e8⟩ := ha c
    have hg : gainM m c = fun e => (launchContents m' c (Proc.devRef .tc Cert.ReferenceIdeal.main_arg7) : FVec Ideal Cert.ReferenceIdeal.S128 .f32) (ix1 e) :=
      funext fun e => (congrFun e7 (ix1 e)).symm
    beta_reduce
    rw [hg]
    refine Cert.ReferenceIdeal.Diff.result_apply (launchContents m' c) (A c).qa (A c).ka (A c).va (A c).tb
      (fun b s n => (congrFun e0 (ix3 b s n)).trans ((A c).hq b s n)) (fun b s n => (congrFun e1 (ix3 b s n)).trans ((A c).hk b s n))
      (fun b s n => (congrFun e2 (ix3 b s n)).trans ((A c).hv b s n)) (fun a n => (congrFun e8 (ix2 a n)).trans ((A c).ht a n)) (A c).lam ?_ _ rfl _
    refine Eq.trans ?_ (A c).hl
    unfold lamM
    congr 1 <;> funext i
    · exact congrFun e3 (ix1 i)
    · exact congrFun e4 (ix1 i)
    · exact congrFun e5 (ix1 i)
    · exact congrFun e6 (ix1 i)

end Cert.Proof
end
-- ==== Proof.Merge.Words.lean ====
module

public import proofs.«01_k».proof.Defs
public import proofs.«01_k».proof.Proof.Gen.Merge
public import proofs.«01_k».proof.Proof.Gen.MergeIdeal
public import proofs.«01_k».proof.Proof.Gen.MergeIdeal.Frame

/-! # The merge's frame, from the run over any scalars -/

@[expose] public section

set_option maxRecDepth 16384

noncomputable section

namespace Cert.Proof.Merge

open Idealize.ShloMosaic Idealize.SL.Sem

/-- The two programs' kernel functions are one function over the words. -/
theorem body_words : Cert.MergeIdeal.cc0_merge_ffn_final (F := Bits) = Cert.Merge.cc0_merge_ffn_final (F := Bits) := rfl

/-- So are their tables of kernel functions, -/
theorem rows_words : Cert.MergeIdeal.defs₀ (F := Bits) = Cert.Merge.defs₀ (F := Bits) := by
  unfold Cert.MergeIdeal.defs₀ Cert.Merge.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so the whole tables. -/
theorem defs_words : Cert.MergeIdeal.defs (F := Bits) = Cert.Merge.defs (F := Bits) :=
  congrArg (Idealize.ShloMosaic.Pipeline.defs Cert.Merge.pcfgs) rows_words

set_option maxHeartbeats 4000000 in
theorem main_words : Cert.MergeIdeal.main (F := Bits) = Cert.Merge.main (F := Bits) := by
  exact rfl

/-- The merge's frame: the two programs have one text, so the one run serves. -/
theorem frame : Cert.quiescent_Merge := fun m ρ _ => by
  have h := Cert.MergeIdeal.Gen.frame (F := Bits) m ρ
  rw [defs_words, main_words] at h
  exact h

end Cert.Proof.Merge
end
-- ==== Proof.Merge.Row.lean ====
module

public import Idealize.ShloMosaic.Lib.Pointwise

/-! # One row of the merge and its feed-forward step, over the reals

Both programs compute every row of the result from the same row of the residual stream, of the three mixers'
outputs and of the gates. These are the formulas of one row. -/

@[expose] public section

noncomputable section

namespace Cert.Merge

open Idealize.ShloMosaic

/-- The residual row plus the projected, gated sum of the three branches. -/
def resid (x f : Fin 1024 → EReal) (b : Fin 128 → EReal) (c : Fin 512 → EReal) (ga gb gc : Fin 1024 → EReal)
    (wa : Fin 1024 → Fin 1024 → EReal) (wb : Fin 128 → Fin 1024 → EReal) (wc : Fin 512 → Fin 1024 → EReal) (wo : Fin 1024 → Fin 1024 → EReal)
    (d : Fin 1024) : EReal :=
  x d + ∑ k, (ga k * (∑ i, f i * wa i k) + gb k * (∑ i, b i * wb i k) + gc k * (∑ i, c i * wc i k)) * wo k d

/-- The root-mean-square normalisation of a row, with its gain. -/
def rowNorm (v g : Fin 1024 → EReal) (d : Fin 1024) : EReal :=
  v d * Ideal.rsqrt (Ideal.div (∑ i, v i * v i) (Ideal.ofBits .f32 0x44800000#32) + Ideal.ofBits .f32 0x358637BD#32) * g d

/-- A hidden unit: the gated product of two projections. -/
def gated (h wg wu : Fin 1024 → EReal) : EReal :=
  (∑ k, h k * wg k) * Ideal.logistic (∑ k, h k * wg k) * (∑ k, h k * wu k)

theorem gated_congr {h h' wg wg' wu wu' : Fin 1024 → EReal} (e : ∀ k, h k = h' k) (eg : ∀ k, wg k = wg' k) (eu : ∀ k, wu k = wu' k) :
    gated h wg wu = gated h' wg' wu' := by
  rw [funext e, funext eg, funext eu]

/-- A row plus half of the projected hidden units. -/
def step (x : Fin 1024 → EReal) (a : Fin 2816 → EReal) (wd : Fin 2816 → Fin 1024 → EReal) (d : Fin 1024) : EReal :=
  x d + Ideal.ofBits .f32 0x3F000000#32 * ∑ n, a n * wd n d

/-- A row of the result, from the row after the merge. -/
def final (r g : Fin 1024 → EReal) (wg wu : Fin 1024 → Fin 2816 → EReal) (wd : Fin 2816 → Fin 1024 → EReal) (gf : Fin 1024 → EReal) : Fin 1024 → EReal :=
  rowNorm (step r (fun n => gated (rowNorm r g) (fun k => wg k n) (fun k => wu k n)) wd) gf

end Cert.Merge
end
-- ==== Proof.Merge.Pay.lean ====
module

public import proofs.«01_k».proof.Proof.Gen.MergeIdeal.Skeleton
public import proofs.«01_k».proof.Proof.Merge.Row

/-! # The kernel's printed values at an index -/

@[expose] public section

set_option maxRecDepth 16384

noncomputable section

namespace Cert.MergeIdeal.Merge

open Idealize.ShloMosaic Idealize.ShloMosaic.TcCoe
open Cert.MergeIdeal Cert.MergeIdeal.Gen Cert.Merge

/-- The gated sum of the three branches. -/
theorem merged_apply (f : Vec Ideal S512x1024 .bf16) (wa : Vec Ideal S1024x1024 .bf16) (b : Vec Ideal S512x128 .bf16) (wb : Vec Ideal S128x1024 .bf16)
    (c : Vec Ideal S512x512 .bf16) (wc : Vec Ideal S512x1024 .bf16) (ga gb gc : Vec Ideal S512x1024 .bf16) (r : Fin 512) (k : Fin 1024) :
    k0_pay4 f wa b wb c wc ga gb gc (ix2 r k)
      = ga (ix2 r k) * (∑ i : Fin 1024, f (ix2 r i) * wa (ix2 i k)) + gb (ix2 r k) * (∑ i : Fin 128, b (ix2 r i) * wb (ix2 i k)) + gc (ix2 r k) * (∑ i : Fin 512, c (ix2 r i) * wc (ix2 i k)) := by
  unfold k0_pay4
  pointwise

/-- The residual row plus a projected row. -/
theorem resid_apply (x : FVec Ideal S512x1024 .f32) (y : FVec Ideal S512x1024 .bf16) (w : FVec Ideal S1024x1024 .bf16) (r : Fin 512) (d : Fin 1024) :
    k0_pay6 x y w (ix2 r d) = x (ix2 r d) + ∑ k : Fin 1024, y (ix2 r k) * w (ix2 k d) := by
  unfold k0_pay6
  pointwise

theorem same3 (x : Vec Ideal S512x1024 .f32) : k0_pay3 x = x := by
  funext y
  idx_vars y
  unfold k0_pay3
  pointwise

theorem same5 (x : Vec Ideal S1024x1024 .bf16) : k0_pay5 x = x := by
  funext y
  idx_vars y
  unfold k0_pay5
  pointwise

/-- The upper 256 rows, normalised. -/
theorem upper_apply (x : FVec Ideal S512x1024 .f32) (y : FVec Ideal S512x1024 .bf16) (w : FVec Ideal S1024x1024 .bf16) (g : Vec Ideal S1x1024 .f32) (r : Fin 256) (d : Fin 1024) :
    k0_pay7 x y w g (ix2 r d) = rowNorm (fun d => k0_pay6 x y w (ix2 ⟨r.val, by omega⟩ d)) (fun d => g (ix2 0 d)) d := by
  unfold k0_pay7 rowNorm
  generalize k0_pay6 x y w = v
  pointwise

/-- The lower 256 rows, normalised. -/
theorem lower_apply (x : FVec Ideal S512x1024 .f32) (y : FVec Ideal S512x1024 .bf16) (w : FVec Ideal S1024x1024 .bf16) (g : Vec Ideal S1x1024 .f32) (r : Fin 256) (d : Fin 1024) :
    k0_pay8 x y w g (ix2 r d) = rowNorm (fun d => k0_pay6 x y w (ix2 ⟨256 + r.val, by omega⟩ d)) (fun d => g (ix2 0 d)) d := by
  unfold k0_pay8 rowNorm
  generalize k0_pay6 x y w = v
  pointwise

/-- All 512 rows, normalised: the two halves are put together. -/
theorem both_apply (x : FVec Ideal S512x1024 .f32) (y : FVec Ideal S512x1024 .bf16) (w : FVec Ideal S1024x1024 .bf16) (g : Vec Ideal S1x1024 .f32) (r : Fin 512) (d : Fin 1024) :
    k0_pay9 x y w g g (ix2 r d) = rowNorm (fun d => k0_pay6 x y w (ix2 r d)) (fun d => g (ix2 0 d)) d := by
  by_cases h : r.val < 256
  · refine Eq.trans ?_ (upper_apply x y w g ⟨r.val, h⟩ d)
    unfold k0_pay9
    generalize k0_pay7 x y w g = u
    generalize k0_pay8 x y w g = v
    pointwise
    exact dif_pos h
  · refine Eq.trans ?_ ((lower_apply x y w g ⟨r.val - 256, by omega⟩ d).trans ?_)
    unfold k0_pay9
    generalize k0_pay7 x y w g = u
    generalize k0_pay8 x y w g = v
    pointwise
    · exact dif_neg h
    · have e : (⟨256 + (r.val - 256), by omega⟩ : Fin 512) = r := Fin.ext (by show 256 + (r.val - 256) = r.val; omega)
      exact congrArg (fun r => rowNorm (fun d => k0_pay6 x y w (ix2 r d)) (fun d => g (ix2 0 d)) d) e

/-- A column chunk of hidden units, for all 512 rows. -/
theorem chunk_apply (h : FVec Ideal S512x1024 .bf16) (wg wu : Vec Ideal S1024x256 .bf16) (r : Fin 512) (n : Fin 256) :
    k0_pay14 h wg wu (ix2 r n) = gated (fun k => h (ix2 r k)) (fun k => wg (ix2 k n)) (fun k => wu (ix2 k n)) := by
  unfold k0_pay14 gated
  pointwise

/-- The first column chunk, for 256 rows. -/
theorem half_apply (h : FVec Ideal S256x1024 .bf16) (wg wu : Vec Ideal S1024x256 .bf16) (r : Fin 256) (n : Fin 256) :
    k0_pay13 h wg wu (ix2 r n) = gated (fun k => h (ix2 r k)) (fun k => wg (ix2 k n)) (fun k => wu (ix2 k n)) := by
  unfold k0_pay13 gated
  pointwise

/-- The rows of the result. -/
theorem final_apply (v : FVec Ideal S512x1024 .f32) (a : Vec Ideal S512x2816 .bf16) (w : Vec Ideal S2816x1024 .bf16) (g : Vec Ideal S1x1024 .f32) (r : Fin 512) (d : Fin 1024) :
    k0_pay2 v a w g (ix2 r d) = rowNorm (step (fun d => v (ix2 r d)) (fun n => a (ix2 r n)) (fun n d => w (ix2 n d))) (fun d => g (ix2 0 d)) d := by
  unfold k0_pay2 rowNorm step
  pointwise

end Cert.MergeIdeal.Merge
end
-- ==== Proof.Merge.Body.lean ====
module

public import proofs.«01_k».proof.Proof.Gen.MergeIdeal.Value
public import proofs.«01_k».proof.Proof.Merge.Pay
public import Idealize.ShloMosaic.Lib.Pipeline.ValueKit.Basic
public import Idealize.ShloMosaic.Lib.Pipeline.ValueKit.Tiles

/-! # What a grid step of the merge leaves -/

@[expose] public section

set_option maxRecDepth 16384

noncomputable section

namespace Cert.MergeIdeal.Merge

open Idealize.ShloMosaic Idealize.ShloMosaic.TcCoe Idealize.ShloMosaic.Tactic
open Cert.MergeIdeal Cert.MergeIdeal.Gen Cert.Merge

/-- Columns `o … o + 1023` of the gates. -/
def gateAt (g : Vec Ideal S512x3072 .bf16) (o : ℕ) (ho : o + 1024 ≤ 3072) (r : Fin 512) (k : Fin 1024) : EReal :=
  g (ix2 r ⟨o + k.val, by omega⟩)

theorem gate_apply (g : Vec Ideal S512x3072 .bf16) (o : ℕ) (ho : o + 1024 ≤ 3072) (inb : ∀ a, (![0, o] : Fin 2 → ℕ) a + S512x1024.size a ≤ S512x3072.size a) (r : Fin 512) (k : Fin 1024) :
    View.ld g (Rect.unit ![0, o] S512x1024.size inb) (ix2 r k) = gateAt g o ho r k := by
  refine View.ld_unit_apply_of g _ _ inb _ _ fun a => ?_
  match a with
  | ⟨0, _⟩ => show r.val = 0 + r.val; omega
  | ⟨1, _⟩ => rfl

/-- Which entries a rectangle of the scratch holds. -/
theorem mem_scratch (a b s t : ℕ) (inb : ∀ i, (![a, b] : Fin 2 → ℕ) i + (![s, t] : Fin 2 → ℕ) i ≤ S512x2816.size i) (r : Fin 512) (n : Fin 2816) :
    ix2 r n ∈ (Rect.unit (s := S512x2816) ![a, b] ![s, t] inb).set ↔ (a ≤ r.val ∧ r.val < a + s) ∧ b ≤ n.val ∧ n.val < b + t := by
  rw [Rect.mem_set_unit]
  exact Fin.forall_fin_two

/-- A row after the merge, from the blocks a grid step reads. -/
def residOf (x0 : Vec Ideal S512x1024 .f32) (x1 : Vec Ideal S512x1024 .bf16) (x2 : Vec Ideal S512x128 .bf16) (x3 : Vec Ideal S512x512 .bf16) (x4 : Vec Ideal S512x3072 .bf16)
    (x5 : Vec Ideal S1024x1024 .bf16) (x6 : Vec Ideal S128x1024 .bf16) (x7 : Vec Ideal S512x1024 .bf16) (x8 : Vec Ideal S1024x1024 .bf16) (r : Fin 512) : Fin 1024 → EReal :=
  resid (fun k => x0 (ix2 r k)) (fun k => x1 (ix2 r k)) (fun k => x2 (ix2 r k)) (fun k => x3 (ix2 r k))
    (gateAt x4 0 (by omega) r) (gateAt x4 1024 (by omega) r) (gateAt x4 2048 (by omega) r)
    (fun i k => x5 (ix2 i k)) (fun i k => x6 (ix2 i k)) (fun i k => x7 (ix2 i k)) (fun i k => x8 (ix2 i k))

section Hidden

variable (x : FVec Ideal S512x1024 .f32) (y : FVec Ideal S512x1024 .bf16) (w : FVec Ideal S1024x1024 .bf16) (g : Vec Ideal S1x1024 .f32) (wg wu : Vec Ideal S1024x2816 .bf16)

/-- The hidden units a row leaves in the scratch. -/
def hid (r : Fin 512) (n : Fin 2816) : EReal :=
  gated (rowNorm (fun d => k0_pay6 x y w (ix2 r d)) (fun d => g (ix2 0 d))) (fun k => wg (ix2 k n)) (fun k => wu (ix2 k n))

/-- A column chunk of a weight, at an index. -/
theorem cols_apply (w : Vec Ideal S1024x2816 .bf16) (o : ℕ) (inb : ∀ a, (![0, o] : Fin 2 → ℕ) a + S1024x256.size a ≤ S1024x2816.size a) (k : Fin 1024) (n : Fin 256) (n' : Fin 2816) (hn : n'.val = o + n.val) :
    View.ld w (Rect.unit ![0, o] S1024x256.size inb) (ix2 k n) = w (ix2 k n') := by
  refine View.ld_unit_apply_of w _ _ inb _ _ fun a => ?_
  match a with
  | ⟨0, _⟩ => show k.val = 0 + k.val; omega
  | ⟨1, _⟩ => exact hn

/-- A chunk of 256 columns and all rows holds the hidden units there. -/
theorem chunk_at (o : ℕ) (inb : ∀ a, (![0, o] : Fin 2 → ℕ) a + S1024x256.size a ≤ S1024x2816.size a) (r : Fin 512) (n : Fin 2816) :
    View.TileAt (S := S512x2816) (Val := Elt Ideal) (e := .bf16) (ix2 r n) ![0, o] ![512, 256]
      (k0_pay14 (k0_pay9 x y w g g) (View.ld wg (Rect.unit ![0, o] S1024x256.size inb)) (View.ld wu (Rect.unit ![0, o] S1024x256.size inb))) (hid x y w g wg wu r n) := by
  intro z hz
  obtain ⟨r', n', rfl⟩ : ∃ (r' : Fin 512) (n' : Fin 256), z = ix2 r' n' := ⟨z 0, z 1, eq_ix2 z⟩
  have h0 : r.val = 0 + r'.val := hz 0
  have h1 : n.val = o + n'.val := hz 1
  have hr : r' = r := Fin.ext (by omega)
  subst hr
  refine (chunk_apply _ _ _ r' n').trans ?_
  exact gated_congr (fun k => both_apply x y w g r' k) (fun k => cols_apply wg o inb k n' n h1) (fun k => cols_apply wu o inb k n' n h1)

/-- The first chunk's upper half. -/
theorem upper_at (inb : ∀ a, (![0, 0] : Fin 2 → ℕ) a + S1024x256.size a ≤ S1024x2816.size a) (r : Fin 512) (n : Fin 2816) :
    View.TileAt (S := S512x2816) (Val := Elt Ideal) (e := .bf16) (ix2 r n) ![0, 0] ![256, 256]
      (k0_pay13 (k0_pay7 x y w g) (View.ld wg (Rect.unit ![0, 0] S1024x256.size inb)) (View.ld wu (Rect.unit ![0, 0] S1024x256.size inb))) (hid x y w g wg wu r n) := by
  intro z hz
  obtain ⟨r', n', rfl⟩ : ∃ (r' : Fin 256) (n' : Fin 256), z = ix2 r' n' := ⟨z 0, z 1, eq_ix2 z⟩
  have h0 : r.val = 0 + r'.val := hz 0
  have h1 : n.val = 0 + n'.val := hz 1
  have hb : r'.val < 512 := by omega
  have hr : r = ⟨r'.val, hb⟩ := Fin.ext (by show r.val = r'.val; omega)
  subst hr
  refine (half_apply _ _ _ r' n').trans ?_
  exact gated_congr (fun k => upper_apply x y w g r' k) (fun k => cols_apply wg 0 inb k n' n h1) (fun k => cols_apply wu 0 inb k n' n h1)

/-- The first chunk's lower half. -/
theorem lower_at (inb : ∀ a, (![0, 0] : Fin 2 → ℕ) a + S1024x256.size a ≤ S1024x2816.size a) (r : Fin 512) (n : Fin 2816) :
    View.TileAt (S := S512x2816) (Val := Elt Ideal) (e := .bf16) (ix2 r n) ![256, 0] ![256, 256]
      (k0_pay13 (k0_pay8 x y w g) (View.ld wg (Rect.unit ![0, 0] S1024x256.size inb)) (View.ld wu (Rect.unit ![0, 0] S1024x256.size inb))) (hid x y w g wg wu r n) := by
  intro z hz
  obtain ⟨r', n', rfl⟩ : ∃ (r' : Fin 256) (n' : Fin 256), z = ix2 r' n' := ⟨z 0, z 1, eq_ix2 z⟩
  have h0 : r.val = 256 + r'.val := hz 0
  have h1 : n.val = 0 + n'.val := hz 1
  have hb : 256 + r'.val < 512 := by omega
  have hr : r = ⟨256 + r'.val, hb⟩ := Fin.ext h0
  subst hr
  refine (half_apply _ _ _ r' n').trans ?_
  exact gated_congr (fun k => lower_apply x y w g r' k) (fun k => cols_apply wg 0 inb k n' n h1) (fun k => cols_apply wu 0 inb k n' n h1)

end Hidden

/-- What a grid step leaves in the result's window, row by row. -/
theorem left (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x128 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S1024x1024 .bf16) (harg6 : arg6.IsWhole) (arg7 : Memref sig .tc .vmem S128x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x2816 .bf16) (harg11 : arg11.IsWhole) (arg12 : Memref sig .tc .vmem S1024x2816 .bf16) (harg12 : arg12.IsWhole) (arg13 : Memref sig .tc .vmem S2816x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S512x2816 .bf16) (harg16 : arg16.IsWhole)
    (x0 : Vec Ideal S512x1024 .f32) (x1 : Vec Ideal S512x1024 .bf16) (x2 : Vec Ideal S512x128 .bf16) (x3 : Vec Ideal S512x512 .bf16) (x4 : Vec Ideal S512x3072 .bf16) (x5 : Vec Ideal S1024x1024 .bf16) (x6 : Vec Ideal S128x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (x13 : Vec Ideal S1x1024 .f32) (r : Fin 512) (d : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 (ix2 r d)
      = final (residOf x0 x1 x2 x3 x4 x5 x6 x7 x8 r) (fun d => x9 (ix2 0 d)) (fun k n => x10 (ix2 k n)) (fun k n => x11 (ix2 k n)) (fun n d => x12 (ix2 n d)) (fun d => x13 (ix2 0 d)) d := by
  unfold out0_A_14
  rw [View.read_writes_eq_canon _ _ _ (fun y => cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine (congrFun (View.canon_cons_unit_lit (Val := Elt Ideal) _ _ _ (by decide)) _).trans ?_
  simp only [View.ld_unit_lit (S := S512x1024) inb_S512x1024_S512x1024_0_0 _ (by decide), View.ld_unit_lit (S := S1024x1024) inb_S1024x1024_S1024x1024_0_0 _ (by decide),
    View.ld_unit_lit (S := S512x128) inb_S512x128_S512x128_0_0 _ (by decide), View.ld_unit_lit (S := S128x1024) inb_S128x1024_S128x1024_0_0 _ (by decide),
    View.ld_unit_lit (S := S512x512) inb_S512x512_S512x512_0_0 _ (by decide), View.ld_unit_lit (S := S1x1024) inb_S1x1024_S1x1024_0_0 _ (by decide),
    View.ld_unit_lit (S := S2816x1024) inb_S2816x1024_S2816x1024_0_0 _ (by decide), same3, same5]
  have hres : ∀ r d, k0_pay6 x0 (k0_pay4 x1 x5 x2 x6 x3 x7 (View.ld x4 (Rect.unit ![0, 0] ![512, 1024] inb_S512x3072_S512x1024_0_0)) (View.ld x4 (Rect.unit ![0, 1024] ![512, 1024] inb_S512x3072_S512x1024_0_1024)) (View.ld x4 (Rect.unit ![0, 2048] ![512, 1024] inb_S512x3072_S512x1024_0_2048))) x8 (ix2 r d)
      = residOf x0 x1 x2 x3 x4 x5 x6 x7 x8 r d := by
    intro r d
    simp only [resid_apply, merged_apply, gate_apply x4 0 (by omega), gate_apply x4 1024 (by omega), gate_apply x4 2048 (by omega)]
    rfl
  generalize k0_pay4 x1 x5 x2 x6 x3 x7 _ _ _ = Y at hres ⊢
  refine (final_apply _ _ _ _ r d).trans ?_
  simp only [hres]
  unfold final
  generalize hA : View.readCov (Val := Elt Ideal) arg16.view _ _ = A
  have hAr : ∀ n, A (ix2 r n) = gated (rowNorm (residOf x0 x1 x2 x3 x4 x5 x6 x7 x8 r) (fun d => x9 (ix2 0 d))) (fun k => x10 (ix2 k n)) (fun k => x11 (ix2 k n)) := by
    intro n
    rw [← hA]
    unfold View.readCov
    have hcov : ∀ L : List (View.Piece (Elt Ideal) S512x2816 .bf16), (∃ p ∈ L, ix2 r n ∈ p.1.set) → View.AllAt L (ix2 r n) (hid x0 Y x8 x9 x10 x11 r n)
        → View.readAt (Elt Ideal) arg16.view (Rect.unit (s := S512x2816) ![0, 0] S512x2816.size inb_S512x2816_S512x2816_0_0).toLoadRect (arg16.view.writes (Elt Ideal) arg16.view.junk L) (ix2 r n) = hid x0 Y x8 x9 x10 x11 r n := by
      intro L hL hA
      refine Eq.trans ?_ ((View.read_writes_apply_eq_canon arg16.view arg16.view.junk (ix2 r n) L hL).trans (View.canon_eq_of_allAt L _ _ hL hA))
      refine congrArg (arg16.view.read (Elt Ideal) (arg16.view.writes (Elt Ideal) arg16.view.junk L)) (funext fun a => Fin.ext ?_)
      match a with
      | ⟨0, _⟩ => show 0 + 1 * r.val = r.val; omega
      | ⟨1, _⟩ => show 0 + 1 * n.val = n.val; omega
    refine (hcov _ ?_ ?_).trans ?_
    · simp only [List.mem_cons, exists_eq_or_imp, mem_scratch]
      omega
    · exact View.allAt_cons_unit _ _ _ _ _ (chunk_at x0 Y x8 x9 x10 x11 2560 _ r n) <| View.allAt_cons_unit _ _ _ _ _ (chunk_at x0 Y x8 x9 x10 x11 2304 _ r n) <| View.allAt_cons_unit _ _ _ _ _ (chunk_at x0 Y x8 x9 x10 x11 2048 _ r n) <| View.allAt_cons_unit _ _ _ _ _ (chunk_at x0 Y x8 x9 x10 x11 1792 _ r n) <| View.allAt_cons_unit _ _ _ _ _ (chunk_at x0 Y x8 x9 x10 x11 1536 _ r n) <| View.allAt_cons_unit _ _ _ _ _ (chunk_at x0 Y x8 x9 x10 x11 1280 _ r n) <| View.allAt_cons_unit _ _ _ _ _ (chunk_at x0 Y x8 x9 x10 x11 1024 _ r n) <| View.allAt_cons_unit _ _ _ _ _ (chunk_at x0 Y x8 x9 x10 x11 768 _ r n) <| View.allAt_cons_unit _ _ _ _ _ (chunk_at x0 Y x8 x9 x10 x11 512 _ r n) <| View.allAt_cons_unit _ _ _ _ _ (chunk_at x0 Y x8 x9 x10 x11 256 _ r n) <| View.allAt_cons_unit _ _ _ _ _ (lower_at x0 Y x8 x9 x10 x11 _ r n) <| View.allAt_cons_unit _ _ _ _ _ (upper_at x0 Y x8 x9 x10 x11 _ r n) <| View.allAt_nil _ _
    · unfold hid
      simp only [hres]
  simp only [hAr]

end Cert.MergeIdeal.Merge
end
-- ==== Proof.Merge.Array.lean ====
module

public import proofs.«01_k».proof.Proof.Merge.Blocks
public import proofs.«01_k».proof.Proof.Gen.MergeIdeal.Value

/-! # The array that the merge's launch leaves -/

@[expose] public section

set_option maxRecDepth 16384

noncomputable section

namespace Cert.Merge

open Idealize.ShloMosaic

/-- The rows after the merge, of one token. -/
def residRow (x f : (⟨3, ![8, 2048, 1024]⟩ : Shape).Idx → EReal) (b : (⟨3, ![8, 2048, 128]⟩ : Shape).Idx → EReal) (c : (⟨3, ![8, 2048, 512]⟩ : Shape).Idx → EReal)
    (g : (⟨3, ![8, 2048, 3072]⟩ : Shape).Idx → EReal) (wa wo : (⟨2, ![1024, 1024]⟩ : Shape).Idx → EReal) (wb : (⟨2, ![128, 1024]⟩ : Shape).Idx → EReal)
    (wc : (⟨2, ![512, 1024]⟩ : Shape).Idx → EReal) (e : Fin 8) (s : Fin 2048) : Fin 1024 → EReal :=
  resid (fun k => x (ix3 e s k)) (fun k => f (ix3 e s k)) (fun k => b (ix3 e s k)) (fun k => c (ix3 e s k))
    (fun k => g (ix3 e s ⟨0 + k.val, by omega⟩)) (fun k => g (ix3 e s ⟨1024 + k.val, by omega⟩)) (fun k => g (ix3 e s ⟨2048 + k.val, by omega⟩))
    (fun i k => wa (ix2 i k)) (fun i k => wb (ix2 i k)) (fun i k => wc (ix2 i k)) (fun i k => wo (ix2 i k))

/-- The layer's result for one token. -/
def resultRow (x f : (⟨3, ![8, 2048, 1024]⟩ : Shape).Idx → EReal) (b : (⟨3, ![8, 2048, 128]⟩ : Shape).Idx → EReal) (c : (⟨3, ![8, 2048, 512]⟩ : Shape).Idx → EReal)
    (g : (⟨3, ![8, 2048, 3072]⟩ : Shape).Idx → EReal) (wa : (⟨2, ![1024, 1024]⟩ : Shape).Idx → EReal) (wb : (⟨2, ![128, 1024]⟩ : Shape).Idx → EReal)
    (wc : (⟨2, ![512, 1024]⟩ : Shape).Idx → EReal) (wo : (⟨2, ![1024, 1024]⟩ : Shape).Idx → EReal) (gain : (⟨1, ![1024]⟩ : Shape).Idx → EReal)
    (wg wu : (⟨2, ![1024, 2816]⟩ : Shape).Idx → EReal) (wd : (⟨2, ![2816, 1024]⟩ : Shape).Idx → EReal) (gf : (⟨1, ![1024]⟩ : Shape).Idx → EReal)
    (e : Fin 8) (s : Fin 2048) : Fin 1024 → EReal :=
  final (residRow x f b c g wa wo wb wc e s) (fun d => gain (ix1 d)) (fun k n => wg (ix2 k n)) (fun k n => wu (ix2 k n)) (fun n d => wd (ix2 n d)) (fun d => gf (ix1 d))

end Cert.Merge

namespace Cert.MergeIdeal.Merge

open Idealize.ShloMosaic Idealize.ShloMosaic.TcCoe
open Idealize.SL Idealize.SL.Sem
open Cert.MergeIdeal Cert.MergeIdeal.Gen Cert.Merge

variable (m : (ℓ : Loc nD τ sig) → Buf (Elt Ideal) ℓ) (c : Dev nD)

/-- The result that the launch's arguments give. -/
def resultM (n : Fin 16384) (d : Fin 1024) : EReal :=
  resultRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (entryOf n) (placeOf n) d

/-- The array, as a function of the arguments. -/
def arrayOf : Vec Ideal S16384x1024 .f32 := fun y => resultM m c ⟨(y 0).val, (y 0).isLt⟩ ⟨(y 1).val, (y 1).isLt⟩

/-- What a grid step writes. -/
theorem step_apply (t : Fin cfg0.N) (r : Fin 512) (d : Fin 1024) :
    (outsAt0 m c t : Vec Ideal S512x1024 .f32) (ix2 r d) = resultM m c (rowOf t r) d := by
  unfold outsAt0
  refine (left c _ _ _ _ _ _ _ _ _ _ _ _ _ _ _ _ _ _ _ _ _ _ _ _ _ _ _ _ _ _ _ _ _ _ _ _ _ _ _ _ _ _ _ _ _ _ _ r d).trans ?_
  unfold resultM resultRow residRow residOf gateAt
  simp only [blk_0 m c t, blk_1 m c t, blk_2 m c t, blk_3 m c t, blk_4 m c t, blk_5 m c t, blk_6 m c t, blk_7 m c t, blk_8 m c t, blk_9 m c t, blk_10 m c t, blk_11 m c t, blk_12 m c t, blk_13 m c t]

theorem index_14 : ∀ t : Fin cfg0.N, win0_14.index t 0 = t.val ∧ win0_14.index t 1 = 0 := by decide +kernel
theorem place_14 (t : Fin cfg0.N) (r : Fin 512) (d : Fin 1024) : (win0_14.blk t).view.emb (ix2 r d : S512x1024.Idx) = (ix2 (rowOf t r) d : S16384x1024.Idx) := by
  obtain ⟨e0, e1⟩ := index_14 t
  funext a
  apply Fin.ext
  match a with
  | ⟨0, _⟩ => blk_simp; rw [e0]; show t.val * 512 + r.val = 512 * t.val + r.val; omega
  | ⟨1, _⟩ => blk_simp; rw [e1]; show 0 * 1024 + d.val = d.val; omega

theorem left_14 (t : Fin cfg0.N) : (dats m 0 c).after 14 t = outsAt0 m c t := after0_14 m c t

/-- The array after the launch. -/
theorem array_end : (dats m 0 c).arrAt 14 cfg0.N = arrayOf m c := by
  refine (dats m 0 c).arrAt_eq_of_covers 14 _ (by decide +kernel) fun t hf y => ?_
  blk_simp
  rw [left_14]
  obtain ⟨r, d, rfl⟩ : ∃ (r : Fin 512) (d : Fin 1024), y = (ix2 r d : S512x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_apply m c t r d).trans (Eq.trans (rfl : _ = arrayOf m c (ix2 (rowOf t r) d)) (congrArg (arrayOf m c) (place_14 t r d).symm))

end Cert.MergeIdeal.Merge
end
-- ==== Proof.Merge.RefRow.lean ====
module

public import proofs.«01_k».proof.Proof.Gen.MergeReferenceIdeal.Run
public import proofs.«01_k».proof.Proof.Merge.Row

/-! # The merge's reference at an index -/

@[expose] public section

set_option maxRecDepth 16384

noncomputable section

namespace Cert.MergeReferenceIdeal.Merge

open Idealize.ShloMosaic Idealize.ShloMosaic.TcCoe Idealize.ShloMosaic.StableHlo
open Cert.MergeReferenceIdeal Cert.MergeReferenceIdeal.Gen Cert.MergeReferenceIdeal.Value Cert.Merge

variable {F : FTy → Type} [FloatOps F]

/-- The reference's rows after the merge. -/
def residV (x f : FVec F S8x2048x1024 .f32) (b : FVec F S8x2048x128 .f32) (c : FVec F S8x2048x512 .f32) (g : FVec F S8x2048x3072 .f32)
    (wa : FVec F S1024x1024 .f32) (wb : FVec F S128x1024 .f32) (wc : FVec F S512x1024 .f32) (wo : FVec F S1024x1024 .f32) : FVec F S8x2048x1024 .f32 :=
  addf x (Host.dotGeneral dot_S8x2048x1024_S1024x1024_S8x2048x1024_2_0_01_1_n_n none (addf (addf (mulf (shapeCast _ (extractStridedSlice S8x2048x1x1024 ![0, 0, 0, 0] (shapeCast _ g shapeCasts_S8x2048x3072_S8x2048x3x1024) slices_S8x2048x3x1024_S8x2048x1x1024_0_0_0_0) shapeCasts_S8x2048x1x1024_S8x2048x1024) (Host.dotGeneral dot_S8x2048x1024_S1024x1024_S8x2048x1024_2_0_01_1_n_n none f wa)) (mulf (shapeCast _ (extractStridedSlice S8x2048x1x1024 ![0, 0, 1, 0] (shapeCast _ g shapeCasts_S8x2048x3072_S8x2048x3x1024) slices_S8x2048x3x1024_S8x2048x1x1024_0_0_1_0) shapeCasts_S8x2048x1x1024_S8x2048x1024) (Host.dotGeneral dot_S8x2048x128_S128x1024_S8x2048x1024_2_0_01_1_n_n none b wb))) (mulf (shapeCast _ (extractStridedSlice S8x2048x1x1024 ![0, 0, 2, 0] (shapeCast _ g shapeCasts_S8x2048x3072_S8x2048x3x1024) slices_S8x2048x3x1024_S8x2048x1x1024_0_0_2_0) shapeCasts_S8x2048x1x1024_S8x2048x1024) (Host.dotGeneral dot_S8x2048x512_S512x1024_S8x2048x1024_2_0_01_1_n_n none c wc))) wo)

/-- The reference's normalisation. -/
def normV (v : FVec F S8x2048x1024 .f32) (g : FVec F S1024 .f32) : FVec F S8x2048x1024 .f32 :=
  mulf (mulf v (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf v v) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The reference's hidden units. -/
def hiddenV (h : FVec F S8x2048x1024 .f32) (wg wu : FVec F S1024x2816 .f32) : FVec F S8x2048x2816 .f32 :=
  let p := Host.dotGeneral dot_S8x2048x1024_S1024x2816_S8x2048x2816_2_0_01_1_n_n none h wg
  mulf (mulf p (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf p))))) (Host.dotGeneral dot_S8x2048x1024_S1024x2816_S8x2048x2816_2_0_01_1_n_n none h wu)

/-- The reference's rows after the feed-forward step. -/
def stepV (x : FVec F S8x2048x1024 .f32) (a : FVec F S8x2048x2816 .f32) (w : FVec F S2816x1024 .f32) : FVec F S8x2048x1024 .f32 :=
  addf x (mulf (broadcastInDim S8x2048x1024 ![] bcast_S_S8x2048x1024 (constant S_ .f32 0x3F000000#32)) (Host.dotGeneral dot_S8x2048x2816_S2816x1024_S8x2048x1024_2_0_01_1_n_n none a w))

/-- The reference's rows after the last normalisation. -/
def finalV (r : FVec F S8x2048x1024 .f32) (g : FVec F S1024 .f32) (wg wu : FVec F S1024x2816 .f32) (wd : FVec F S2816x1024 .f32) (gf : FVec F S1024 .f32) : FVec F S8x2048x1024 .f32 :=
  normV (stepV r (hiddenV (normV r g) wg wu) wd) gf

theorem dotBranch_apply (f : FVec Ideal S8x2048x1024 .f32) (w : FVec Ideal S1024x1024 .f32) (b : Fin 8) (s : Fin 2048) (d : Fin 1024) :
    (Host.dotGeneral dot_S8x2048x1024_S1024x1024_S8x2048x1024_2_0_01_1_n_n none f w : FVec Ideal S8x2048x1024 .f32) (ix3 b s d) = ∑ k : Fin 1024, f (ix3 b s k) * w (ix2 k d) := by
  pointwise

theorem gate_apply0 (g : FVec Ideal S8x2048x3072 .f32) (b : Fin 8) (s : Fin 2048) (d : Fin 1024) :
    (shapeCast _ (extractStridedSlice S8x2048x1x1024 ![0, 0, 0, 0] (shapeCast _ g shapeCasts_S8x2048x3072_S8x2048x3x1024) slices_S8x2048x3x1024_S8x2048x1x1024_0_0_0_0) shapeCasts_S8x2048x1x1024_S8x2048x1024 : FVec Ideal S8x2048x1024 .f32) (ix3 b s d) = g (ix3 b s ⟨0 + d.val, by omega⟩) := by
  pointwise

theorem gate_apply1 (g : FVec Ideal S8x2048x3072 .f32) (b : Fin 8) (s : Fin 2048) (d : Fin 1024) :
    (shapeCast _ (extractStridedSlice S8x2048x1x1024 ![0, 0, 1, 0] (shapeCast _ g shapeCasts_S8x2048x3072_S8x2048x3x1024) slices_S8x2048x3x1024_S8x2048x1x1024_0_0_1_0) shapeCasts_S8x2048x1x1024_S8x2048x1024 : FVec Ideal S8x2048x1024 .f32) (ix3 b s d) = g (ix3 b s ⟨1024 + d.val, by omega⟩) := by
  pointwise

theorem gate_apply2 (g : FVec Ideal S8x2048x3072 .f32) (b : Fin 8) (s : Fin 2048) (d : Fin 1024) :
    (shapeCast _ (extractStridedSlice S8x2048x1x1024 ![0, 0, 2, 0] (shapeCast _ g shapeCasts_S8x2048x3072_S8x2048x3x1024) slices_S8x2048x3x1024_S8x2048x1x1024_0_0_2_0) shapeCasts_S8x2048x1x1024_S8x2048x1024 : FVec Ideal S8x2048x1024 .f32) (ix3 b s d) = g (ix3 b s ⟨2048 + d.val, by omega⟩) := by
  pointwise

theorem normV_apply (v : FVec Ideal S8x2048x1024 .f32) (g : FVec Ideal S1024 .f32) (b : Fin 8) (s : Fin 2048) (d : Fin 1024) :
    normV v g (ix3 b s d) = rowNorm (fun d => v (ix3 b s d)) (fun d => g (ix1 d)) d := by
  unfold normV rowNorm
  pointwise

theorem project_apply (h : FVec Ideal S8x2048x1024 .f32) (w : FVec Ideal S1024x2816 .f32) (b : Fin 8) (s : Fin 2048) (n : Fin 2816) :
    (Host.dotGeneral dot_S8x2048x1024_S1024x2816_S8x2048x2816_2_0_01_1_n_n none h w : FVec Ideal S8x2048x2816 .f32) (ix3 b s n) = ∑ k : Fin 1024, h (ix3 b s k) * w (ix2 k n) := by
  pointwise

theorem sigmoid_apply (p : FVec Ideal S8x2048x2816 .f32) (b : Fin 8) (s : Fin 2048) (n : Fin 2816) :
    (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf p))) : FVec Ideal S8x2048x2816 .f32) (ix3 b s n)
      = Ideal.logistic (p (ix3 b s n)) := by
  pointwise
  rfl

theorem hiddenV_apply (h : FVec Ideal S8x2048x1024 .f32) (wg wu : FVec Ideal S1024x2816 .f32) (b : Fin 8) (s : Fin 2048) (n : Fin 2816) :
    hiddenV h wg wu (ix3 b s n) = gated (fun k => h (ix3 b s k)) (fun k => wg (ix2 k n)) (fun k => wu (ix2 k n)) := by
  unfold hiddenV gated
  show _ * _ * _ = _
  rw [sigmoid_apply, project_apply, project_apply]

theorem stepV_apply (x : FVec Ideal S8x2048x1024 .f32) (a : FVec Ideal S8x2048x2816 .f32) (w : FVec Ideal S2816x1024 .f32) (b : Fin 8) (s : Fin 2048) (d : Fin 1024) :
    stepV x a w (ix3 b s d) = step (fun d => x (ix3 b s d)) (fun n => a (ix3 b s n)) (fun n d => w (ix2 n d)) d := by
  unfold stepV step
  pointwise

theorem finalV_apply (r : FVec Ideal S8x2048x1024 .f32) (g : FVec Ideal S1024 .f32) (wg wu : FVec Ideal S1024x2816 .f32) (wd : FVec Ideal S2816x1024 .f32) (gf : FVec Ideal S1024 .f32) (b : Fin 8) (s : Fin 2048) (d : Fin 1024) :
    finalV r g wg wu wd gf (ix3 b s d) = final (fun d => r (ix3 b s d)) (fun d => g (ix1 d)) (fun k n => wg (ix2 k n)) (fun k n => wu (ix2 k n)) (fun n d => wd (ix2 n d)) (fun d => gf (ix1 d)) d := by
  unfold finalV final
  simp only [normV_apply, stepV_apply, hiddenV_apply]

theorem residV_apply (x f : FVec Ideal S8x2048x1024 .f32) (b : FVec Ideal S8x2048x128 .f32) (c : FVec Ideal S8x2048x512 .f32) (g : FVec Ideal S8x2048x3072 .f32)
    (wa : FVec Ideal S1024x1024 .f32) (wb : FVec Ideal S128x1024 .f32) (wc : FVec Ideal S512x1024 .f32) (wo : FVec Ideal S1024x1024 .f32) (e : Fin 8) (s : Fin 2048) (d : Fin 1024) :
    residV x f b c g wa wb wc wo (ix3 e s d) = resid (fun k => x (ix3 e s k)) (fun k => f (ix3 e s k)) (fun k => b (ix3 e s k)) (fun k => c (ix3 e s k))
      (fun k => g (ix3 e s ⟨0 + k.val, by omega⟩)) (fun k => g (ix3 e s ⟨1024 + k.val, by omega⟩)) (fun k => g (ix3 e s ⟨2048 + k.val, by omega⟩))
      (fun i k => wa (ix2 i k)) (fun i k => wb (ix2 i k)) (fun i k => wc (ix2 i k)) (fun i k => wo (ix2 i k)) d := by
  unfold residV resid
  show _ + _ = _
  rw [dotBranch_apply]
  refine congrArg (fun z => x (ix3 e s d) + z) (Finset.sum_congr rfl fun k _ => congrArg (fun z => z * wo (ix2 k d)) ?_)
  show _ * _ + _ * _ + _ * _ = _
  rw [gate_apply0, gate_apply1, gate_apply2, dotBranch_apply]
  pointwise

/-- The reference's result is these stages, one after the other. -/
theorem result_eq (m : (ℓ : Loc nD τ sig) → Buf (Elt Ideal) ℓ) (c : Dev nD) :
    res_main_v51 m c = (shapeCast S16384x1024 (finalV (F := Ideal) (residV (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) shapeCasts_S8x2048x1024_S16384x1024 : FVec Ideal S16384x1024 .f32) := by
  unfold res_main_v51 finalV stepV hiddenV
  unfold normV residV
  rfl

end Cert.MergeReferenceIdeal.Merge
end
-- ==== Proof.Merge.Equal.lean ====
module

public import proofs.«01_k».proof.Defs
public import proofs.«01_k».proof.Proof.Merge.Array
public import proofs.«01_k».proof.Proof.Merge.RefRow
public import proofs.«01_k».proof.Proof.Gen.MergeReferenceIdeal
public import Idealize.ShloMosaic.Lib.Claim

/-! # The merge's result is its reference's -/

@[expose] public section

set_option maxRecDepth 16384

noncomputable section

namespace Cert.Proof.Merge

open Idealize.ShloMosaic Idealize.ShloMosaic.TcCoe Idealize.ShloMosaic.StableHlo Idealize.SL.Sem
open Cert.MergeIdeal.Merge Cert.Merge

/-- The reference's stages at one row of its result. -/
theorem stages_apply (x f : FVec Ideal Cert.MergeReferenceIdeal.S8x2048x1024 .f32) (b : FVec Ideal Cert.MergeReferenceIdeal.S8x2048x128 .f32) (c : FVec Ideal Cert.MergeReferenceIdeal.S8x2048x512 .f32)
    (g : FVec Ideal Cert.MergeReferenceIdeal.S8x2048x3072 .f32) (wa : FVec Ideal Cert.MergeReferenceIdeal.S1024x1024 .f32) (wb : FVec Ideal Cert.MergeReferenceIdeal.S128x1024 .f32)
    (wc : FVec Ideal Cert.MergeReferenceIdeal.S512x1024 .f32) (wo : FVec Ideal Cert.MergeReferenceIdeal.S1024x1024 .f32) (gain : FVec Ideal Cert.MergeReferenceIdeal.S1024 .f32)
    (wg wu : FVec Ideal Cert.MergeReferenceIdeal.S1024x2816 .f32) (wd : FVec Ideal Cert.MergeReferenceIdeal.S2816x1024 .f32) (gf : FVec Ideal Cert.MergeReferenceIdeal.S1024 .f32) (n : Fin 16384) (d : Fin 1024) :
    (shapeCast Cert.MergeReferenceIdeal.S16384x1024 (Cert.MergeReferenceIdeal.Merge.finalV (F := Ideal) (Cert.MergeReferenceIdeal.Merge.residV (F := Ideal) x f b c g wa wb wc wo) gain wg wu wd gf)
      Cert.MergeReferenceIdeal.Gen.facts.shapeCasts_S8x2048x1024_S16384x1024 : FVec Ideal Cert.MergeReferenceIdeal.S16384x1024 .f32) (ix2 n d)
      = resultRow x f b c g wa wb wc wo gain wg wu wd gf (entryOf n) (placeOf n) d := by
  refine (flat_1024 _ n d).trans ((Cert.MergeReferenceIdeal.Merge.finalV_apply _ gain wg wu wd gf (entryOf n) (placeOf n) d).trans ?_)
  unfold resultRow residRow
  simp only [Cert.MergeReferenceIdeal.Merge.residV_apply]

theorem equal : Cert.algebraic_MergeIdeal_MergeReferenceIdeal := by
  intro m g m' g' _ ha
  refine ⟨fun c => arrayOf m c, ?_, ?_⟩
  · exact (θ_run _ _ _).mono (fun r h c => ⟨(h c).1.trans (array_end m c), (h c).2⟩) (Cert.MergeIdeal.Value.run_blocks m g)
  · refine (θ_run _ _ _).mono (fun r h c => ⟨?_, (h c).2⟩) (Cert.MergeReferenceIdeal.Value.run m' g')
    refine (h c).1.trans ?_
    obtain ⟨e0, e1, e2, e3, e4, e5, e6, e7, e8, e9, e10, e11, e12, e13⟩ := ha c
    refine (Cert.MergeReferenceIdeal.Merge.result_eq m' c).trans ?_
    rw [e0, e1, e2, e3, e4, e5, e6, e7, e8, e9, e10, e11, e12, e13]
    funext y
    obtain ⟨n, d, rfl⟩ : ∃ (n : Fin 16384) (d : Fin 1024), y = (ix2 n d : Cert.MergeIdeal.S16384x1024.Idx) := by
      refine ⟨⟨(y 0).val, (y 0).isLt⟩, ⟨(y 1).val, (y 1).isLt⟩, funext fun a => Fin.ext ?_⟩
      match a with
      | ⟨0, _⟩ => rfl
      | ⟨1, _⟩ => rfl
    exact stages_apply _ _ _ _ _ _ _ _ _ _ _ _ _ _ n d

end Cert.Proof.Merge
end
-- ==== Proof.Middle.Words.lean ====
module

public import proofs.«01_k».proof.Defs
public import proofs.«01_k».proof.Proof.Gen.Middle
public import proofs.«01_k».proof.Proof.Gen.MiddleIdeal
public import proofs.«01_k».proof.Proof.Gen.MiddleIdeal.Frame

/-! # The first layer's merge: its frame, from the run over any scalars -/

@[expose] public section

set_option maxRecDepth 16384

noncomputable section

namespace Cert.Proof.Middle

open Idealize.ShloMosaic Idealize.SL.Sem

/-- The two programs' kernel functions are one function over the words. -/
theorem body_words : Cert.MiddleIdeal.cc0_merge_ffn (F := Bits) = Cert.Middle.cc0_merge_ffn (F := Bits) := rfl

/-- So are their tables of kernel functions, -/
theorem rows_words : Cert.MiddleIdeal.defs₀ (F := Bits) = Cert.Middle.defs₀ (F := Bits) := by
  unfold Cert.MiddleIdeal.defs₀ Cert.Middle.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so the whole tables. -/
theorem defs_words : Cert.MiddleIdeal.defs (F := Bits) = Cert.Middle.defs (F := Bits) :=
  congrArg (Idealize.ShloMosaic.Pipeline.defs Cert.Middle.pcfgs) rows_words

set_option maxHeartbeats 4000000 in
theorem main_words : Cert.MiddleIdeal.main (F := Bits) = Cert.Middle.main (F := Bits) := by
  exact rfl

/-- The first layer's merge: its frame: the two programs have one text, so the one run serves. -/
theorem frame : Cert.quiescent_Middle := fun m ρ _ => by
  have h := Cert.MiddleIdeal.Gen.frame (F := Bits) m ρ
  rw [defs_words, main_words] at h
  exact h

end Cert.Proof.Middle
end
-- ==== Proof.Middle.Body.lean ====
module

public import proofs.«01_k».proof.Proof.Gen.MiddleIdeal.Value
public import proofs.«01_k».proof.Proof.Merge.Body

/-! # What a grid step of the first layer's merge leaves

The kernel function is the last merge's without its norm at the end, so the lemmas on its values serve again. -/

@[expose] public section

set_option maxRecDepth 16384

noncomputable section

namespace Cert.Merge

open Idealize.ShloMosaic

/-- The row after the feed-forward step, the last norm left out. -/
def stepped (r g : Fin 1024 → EReal) (wg wu : Fin 1024 → Fin 2816 → EReal) (wd : Fin 2816 → Fin 1024 → EReal) : Fin 1024 → EReal :=
  step r (fun n => gated (rowNorm r g) (fun k => wg k n) (fun k => wu k n)) wd

end Cert.Merge

namespace Cert.MiddleIdeal.Merge

open Idealize.ShloMosaic Idealize.ShloMosaic.TcCoe Idealize.ShloMosaic.Tactic
open Cert.MiddleIdeal Cert.MiddleIdeal.Gen Cert.Merge
open Cert.MergeIdeal.Merge (residOf gateAt gate_apply hid mem_scratch chunk_at upper_at lower_at resid_apply merged_apply same3 same5)

theorem pay3_eq : @k0_pay3 Ideal = @Cert.MergeIdeal.Gen.k0_pay3 Ideal := rfl
theorem pay4_eq : @k0_pay4 Ideal _ = @Cert.MergeIdeal.Gen.k0_pay4 Ideal _ := rfl
theorem pay5_eq : @k0_pay5 Ideal = @Cert.MergeIdeal.Gen.k0_pay5 Ideal := rfl
theorem pay6_eq : @k0_pay6 Ideal _ = @Cert.MergeIdeal.Gen.k0_pay6 Ideal _ := rfl

/-- The rows of the result. -/
theorem stepped_apply (v : FVec Ideal S512x1024 .f32) (a : Vec Ideal S512x2816 .bf16) (w : Vec Ideal S2816x1024 .bf16) (r : Fin 512) (d : Fin 1024) :
    k0_pay2 v a w (ix2 r d) = step (fun d => v (ix2 r d)) (fun n => a (ix2 r n)) (fun n d => w (ix2 n d)) d := by
  unfold k0_pay2 step
  pointwise

/-- What a grid step leaves in the result's window, row by row. -/
theorem left (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x128 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S1024x1024 .bf16) (harg6 : arg6.IsWhole) (arg7 : Memref sig .tc .vmem S128x1024 .bf16) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x2816 .bf16) (harg11 : arg11.IsWhole) (arg12 : Memref sig .tc .vmem S1024x2816 .bf16) (harg12 : arg12.IsWhole) (arg13 : Memref sig .tc .vmem S2816x1024 .bf16) (harg13 : arg13.IsWhole) (arg14 : Memref sig .tc .vmem S512x1024 .f32) (harg14 : arg14.IsWhole) (arg15 : Memref sig .tc .vmem S512x2816 .bf16) (harg15 : arg15.IsWhole)
    (x0 : Vec Ideal S512x1024 .f32) (x1 : Vec Ideal S512x1024 .bf16) (x2 : Vec Ideal S512x128 .bf16) (x3 : Vec Ideal S512x512 .bf16) (x4 : Vec Ideal S512x3072 .bf16) (x5 : Vec Ideal S1024x1024 .bf16) (x6 : Vec Ideal S128x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (r : Fin 512) (d : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 (ix2 r d)
      = stepped (residOf x0 x1 x2 x3 x4 x5 x6 x7 x8 r) (fun d => x9 (ix2 0 d)) (fun k n => x10 (ix2 k n)) (fun k n => x11 (ix2 k n)) (fun n d => x12 (ix2 n d)) d := by
  unfold out0_A_13
  rw [View.read_writes_eq_canon _ _ _ (fun y => cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread]
  refine (congrFun (View.canon_cons_unit_lit (Val := Elt Ideal) _ _ _ (by decide)) _).trans ?_
  simp only [View.ld_unit_lit (S := S512x1024) inb_S512x1024_S512x1024_0_0 _ (by decide), View.ld_unit_lit (S := S1024x1024) inb_S1024x1024_S1024x1024_0_0 _ (by decide),
    View.ld_unit_lit (S := S512x128) inb_S512x128_S512x128_0_0 _ (by decide), View.ld_unit_lit (S := S128x1024) inb_S128x1024_S128x1024_0_0 _ (by decide),
    View.ld_unit_lit (S := S512x512) inb_S512x512_S512x512_0_0 _ (by decide), View.ld_unit_lit (S := S1x1024) inb_S1x1024_S1x1024_0_0 _ (by decide),
    View.ld_unit_lit (S := S2816x1024) inb_S2816x1024_S2816x1024_0_0 _ (by decide), pay3_eq, pay4_eq, pay5_eq, pay6_eq, same3, same5]
  have hres : ∀ r d, Cert.MergeIdeal.Gen.k0_pay6 x0 (Cert.MergeIdeal.Gen.k0_pay4 x1 x5 x2 x6 x3 x7 (View.ld x4 (Rect.unit ![0, 0] ![512, 1024] inb_S512x3072_S512x1024_0_0)) (View.ld x4 (Rect.unit ![0, 1024] ![512, 1024] inb_S512x3072_S512x1024_0_1024)) (View.ld x4 (Rect.unit ![0, 2048] ![512, 1024] inb_S512x3072_S512x1024_0_2048))) x8 (ix2 r d)
      = residOf x0 x1 x2 x3 x4 x5 x6 x7 x8 r d := by
    intro r d
    simp only [resid_apply, merged_apply, gate_apply x4 0 (by omega), gate_apply x4 1024 (by omega), gate_apply x4 2048 (by omega)]
    rfl
  generalize Cert.MergeIdeal.Gen.k0_pay4 x1 x5 x2 x6 x3 x7 _ _ _ = Y at hres ⊢
  refine (stepped_apply _ _ _ r d).trans ?_
  simp only [hres]
  unfold stepped
  generalize hA : View.readCov (Val := Elt Ideal) arg15.view _ _ = A
  have hAr : ∀ n, A (ix2 r n) = gated (rowNorm (residOf x0 x1 x2 x3 x4 x5 x6 x7 x8 r) (fun d => x9 (ix2 0 d))) (fun k => x10 (ix2 k n)) (fun k => x11 (ix2 k n)) := by
    intro n
    rw [← hA]
    unfold View.readCov
    have hcov : ∀ L : List (View.Piece (Elt Ideal) S512x2816 .bf16), (∃ p ∈ L, ix2 r n ∈ p.1.set) → View.AllAt L (ix2 r n) (hid x0 Y x8 x9 x10 x11 r n)
        → View.readAt (Elt Ideal) arg15.view (Rect.unit (s := S512x2816) ![0, 0] S512x2816.size inb_S512x2816_S512x2816_0_0).toLoadRect (arg15.view.writes (Elt Ideal) arg15.view.junk L) (ix2 r n) = hid x0 Y x8 x9 x10 x11 r n := by
      intro L hL hA
      refine Eq.trans ?_ ((View.read_writes_apply_eq_canon arg15.view arg15.view.junk (ix2 r n) L hL).trans (View.canon_eq_of_allAt L _ _ hL hA))
      refine congrArg (arg15.view.read (Elt Ideal) (arg15.view.writes (Elt Ideal) arg15.view.junk L)) (funext fun a => Fin.ext ?_)
      match a with
      | ⟨0, _⟩ => show 0 + 1 * r.val = r.val; omega
      | ⟨1, _⟩ => show 0 + 1 * n.val = n.val; omega
    refine (hcov _ ?_ ?_).trans ?_
    · simp only [List.mem_cons, exists_eq_or_imp, mem_scratch]
      omega
    · exact View.allAt_cons_unit _ _ _ _ _ (chunk_at x0 Y x8 x9 x10 x11 2560 _ r n) <| View.allAt_cons_unit _ _ _ _ _ (chunk_at x0 Y x8 x9 x10 x11 2304 _ r n) <| View.allAt_cons_unit _ _ _ _ _ (chunk_at x0 Y x8 x9 x10 x11 2048 _ r n) <| View.allAt_cons_unit _ _ _ _ _ (chunk_at x0 Y x8 x9 x10 x11 1792 _ r n) <| View.allAt_cons_unit _ _ _ _ _ (chunk_at x0 Y x8 x9 x10 x11 1536 _ r n) <| View.allAt_cons_unit _ _ _ _ _ (chunk_at x0 Y x8 x9 x10 x11 1280 _ r n) <| View.allAt_cons_unit _ _ _ _ _ (chunk_at x0 Y x8 x9 x10 x11 1024 _ r n) <| View.allAt_cons_unit _ _ _ _ _ (chunk_at x0 Y x8 x9 x10 x11 768 _ r n) <| View.allAt_cons_unit _ _ _ _ _ (chunk_at x0 Y x8 x9 x10 x11 512 _ r n) <| View.allAt_cons_unit _ _ _ _ _ (chunk_at x0 Y x8 x9 x10 x11 256 _ r n) <| View.allAt_cons_unit _ _ _ _ _ (lower_at x0 Y x8 x9 x10 x11 _ r n) <| View.allAt_cons_unit _ _ _ _ _ (upper_at x0 Y x8 x9 x10 x11 _ r n) <| View.allAt_nil _ _
    · unfold hid
      simp only [hres]
  simp only [hAr]

end Cert.MiddleIdeal.Merge
end
-- ==== Proof.Middle.Blocks.lean ====
module

public import proofs.«01_k».proof.Proof.Middle.Body
public import proofs.«01_k».proof.Proof.Merge.Blocks
public import Idealize.ShloMosaic.Lib.Pipeline.ValueKit

/-! # The blocks a grid step of the first layer's merge reads

A grid step takes 512 rows of each array of rows, and every weight whole. -/

@[expose] public section

set_option maxRecDepth 16384

noncomputable section

namespace Cert.MiddleIdeal.Merge

open Idealize.ShloMosaic Idealize.ShloMosaic.TcCoe
open Idealize.SL Idealize.SL.Sem
open Cert.MiddleIdeal Cert.MiddleIdeal.Gen Cert.Merge
open Cert.MergeIdeal.Merge (entryOf placeOf flat_1024 flat_128 flat_512 flat_3072)

variable (m : (ℓ : Loc nD τ sig) → Buf (Elt Ideal) ℓ)

/-- The row of the arrays that is row `r` of grid step `t`. -/
def rowOf (t : Fin cfg0.N) (r : Fin 512) : Fin 16384 := ⟨512 * t.val + r.val, by have : t.val < 32 := t.isLt; omega⟩

/-- What window 0's array holds on entry. -/
theorem held_0 (c : Dev nD) : V m c main_v0 = (shapeCast S16384x1024 (m ((c : Thread nD τ).loc main_arg0) : FVec Ideal S8x2048x1024 .f32) shapeCasts_S8x2048x1024_S16384x1024 : FVec Ideal S16384x1024 .f32) := by
  simp only [V, hostOps0, List.flatten_cons, List.flatten_nil, List.append_nil, List.cons_append, List.nil_append]
  run_tidy
  rfl
theorem held_0_apply (c : Dev nD) (n : Fin 16384) (d : Fin 1024) :
    V m c main_v0 (ix2 n d : S16384x1024.Idx) = (m ((c : Thread nD τ).loc main_arg0) : FVec Ideal S8x2048x1024 .f32) (ix3 (entryOf n) (placeOf n) d) := by
  rw [held_0]
  exact flat_1024 _ n d
theorem index_0 : ∀ t : Fin cfg0.N, win0_0.index t 0 = t.val ∧ win0_0.index t 1 = 0 := by decide +kernel
theorem place_0 (t : Fin cfg0.N) (r : Fin 512) (d : Fin 1024) : (win0_0.blk t).view.emb (ix2 r d : S512x1024.Idx) = (ix2 (rowOf t r) d : S16384x1024.Idx) := by
  obtain ⟨e0, e1⟩ := index_0 t
  funext a
  apply Fin.ext
  match a with
  | ⟨0, _⟩ => blk_simp; rw [e0]; show t.val * 512 + r.val = 512 * t.val + r.val; omega
  | ⟨1, _⟩ => blk_simp; rw [e1]; show 0 * 1024 + d.val = d.val; omega
theorem read_0 (c : Dev nD) (X : (b : Ref sig .tc) → Buf (Elt Ideal) ((c : Thread nD τ).loc b)) (t : Fin cfg0.N) (y : S512x1024.Idx) :
    ((cfg0.win 0).blk t).view.read (Elt Ideal) (X (Pipeline.arrRef spec0 0)) y = X main_v0 ((win0_0.blk t).view.emb y) := rfl
theorem blk_0 (c : Dev nD) (t : Fin cfg0.N) (r : Fin 512) (d : Fin 1024) :
    (iblk m c 0 t : FVec Ideal S512x1024 .f32) (ix2 r d) = (m ((c : Thread nD τ).loc main_arg0) : FVec Ideal S8x2048x1024 .f32) (ix3 (entryOf (rowOf t r)) (placeOf (rowOf t r)) d) :=
  (read_0 c (V m c) t (ix2 r d)).trans ((congrArg (V m c main_v0) (place_0 t r d)).trans (held_0_apply m c (rowOf t r) d))

/-- What window 1's array holds on entry. -/
theorem held_1 (c : Dev nD) : V m c main_v2 = (shapeCast S16384x1024 (truncf (F := Ideal) .bf16 (m ((c : Thread nD τ).loc main_arg1) : FVec Ideal S8x2048x1024 .f32) bitsLt_bf16_f32) shapeCasts_S8x2048x1024_S16384x1024 : FVec Ideal S16384x1024 .bf16) := by
  simp only [V, hostOps0, List.flatten_cons, List.flatten_nil, List.append_nil, List.cons_append, List.nil_append]
  run_tidy
  rfl
theorem held_1_apply (c : Dev nD) (n : Fin 16384) (d : Fin 1024) :
    V m c main_v2 (ix2 n d : S16384x1024.Idx) = (m ((c : Thread nD τ).loc main_arg1) : FVec Ideal S8x2048x1024 .f32) (ix3 (entryOf n) (placeOf n) d) := by
  rw [held_1]
  exact flat_1024 _ n d
theorem index_1 : ∀ t : Fin cfg0.N, win0_1.index t 0 = t.val ∧ win0_1.index t 1 = 0 := by decide +kernel
theorem place_1 (t : Fin cfg0.N) (r : Fin 512) (d : Fin 1024) : (win0_1.blk t).view.emb (ix2 r d : S512x1024.Idx) = (ix2 (rowOf t r) d : S16384x1024.Idx) := by
  obtain ⟨e0, e1⟩ := index_1 t
  funext a
  apply Fin.ext
  match a with
  | ⟨0, _⟩ => blk_simp; rw [e0]; show t.val * 512 + r.val = 512 * t.val + r.val; omega
  | ⟨1, _⟩ => blk_simp; rw [e1]; show 0 * 1024 + d.val = d.val; omega
theorem read_1 (c : Dev nD) (X : (b : Ref sig .tc) → Buf (Elt Ideal) ((c : Thread nD τ).loc b)) (t : Fin cfg0.N) (y : S512x1024.Idx) :
    ((cfg0.win 1).blk t).view.read (Elt Ideal) (X (Pipeline.arrRef spec0 1)) y = X main_v2 ((win0_1.blk t).view.emb y) := rfl
theorem blk_1 (c : Dev nD) (t : Fin cfg0.N) (r : Fin 512) (d : Fin 1024) :
    (iblk m c 1 t : FVec Ideal S512x1024 .bf16) (ix2 r d) = (m ((c : Thread nD τ).loc main_arg1) : FVec Ideal S8x2048x1024 .f32) (ix3 (entryOf (rowOf t r)) (placeOf (rowOf t r)) d) :=
  (read_1 c (V m c) t (ix2 r d)).trans ((congrArg (V m c main_v2) (place_1 t r d)).trans (held_1_apply m c (rowOf t r) d))

/-- What window 2's array holds on entry. -/
theorem held_2 (c : Dev nD) : V m c main_v4 = (shapeCast S16384x128 (truncf (F := Ideal) .bf16 (m ((c : Thread nD τ).loc main_arg2) : FVec Ideal S8x2048x128 .f32) bitsLt_bf16_f32) shapeCasts_S8x2048x128_S16384x128 : FVec Ideal S16384x128 .bf16) := by
  simp only [V, hostOps0, List.flatten_cons, List.flatten_nil, List.append_nil, List.cons_append, List.nil_append]
  run_tidy
  rfl
theorem held_2_apply (c : Dev nD) (n : Fin 16384) (d : Fin 128) :
    V m c main_v4 (ix2 n d : S16384x128.Idx) = (m ((c : Thread nD τ).loc main_arg2) : FVec Ideal S8x2048x128 .f32) (ix3 (entryOf n) (placeOf n) d) := by
  rw [held_2]
  exact flat_128 _ n d
theorem index_2 : ∀ t : Fin cfg0.N, win0_2.index t 0 = t.val ∧ win0_2.index t 1 = 0 := by decide +kernel
theorem place_2 (t : Fin cfg0.N) (r : Fin 512) (d : Fin 128) : (win0_2.blk t).view.emb (ix2 r d : S512x128.Idx) = (ix2 (rowOf t r) d : S16384x128.Idx) := by
  obtain ⟨e0, e1⟩ := index_2 t
  funext a
  apply Fin.ext
  match a with
  | ⟨0, _⟩ => blk_simp; rw [e0]; show t.val * 512 + r.val = 512 * t.val + r.val; omega
  | ⟨1, _⟩ => blk_simp; rw [e1]; show 0 * 128 + d.val = d.val; omega
theorem read_2 (c : Dev nD) (X : (b : Ref sig .tc) → Buf (Elt Ideal) ((c : Thread nD τ).loc b)) (t : Fin cfg0.N) (y : S512x128.Idx) :
    ((cfg0.win 2).blk t).view.read (Elt Ideal) (X (Pipeline.arrRef spec0 2)) y = X main_v4 ((win0_2.blk t).view.emb y) := rfl
theorem blk_2 (c : Dev nD) (t : Fin cfg0.N) (r : Fin 512) (d : Fin 128) :
    (iblk m c 2 t : FVec Ideal S512x128 .bf16) (ix2 r d) = (m ((c : Thread nD τ).loc main_arg2) : FVec Ideal S8x2048x128 .f32) (ix3 (entryOf (rowOf t r)) (placeOf (rowOf t r)) d) :=
  (read_2 c (V m c) t (ix2 r d)).trans ((congrArg (V m c main_v4) (place_2 t r d)).trans (held_2_apply m c (rowOf t r) d))

/-- What window 3's array holds on entry. -/
theorem held_3 (c : Dev nD) : V m c main_v6 = (shapeCast S16384x512 (truncf (F := Ideal) .bf16 (m ((c : Thread nD τ).loc main_arg3) : FVec Ideal S8x2048x512 .f32) bitsLt_bf16_f32) shapeCasts_S8x2048x512_S16384x512 : FVec Ideal S16384x512 .bf16) := by
  simp only [V, hostOps0, List.flatten_cons, List.flatten_nil, List.append_nil, List.cons_append, List.nil_append]
  run_tidy
  rfl
theorem held_3_apply (c : Dev nD) (n : Fin 16384) (d : Fin 512) :
    V m c main_v6 (ix2 n d : S16384x512.Idx) = (m ((c : Thread nD τ).loc main_arg3) : FVec Ideal S8x2048x512 .f32) (ix3 (entryOf n) (placeOf n) d) := by
  rw [held_3]
  exact flat_512 _ n d
theorem index_3 : ∀ t : Fin cfg0.N, win0_3.index t 0 = t.val ∧ win0_3.index t 1 = 0 := by decide +kernel
theorem place_3 (t : Fin cfg0.N) (r : Fin 512) (d : Fin 512) : (win0_3.blk t).view.emb (ix2 r d : S512x512.Idx) = (ix2 (rowOf t r) d : S16384x512.Idx) := by
  obtain ⟨e0, e1⟩ := index_3 t
  funext a
  apply Fin.ext
  match a with
  | ⟨0, _⟩ => blk_simp; rw [e0]; show t.val * 512 + r.val = 512 * t.val + r.val; omega
  | ⟨1, _⟩ => blk_simp; rw [e1]; show 0 * 512 + d.val = d.val; omega
theorem read_3 (c : Dev nD) (X : (b : Ref sig .tc) → Buf (Elt Ideal) ((c : Thread nD τ).loc b)) (t : Fin cfg0.N) (y : S512x512.Idx) :
    ((cfg0.win 3).blk t).view.read (Elt Ideal) (X (Pipeline.arrRef spec0 3)) y = X main_v6 ((win0_3.blk t).view.emb y) := rfl
theorem blk_3 (c : Dev nD) (t : Fin cfg0.N) (r : Fin 512) (d : Fin 512) :
    (iblk m c 3 t : FVec Ideal S512x512 .bf16) (ix2 r d) = (m ((c : Thread nD τ).loc main_arg3) : FVec Ideal S8x2048x512 .f32) (ix3 (entryOf (rowOf t r)) (placeOf (rowOf t r)) d) :=
  (read_3 c (V m c) t (ix2 r d)).trans ((congrArg (V m c main_v6) (place_3 t r d)).trans (held_3_apply m c (rowOf t r) d))

/-- What window 4's array holds on entry. -/
theorem held_4 (c : Dev nD) : V m c main_v8 = (shapeCast S16384x3072 (truncf (F := Ideal) .bf16 (m ((c : Thread nD τ).loc main_arg4) : FVec Ideal S8x2048x3072 .f32) bitsLt_bf16_f32) shapeCasts_S8x2048x3072_S16384x3072 : FVec Ideal S16384x3072 .bf16) := by
  simp only [V, hostOps0, List.flatten_cons, List.flatten_nil, List.append_nil, List.cons_append, List.nil_append]
  run_tidy
  rfl
theorem held_4_apply (c : Dev nD) (n : Fin 16384) (d : Fin 3072) :
    V m c main_v8 (ix2 n d : S16384x3072.Idx) = (m ((c : Thread nD τ).loc main_arg4) : FVec Ideal S8x2048x3072 .f32) (ix3 (entryOf n) (placeOf n) d) := by
  rw [held_4]
  exact flat_3072 _ n d
theorem index_4 : ∀ t : Fin cfg0.N, win0_4.index t 0 = t.val ∧ win0_4.index t 1 = 0 := by decide +kernel
theorem place_4 (t : Fin cfg0.N) (r : Fin 512) (d : Fin 3072) : (win0_4.blk t).view.emb (ix2 r d : S512x3072.Idx) = (ix2 (rowOf t r) d : S16384x3072.Idx) := by
  obtain ⟨e0, e1⟩ := index_4 t
  funext a
  apply Fin.ext
  match a with
  | ⟨0, _⟩ => blk_simp; rw [e0]; show t.val * 512 + r.val = 512 * t.val + r.val; omega
  | ⟨1, _⟩ => blk_simp; rw [e1]; show 0 * 3072 + d.val = d.val; omega
theorem read_4 (c : Dev nD) (X : (b : Ref sig .tc) → Buf (Elt Ideal) ((c : Thread nD τ).loc b)) (t : Fin cfg0.N) (y : S512x3072.Idx) :
    ((cfg0.win 4).blk t).view.read (Elt Ideal) (X (Pipeline.arrRef spec0 4)) y = X main_v8 ((win0_4.blk t).view.emb y) := rfl
theorem blk_4 (c : Dev nD) (t : Fin cfg0.N) (r : Fin 512) (d : Fin 3072) :
    (iblk m c 4 t : FVec Ideal S512x3072 .bf16) (ix2 r d) = (m ((c : Thread nD τ).loc main_arg4) : FVec Ideal S8x2048x3072 .f32) (ix3 (entryOf (rowOf t r)) (placeOf (rowOf t r)) d) :=
  (read_4 c (V m c) t (ix2 r d)).trans ((congrArg (V m c main_v8) (place_4 t r d)).trans (held_4_apply m c (rowOf t r) d))

/-- What window 5's array holds on entry. -/
theorem held_5 (c : Dev nD) : V m c main_v9 = (truncf (F := Ideal) .bf16 (m ((c : Thread nD τ).loc main_arg5) : FVec Ideal S1024x1024 .f32) bitsLt_bf16_f32 : FVec Ideal S1024x1024 .bf16) := by
  simp only [V, hostOps0, List.flatten_cons, List.flatten_nil, List.append_nil, List.cons_append, List.nil_append]
  run_tidy

theorem held_5_apply (c : Dev nD) (i : Fin 1024) (j : Fin 1024) :
    V m c main_v9 (ix2 i j : S1024x1024.Idx) = (m ((c : Thread nD τ).loc main_arg5) : FVec Ideal S1024x1024 .f32) (ix2 i j) := by
  rw [held_5]
  rfl
theorem index_5 : ∀ t : Fin cfg0.N, win0_5.index t 0 = 0 ∧ win0_5.index t 1 = 0 := by decide +kernel
theorem place_5 (t : Fin cfg0.N) (i : Fin 1024) (j : Fin 1024) : (win0_5.blk t).view.emb (ix2 i j : S1024x1024.Idx) = (ix2 i j : S1024x1024.Idx) := by
  obtain ⟨e0, e1⟩ := index_5 t
  funext a
  apply Fin.ext
  match a with
  | ⟨0, _⟩ => blk_simp; rw [e0]; show 0 * 1024 + i.val = i.val; omega
  | ⟨1, _⟩ => blk_simp; rw [e1]; show 0 * 1024 + j.val = j.val; omega
theorem read_5 (c : Dev nD) (X : (b : Ref sig .tc) → Buf (Elt Ideal) ((c : Thread nD τ).loc b)) (t : Fin cfg0.N) (y : S1024x1024.Idx) :
    ((cfg0.win 5).blk t).view.read (Elt Ideal) (X (Pipeline.arrRef spec0 5)) y = X main_v9 ((win0_5.blk t).view.emb y) := rfl
theorem blk_5 (c : Dev nD) (t : Fin cfg0.N) (i : Fin 1024) (j : Fin 1024) :
    (iblk m c 5 t : FVec Ideal S1024x1024 .bf16) (ix2 i j) = (m ((c : Thread nD τ).loc main_arg5) : FVec Ideal S1024x1024 .f32) (ix2 i j) :=
  (read_5 c (V m c) t (ix2 i j)).trans ((congrArg (V m c main_v9) (place_5 t i j)).trans (held_5_apply m c i j))

/-- What window 6's array holds on entry. -/
theorem held_6 (c : Dev nD) : V m c main_v10 = (truncf (F := Ideal) .bf16 (m ((c : Thread nD τ).loc main_arg6) : FVec Ideal S128x1024 .f32) bitsLt_bf16_f32 : FVec Ideal S128x1024 .bf16) := by
  simp only [V, hostOps0, List.flatten_cons, List.flatten_nil, List.append_nil, List.cons_append, List.nil_append]
  run_tidy

theorem held_6_apply (c : Dev nD) (i : Fin 128) (j : Fin 1024) :
    V m c main_v10 (ix2 i j : S128x1024.Idx) = (m ((c : Thread nD τ).loc main_arg6) : FVec Ideal S128x1024 .f32) (ix2 i j) := by
  rw [held_6]
  rfl
theorem index_6 : ∀ t : Fin cfg0.N, win0_6.index t 0 = 0 ∧ win0_6.index t 1 = 0 := by decide +kernel
theorem place_6 (t : Fin cfg0.N) (i : Fin 128) (j : Fin 1024) : (win0_6.blk t).view.emb (ix2 i j : S128x1024.Idx) = (ix2 i j : S128x1024.Idx) := by
  obtain ⟨e0, e1⟩ := index_6 t
  funext a
  apply Fin.ext
  match a with
  | ⟨0, _⟩ => blk_simp; rw [e0]; show 0 * 128 + i.val = i.val; omega
  | ⟨1, _⟩ => blk_simp; rw [e1]; show 0 * 1024 + j.val = j.val; omega
theorem read_6 (c : Dev nD) (X : (b : Ref sig .tc) → Buf (Elt Ideal) ((c : Thread nD τ).loc b)) (t : Fin cfg0.N) (y : S128x1024.Idx) :
    ((cfg0.win 6).blk t).view.read (Elt Ideal) (X (Pipeline.arrRef spec0 6)) y = X main_v10 ((win0_6.blk t).view.emb y) := rfl
theorem blk_6 (c : Dev nD) (t : Fin cfg0.N) (i : Fin 128) (j : Fin 1024) :
    (iblk m c 6 t : FVec Ideal S128x1024 .bf16) (ix2 i j) = (m ((c : Thread nD τ).loc main_arg6) : FVec Ideal S128x1024 .f32) (ix2 i j) :=
  (read_6 c (V m c) t (ix2 i j)).trans ((congrArg (V m c main_v10) (place_6 t i j)).trans (held_6_apply m c i j))

/-- What window 7's array holds on entry. -/
theorem held_7 (c : Dev nD) : V m c main_v11 = (truncf (F := Ideal) .bf16 (m ((c : Thread nD τ).loc main_arg7) : FVec Ideal S512x1024 .f32) bitsLt_bf16_f32 : FVec Ideal S512x1024 .bf16) := by
  simp only [V, hostOps0, List.flatten_cons, List.flatten_nil, List.append_nil, List.cons_append, List.nil_append]
  run_tidy

theorem held_7_apply (c : Dev nD) (i : Fin 512) (j : Fin 1024) :
    V m c main_v11 (ix2 i j : S512x1024.Idx) = (m ((c : Thread nD τ).loc main_arg7) : FVec Ideal S512x1024 .f32) (ix2 i j) := by
  rw [held_7]
  rfl
theorem index_7 : ∀ t : Fin cfg0.N, win0_7.index t 0 = 0 ∧ win0_7.index t 1 = 0 := by decide +kernel
theorem place_7 (t : Fin cfg0.N) (i : Fin 512) (j : Fin 1024) : (win0_7.blk t).view.emb (ix2 i j : S512x1024.Idx) = (ix2 i j : S512x1024.Idx) := by
  obtain ⟨e0, e1⟩ := index_7 t
  funext a
  apply Fin.ext
  match a with
  | ⟨0, _⟩ => blk_simp; rw [e0]; show 0 * 512 + i.val = i.val; omega
  | ⟨1, _⟩ => blk_simp; rw [e1]; show 0 * 1024 + j.val = j.val; omega
theorem read_7 (c : Dev nD) (X : (b : Ref sig .tc) → Buf (Elt Ideal) ((c : Thread nD τ).loc b)) (t : Fin cfg0.N) (y : S512x1024.Idx) :
    ((cfg0.win 7).blk t).view.read (Elt Ideal) (X (Pipeline.arrRef spec0 7)) y = X main_v11 ((win0_7.blk t).view.emb y) := rfl
theorem blk_7 (c : Dev nD) (t : Fin cfg0.N) (i : Fin 512) (j : Fin 1024) :
    (iblk m c 7 t : FVec Ideal S512x1024 .bf16) (ix2 i j) = (m ((c : Thread nD τ).loc main_arg7) : FVec Ideal S512x1024 .f32) (ix2 i j) :=
  (read_7 c (V m c) t (ix2 i j)).trans ((congrArg (V m c main_v11) (place_7 t i j)).trans (held_7_apply m c i j))

/-- What window 8's array holds on entry. -/
theorem held_8 (c : Dev nD) : V m c main_v12 = (truncf (F := Ideal) .bf16 (m ((c : Thread nD τ).loc main_arg8) : FVec Ideal S1024x1024 .f32) bitsLt_bf16_f32 : FVec Ideal S1024x1024 .bf16) := by
  simp only [V, hostOps0, List.flatten_cons, List.flatten_nil, List.append_nil, List.cons_append, List.nil_append]
  run_tidy

theorem held_8_apply (c : Dev nD) (i : Fin 1024) (j : Fin 1024) :
    V m c main_v12 (ix2 i j : S1024x1024.Idx) = (m ((c : Thread nD τ).loc main_arg8) : FVec Ideal S1024x1024 .f32) (ix2 i j) := by
  rw [held_8]
  rfl
theorem index_8 : ∀ t : Fin cfg0.N, win0_8.index t 0 = 0 ∧ win0_8.index t 1 = 0 := by decide +kernel
theorem place_8 (t : Fin cfg0.N) (i : Fin 1024) (j : Fin 1024) : (win0_8.blk t).view.emb (ix2 i j : S1024x1024.Idx) = (ix2 i j : S1024x1024.Idx) := by
  obtain ⟨e0, e1⟩ := index_8 t
  funext a
  apply Fin.ext
  match a with
  | ⟨0, _⟩ => blk_simp; rw [e0]; show 0 * 1024 + i.val = i.val; omega
  | ⟨1, _⟩ => blk_simp; rw [e1]; show 0 * 1024 + j.val = j.val; omega
theorem read_8 (c : Dev nD) (X : (b : Ref sig .tc) → Buf (Elt Ideal) ((c : Thread nD τ).loc b)) (t : Fin cfg0.N) (y : S1024x1024.Idx) :
    ((cfg0.win 8).blk t).view.read (Elt Ideal) (X (Pipeline.arrRef spec0 8)) y = X main_v12 ((win0_8.blk t).view.emb y) := rfl
theorem blk_8 (c : Dev nD) (t : Fin cfg0.N) (i : Fin 1024) (j : Fin 1024) :
    (iblk m c 8 t : FVec Ideal S1024x1024 .bf16) (ix2 i j) = (m ((c : Thread nD τ).loc main_arg8) : FVec Ideal S1024x1024 .f32) (ix2 i j) :=
  (read_8 c (V m c) t (ix2 i j)).trans ((congrArg (V m c main_v12) (place_8 t i j)).trans (held_8_apply m c i j))

/-- What window 9's array holds on entry. -/
theorem held_9 (c : Dev nD) : V m c main_v16 = (shapeCast S1x1024 (m ((c : Thread nD τ).loc main_arg9) : FVec Ideal S1024 .f32) shapeCasts_S1024_S1x1024 : FVec Ideal S1x1024 .f32) := by
  simp only [V, hostOps0, List.flatten_cons, List.flatten_nil, List.append_nil, List.cons_append, List.nil_append]
  run_tidy
  rfl
theorem held_9_apply (c : Dev nD) (d : Fin 1024) :
    V m c main_v16 (ix2 0 d : S1x1024.Idx) = (m ((c : Thread nD τ).loc main_arg9) : FVec Ideal S1024 .f32) (ix1 d) := by
  rw [held_9]
  pointwise
theorem index_9 : ∀ t : Fin cfg0.N, win0_9.index t 0 = 0 ∧ win0_9.index t 1 = 0 := by decide +kernel
theorem place_9 (t : Fin cfg0.N) (d : Fin 1024) : (win0_9.blk t).view.emb (ix2 0 d : S1x1024.Idx) = (ix2 0 d : S1x1024.Idx) := by
  obtain ⟨e0, e1⟩ := index_9 t
  funext a
  apply Fin.ext
  match a with
  | ⟨0, _⟩ => blk_simp; rw [e0]; rfl
  | ⟨1, _⟩ => blk_simp; rw [e1]; show 0 * 1024 + d.val = d.val; omega
theorem read_9 (c : Dev nD) (X : (b : Ref sig .tc) → Buf (Elt Ideal) ((c : Thread nD τ).loc b)) (t : Fin cfg0.N) (y : S1x1024.Idx) :
    ((cfg0.win 9).blk t).view.read (Elt Ideal) (X (Pipeline.arrRef spec0 9)) y = X main_v16 ((win0_9.blk t).view.emb y) := rfl
theorem blk_9 (c : Dev nD) (t : Fin cfg0.N) (d : Fin 1024) :
    (iblk m c 9 t : FVec Ideal S1x1024 .f32) (ix2 0 d) = (m ((c : Thread nD τ).loc main_arg9) : FVec Ideal S1024 .f32) (ix1 d) :=
  (read_9 c (V m c) t (ix2 0 d)).trans ((congrArg (V m c main_v16) (place_9 t d)).trans (held_9_apply m c d))

/-- What window 10's array holds on entry. -/
theorem held_10 (c : Dev nD) : V m c main_v13 = (truncf (F := Ideal) .bf16 (m ((c : Thread nD τ).loc main_arg10) : FVec Ideal S1024x2816 .f32) bitsLt_bf16_f32 : FVec Ideal S1024x2816 .bf16) := by
  simp only [V, hostOps0, List.flatten_cons, List.flatten_nil, List.append_nil, List.cons_append, List.nil_append]
  run_tidy

theorem held_10_apply (c : Dev nD) (i : Fin 1024) (j : Fin 2816) :
    V m c main_v13 (ix2 i j : S1024x2816.Idx) = (m ((c : Thread nD τ).loc main_arg10) : FVec Ideal S1024x2816 .f32) (ix2 i j) := by
  rw [held_10]
  rfl
theorem index_10 : ∀ t : Fin cfg0.N, win0_10.index t 0 = 0 ∧ win0_10.index t 1 = 0 := by decide +kernel
theorem place_10 (t : Fin cfg0.N) (i : Fin 1024) (j : Fin 2816) : (win0_10.blk t).view.emb (ix2 i j : S1024x2816.Idx) = (ix2 i j : S1024x2816.Idx) := by
  obtain ⟨e0, e1⟩ := index_10 t
  funext a
  apply Fin.ext
  match a with
  | ⟨0, _⟩ => blk_simp; rw [e0]; show 0 * 1024 + i.val = i.val; omega
  | ⟨1, _⟩ => blk_simp; rw [e1]; show 0 * 2816 + j.val = j.val; omega
theorem read_10 (c : Dev nD) (X : (b : Ref sig .tc) → Buf (Elt Ideal) ((c : Thread nD τ).loc b)) (t : Fin cfg0.N) (y : S1024x2816.Idx) :
    ((cfg0.win 10).blk t).view.read (Elt Ideal) (X (Pipeline.arrRef spec0 10)) y = X main_v13 ((win0_10.blk t).view.emb y) := rfl
theorem blk_10 (c : Dev nD) (t : Fin cfg0.N) (i : Fin 1024) (j : Fin 2816) :
    (iblk m c 10 t : FVec Ideal S1024x2816 .bf16) (ix2 i j) = (m ((c : Thread nD τ).loc main_arg10) : FVec Ideal S1024x2816 .f32) (ix2 i j) :=
  (read_10 c (V m c) t (ix2 i j)).trans ((congrArg (V m c main_v13) (place_10 t i j)).trans (held_10_apply m c i j))

/-- What window 11's array holds on entry. -/
theorem held_11 (c : Dev nD) : V m c main_v14 = (truncf (F := Ideal) .bf16 (m ((c : Thread nD τ).loc main_arg11) : FVec Ideal S1024x2816 .f32) bitsLt_bf16_f32 : FVec Ideal S1024x2816 .bf16) := by
  simp only [V, hostOps0, List.flatten_cons, List.flatten_nil, List.append_nil, List.cons_append, List.nil_append]
  run_tidy

theorem held_11_apply (c : Dev nD) (i : Fin 1024) (j : Fin 2816) :
    V m c main_v14 (ix2 i j : S1024x2816.Idx) = (m ((c : Thread nD τ).loc main_arg11) : FVec Ideal S1024x2816 .f32) (ix2 i j) := by
  rw [held_11]
  rfl
theorem index_11 : ∀ t : Fin cfg0.N, win0_11.index t 0 = 0 ∧ win0_11.index t 1 = 0 := by decide +kernel
theorem place_11 (t : Fin cfg0.N) (i : Fin 1024) (j : Fin 2816) : (win0_11.blk t).view.emb (ix2 i j : S1024x2816.Idx) = (ix2 i j : S1024x2816.Idx) := by
  obtain ⟨e0, e1⟩ := index_11 t
  funext a
  apply Fin.ext
  match a with
  | ⟨0, _⟩ => blk_simp; rw [e0]; show 0 * 1024 + i.val = i.val; omega
  | ⟨1, _⟩ => blk_simp; rw [e1]; show 0 * 2816 + j.val = j.val; omega
theorem read_11 (c : Dev nD) (X : (b : Ref sig .tc) → Buf (Elt Ideal) ((c : Thread nD τ).loc b)) (t : Fin cfg0.N) (y : S1024x2816.Idx) :
    ((cfg0.win 11).blk t).view.read (Elt Ideal) (X (Pipeline.arrRef spec0 11)) y = X main_v14 ((win0_11.blk t).view.emb y) := rfl
theorem blk_11 (c : Dev nD) (t : Fin cfg0.N) (i : Fin 1024) (j : Fin 2816) :
    (iblk m c 11 t : FVec Ideal S1024x2816 .bf16) (ix2 i j) = (m ((c : Thread nD τ).loc main_arg11) : FVec Ideal S1024x2816 .f32) (ix2 i j) :=
  (read_11 c (V m c) t (ix2 i j)).trans ((congrArg (V m c main_v14) (place_11 t i j)).trans (held_11_apply m c i j))

/-- What window 12's array holds on entry. -/
theorem held_12 (c : Dev nD) : V m c main_v15 = (truncf (F := Ideal) .bf16 (m ((c : Thread nD τ).loc main_arg12) : FVec Ideal S2816x1024 .f32) bitsLt_bf16_f32 : FVec Ideal S2816x1024 .bf16) := by
  simp only [V, hostOps0, List.flatten_cons, List.flatten_nil, List.append_nil, List.cons_append, List.nil_append]
  run_tidy

theorem held_12_apply (c : Dev nD) (i : Fin 2816) (j : Fin 1024) :
    V m c main_v15 (ix2 i j : S2816x1024.Idx) = (m ((c : Thread nD τ).loc main_arg12) : FVec Ideal S2816x1024 .f32) (ix2 i j) := by
  rw [held_12]
  rfl
theorem index_12 : ∀ t : Fin cfg0.N, win0_12.index t 0 = 0 ∧ win0_12.index t 1 = 0 := by decide +kernel
theorem place_12 (t : Fin cfg0.N) (i : Fin 2816) (j : Fin 1024) : (win0_12.blk t).view.emb (ix2 i j : S2816x1024.Idx) = (ix2 i j : S2816x1024.Idx) := by
  obtain ⟨e0, e1⟩ := index_12 t
  funext a
  apply Fin.ext
  match a with
  | ⟨0, _⟩ => blk_simp; rw [e0]; show 0 * 2816 + i.val = i.val; omega
  | ⟨1, _⟩ => blk_simp; rw [e1]; show 0 * 1024 + j.val = j.val; omega
theorem read_12 (c : Dev nD) (X : (b : Ref sig .tc) → Buf (Elt Ideal) ((c : Thread nD τ).loc b)) (t : Fin cfg0.N) (y : S2816x1024.Idx) :
    ((cfg0.win 12).blk t).view.read (Elt Ideal) (X (Pipeline.arrRef spec0 12)) y = X main_v15 ((win0_12.blk t).view.emb y) := rfl
theorem blk_12 (c : Dev nD) (t : Fin cfg0.N) (i : Fin 2816) (j : Fin 1024) :
    (iblk m c 12 t : FVec Ideal S2816x1024 .bf16) (ix2 i j) = (m ((c : Thread nD τ).loc main_arg12) : FVec Ideal S2816x1024 .f32) (ix2 i j) :=
  (read_12 c (V m c) t (ix2 i j)).trans ((congrArg (V m c main_v15) (place_12 t i j)).trans (held_12_apply m c i j))

end Cert.MiddleIdeal.Merge
end
-- ==== Proof.Middle.Array.lean ====
module

public import proofs.«01_k».proof.Proof.Middle.Blocks
public import proofs.«01_k».proof.Proof.Merge.Array
public import proofs.«01_k».proof.Proof.Gen.MiddleIdeal.Value

/-! # The array that the launch of the first layer's merge leaves -/

@[expose] public section

set_option maxRecDepth 16384

noncomputable section

namespace Cert.Merge

open Idealize.ShloMosaic

/-- One token's row after the first layer. -/
def middleRow (x f : (⟨3, ![8, 2048, 1024]⟩ : Shape).Idx → EReal) (b : (⟨3, ![8, 2048, 128]⟩ : Shape).Idx → EReal) (c : (⟨3, ![8, 2048, 512]⟩ : Shape).Idx → EReal)
    (g : (⟨3, ![8, 2048, 3072]⟩ : Shape).Idx → EReal) (wa : (⟨2, ![1024, 1024]⟩ : Shape).Idx → EReal) (wb : (⟨2, ![128, 1024]⟩ : Shape).Idx → EReal)
    (wc : (⟨2, ![512, 1024]⟩ : Shape).Idx → EReal) (wo : (⟨2, ![1024, 1024]⟩ : Shape).Idx → EReal) (gain : (⟨1, ![1024]⟩ : Shape).Idx → EReal)
    (wg wu : (⟨2, ![1024, 2816]⟩ : Shape).Idx → EReal) (wd : (⟨2, ![2816, 1024]⟩ : Shape).Idx → EReal)
    (e : Fin 8) (s : Fin 2048) : Fin 1024 → EReal :=
  stepped (residRow x f b c g wa wo wb wc e s) (fun d => gain (ix1 d)) (fun k n => wg (ix2 k n)) (fun k n => wu (ix2 k n)) (fun n d => wd (ix2 n d))

end Cert.Merge

namespace Cert.MiddleIdeal.Merge

open Idealize.ShloMosaic Idealize.ShloMosaic.TcCoe
open Idealize.SL Idealize.SL.Sem
open Cert.MiddleIdeal Cert.MiddleIdeal.Gen Cert.Merge
open Cert.MergeIdeal.Merge (entryOf placeOf residOf gateAt)

variable (m : (ℓ : Loc nD τ sig) → Buf (Elt Ideal) ℓ) (c : Dev nD)

/-- The result that the launch's arguments give. -/
def resultM (n : Fin 16384) (d : Fin 1024) : EReal :=
  middleRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (entryOf n) (placeOf n) d

/-- The array, as a function of the arguments. -/
def arrayOf : Vec Ideal S16384x1024 .f32 := fun y => resultM m c ⟨(y 0).val, (y 0).isLt⟩ ⟨(y 1).val, (y 1).isLt⟩

/-- What a grid step writes. -/
theorem step_apply (t : Fin cfg0.N) (r : Fin 512) (d : Fin 1024) :
    (outsAt0 m c t : Vec Ideal S512x1024 .f32) (ix2 r d) = resultM m c (rowOf t r) d := by
  unfold outsAt0
  refine (left c _ _ _ _ _ _ _ _ _ _ _ _ _ _ _ _ _ _ _ _ _ _ _ _ _ _ _ _ _ _ _ _ _ _ _ _ _ _ _ _ _ _ _ _ r d).trans ?_
  unfold resultM middleRow residRow residOf gateAt
  simp only [blk_0 m c t, blk_1 m c t, blk_2 m c t, blk_3 m c t, blk_4 m c t, blk_5 m c t, blk_6 m c t, blk_7 m c t, blk_8 m c t, blk_9 m c t, blk_10 m c t, blk_11 m c t, blk_12 m c t]

theorem index_13 : ∀ t : Fin cfg0.N, win0_13.index t 0 = t.val ∧ win0_13.index t 1 = 0 := by decide +kernel
theorem place_13 (t : Fin cfg0.N) (r : Fin 512) (d : Fin 1024) : (win0_13.blk t).view.emb (ix2 r d : S512x1024.Idx) = (ix2 (rowOf t r) d : S16384x1024.Idx) := by
  obtain ⟨e0, e1⟩ := index_13 t
  funext a
  apply Fin.ext
  match a with
  | ⟨0, _⟩ => blk_simp; rw [e0]; show t.val * 512 + r.val = 512 * t.val + r.val; omega
  | ⟨1, _⟩ => blk_simp; rw [e1]; show 0 * 1024 + d.val = d.val; omega

theorem left_13 (t : Fin cfg0.N) : (dats m 0 c).after 13 t = outsAt0 m c t := after0_13 m c t

/-- The array after the launch. -/
theorem array_end : (dats m 0 c).arrAt 13 cfg0.N = arrayOf m c := by
  refine (dats m 0 c).arrAt_eq_of_covers 13 _ (by decide +kernel) fun t hf y => ?_
  blk_simp
  rw [left_13]
  obtain ⟨r, d, rfl⟩ : ∃ (r : Fin 512) (d : Fin 1024), y = (ix2 r d : S512x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_apply m c t r d).trans (Eq.trans (rfl : _ = arrayOf m c (ix2 (rowOf t r) d)) (congrArg (arrayOf m c) (place_13 t r d).symm))

end Cert.MiddleIdeal.Merge
end
-- ==== Proof.Middle.RefRow.lean ====
module

public import proofs.«01_k».proof.Proof.Gen.MiddleReferenceIdeal.Run
public import proofs.«01_k».proof.Proof.Merge.RefRow
public import proofs.«01_k».proof.Proof.Middle.Body

/-! # The first layer's merge: its reference at an index -/

@[expose] public section

set_option maxRecDepth 16384

noncomputable section

namespace Cert.MiddleReferenceIdeal.Merge

open Idealize.ShloMosaic Idealize.ShloMosaic.TcCoe Idealize.ShloMosaic.StableHlo
open Cert.Merge

section

open Cert.MergeReferenceIdeal.Merge

/-- The reference's rows after the feed-forward step, from its own norm on. -/
def steppedV {F : FTy → Type} [FloatOps F] (r : FVec F S8x2048x1024 .f32) (g : FVec F S1024 .f32) (wg wu : FVec F S1024x2816 .f32) (wd : FVec F S2816x1024 .f32) : FVec F S8x2048x1024 .f32 :=
  stepV r (hiddenV (normV r g) wg wu) wd

theorem steppedV_apply (r : FVec Ideal S8x2048x1024 .f32) (g : FVec Ideal S1024 .f32) (wg wu : FVec Ideal S1024x2816 .f32) (wd : FVec Ideal S2816x1024 .f32) (b : Fin 8) (s : Fin 2048) (d : Fin 1024) :
    steppedV r g wg wu wd (ix3 b s d) = stepped (fun d => r (ix3 b s d)) (fun d => g (ix1 d)) (fun k n => wg (ix2 k n)) (fun k n => wu (ix2 k n)) (fun n d => wd (ix2 n d)) d := by
  unfold steppedV stepped
  simp only [normV_apply, stepV_apply, hiddenV_apply]

end

open Cert.MiddleReferenceIdeal.Value in
/-- The reference's result is these stages, one after the other. -/
theorem result_eq (m : (ℓ : Loc nD τ sig) → Buf (Elt Ideal) ℓ) (c : Dev nD) :
    res_main_v38 m c = (shapeCast S16384x1024 (steppedV (F := Ideal) (Cert.MergeReferenceIdeal.Merge.residV (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      (m ((c.tc : Thread nD τ).loc main_arg9)) (m ((c.tc : Thread nD τ).loc main_arg10)) (m ((c.tc : Thread nD τ).loc main_arg11)) (m ((c.tc : Thread nD τ).loc main_arg12))) Cert.MergeReferenceIdeal.Gen.facts.shapeCasts_S8x2048x1024_S16384x1024 : FVec Ideal S16384x1024 .f32) := by
  unfold res_main_v38 steppedV Cert.MergeReferenceIdeal.Merge.stepV Cert.MergeReferenceIdeal.Merge.hiddenV
  unfold Cert.MergeReferenceIdeal.Merge.normV Cert.MergeReferenceIdeal.Merge.residV
  rfl

end Cert.MiddleReferenceIdeal.Merge
end
-- ==== Proof.Middle.Equal.lean ====
module

public import proofs.«01_k».proof.Defs
public import proofs.«01_k».proof.Proof.Middle.Array
public import proofs.«01_k».proof.Proof.Middle.RefRow
public import proofs.«01_k».proof.Proof.Gen.MergeReferenceIdeal
public import proofs.«01_k».proof.Proof.Gen.MiddleReferenceIdeal
public import proofs.«01_k».proof.Proof.Gen.MiddleReferenceIdeal.Run
public import Idealize.ShloMosaic.Lib.Claim

/-! # The first layer's merge: its result is its reference's -/

@[expose] public section

set_option maxRecDepth 16384

noncomputable section

namespace Cert.Proof.Middle

open Idealize.ShloMosaic Idealize.ShloMosaic.TcCoe Idealize.ShloMosaic.StableHlo Idealize.SL.Sem
open Cert.MiddleIdeal.Merge Cert.Merge
open Cert.MergeIdeal.Merge (entryOf placeOf flat_1024)
open Cert.MiddleReferenceIdeal.Merge (steppedV steppedV_apply result_eq)

/-- The reference's stages at one row of its result. -/
theorem stages_apply (x f : FVec Ideal Cert.MergeReferenceIdeal.S8x2048x1024 .f32) (b : FVec Ideal Cert.MergeReferenceIdeal.S8x2048x128 .f32) (c : FVec Ideal Cert.MergeReferenceIdeal.S8x2048x512 .f32)
    (g : FVec Ideal Cert.MergeReferenceIdeal.S8x2048x3072 .f32) (wa : FVec Ideal Cert.MergeReferenceIdeal.S1024x1024 .f32) (wb : FVec Ideal Cert.MergeReferenceIdeal.S128x1024 .f32)
    (wc : FVec Ideal Cert.MergeReferenceIdeal.S512x1024 .f32) (wo : FVec Ideal Cert.MergeReferenceIdeal.S1024x1024 .f32) (gain : FVec Ideal Cert.MergeReferenceIdeal.S1024 .f32)
    (wg wu : FVec Ideal Cert.MergeReferenceIdeal.S1024x2816 .f32) (wd : FVec Ideal Cert.MergeReferenceIdeal.S2816x1024 .f32) (n : Fin 16384) (d : Fin 1024) :
    (shapeCast Cert.MergeReferenceIdeal.S16384x1024 (steppedV (F := Ideal) (Cert.MergeReferenceIdeal.Merge.residV (F := Ideal) x f b c g wa wb wc wo) gain wg wu wd)
      Cert.MergeReferenceIdeal.Gen.facts.shapeCasts_S8x2048x1024_S16384x1024 : FVec Ideal Cert.MergeReferenceIdeal.S16384x1024 .f32) (ix2 n d)
      = middleRow x f b c g wa wb wc wo gain wg wu wd (entryOf n) (placeOf n) d := by
  refine (flat_1024 _ n d).trans ((steppedV_apply _ gain wg wu wd (entryOf n) (placeOf n) d).trans ?_)
  unfold middleRow residRow
  simp only [Cert.MergeReferenceIdeal.Merge.residV_apply]

theorem equal : Cert.algebraic_MiddleIdeal_MiddleReferenceIdeal := by
  intro m g m' g' _ ha
  refine ⟨fun c => arrayOf m c, ?_, ?_⟩
  · exact (θ_run _ _ _).mono (fun r h c => ⟨(h c).1.trans (array_end m c), (h c).2⟩) (Cert.MiddleIdeal.Value.run_blocks m g)
  · refine (θ_run _ _ _).mono (fun r h c => ⟨?_, (h c).2⟩) (Cert.MiddleReferenceIdeal.Value.run m' g')
    refine (h c).1.trans ?_
    obtain ⟨e0, e1, e2, e3, e4, e5, e6, e7, e8, e9, e10, e11, e12⟩ := ha c
    refine (result_eq m' c).trans ?_
    rw [e0, e1, e2, e3, e4, e5, e6, e7, e8, e9, e10, e11, e12]
    funext y
    obtain ⟨n, d, rfl⟩ : ∃ (n : Fin 16384) (d : Fin 1024), y = (ix2 n d : Cert.MiddleIdeal.S16384x1024.Idx) := by
      refine ⟨⟨(y 0).val, (y 0).isLt⟩, ⟨(y 1).val, (y 1).isLt⟩, funext fun a => Fin.ext ?_⟩
      match a with
      | ⟨0, _⟩ => rfl
      | ⟨1, _⟩ => rfl
    exact stages_apply _ _ _ _ _ _ _ _ _ _ _ _ _ n d

end Cert.Proof.Middle
end
-- ==== Proof.Ffn.Words.lean ====
module

public import proofs.«01_k».proof.Defs
public import proofs.«01_k».proof.Proof.Gen.Ffn
public import proofs.«01_k».proof.Proof.Gen.FfnIdeal
public import proofs.«01_k».proof.Proof.Gen.FfnIdeal.Frame

/-! # The feed-forward step: its frame, from the run over any scalars -/

@[expose] public section

set_option maxRecDepth 16384
set_option maxHeartbeats 8000000

noncomputable section

namespace Cert.Proof.Ffn

open Idealize.ShloMosaic Idealize.SL.Sem

/-- The two programs' kernel functions are one function over the words. -/
theorem body_words : Cert.FfnIdeal.cc0_ffn (F := Bits) = Cert.Ffn.cc0_ffn (F := Bits) := rfl

/-- So are their tables of kernel functions, -/
theorem rows_words : Cert.FfnIdeal.defs₀ (F := Bits) = Cert.Ffn.defs₀ (F := Bits) := by
  unfold Cert.FfnIdeal.defs₀ Cert.Ffn.defs₀
  refine congrArg Defs.onTc (funext fun l => funext fun a => ?_)
  match l, a with
  | ⟨0, _⟩, (t, s) => rfl
  | ⟨_ + 1, h⟩, _ => exact absurd h (Nat.not_lt.2 (Nat.le_add_left _ _))

/-- and so the whole tables. -/
theorem defs_words : Cert.FfnIdeal.defs (F := Bits) = Cert.Ffn.defs (F := Bits) :=
  congrArg (Idealize.ShloMosaic.Pipeline.defs Cert.Ffn.pcfgs) rows_words

theorem main_words : Cert.FfnIdeal.main (F := Bits) = Cert.Ffn.main (F := Bits) := by
  exact rfl

/-- The feed-forward step: its frame: the two programs have one text, so the one run serves. -/
theorem frame : Cert.quiescent_Ffn := fun m ρ _ => by
  have h := Cert.FfnIdeal.Gen.frame (F := Bits) m ρ
  rw [defs_words, main_words] at h
  exact h

end Cert.Proof.Ffn
end
-- ==== Proof.Ffn.Pay.lean ====
module

public import proofs.«01_k».proof.Proof.Gen.FfnIdeal.Skeleton
public import proofs.«01_k».proof.Proof.Merge.Row

/-! # The feed-forward kernel's printed values at an index -/

@[expose] public section

set_option maxRecDepth 16384

noncomputable section

namespace Cert.FfnIdeal.Ffn

open Idealize.ShloMosaic Idealize.ShloMosaic.TcCoe
open Cert.FfnIdeal Cert.FfnIdeal.Gen Cert.Merge

/-- The rows a grid step reads, as they are. -/
theorem same23 (x : Vec Ideal S1024x1024 .f32) : k0_pay23 x = x := by
  funext y
  idx_vars y
  unfold k0_pay23
  pointwise

/-- The upper 512 rows, normalised. -/
theorem upper_apply (x : Vec Ideal S1024x1024 .f32) (g : Vec Ideal S1x1024 .f32) (r : Fin 512) (d : Fin 1024) :
    k0_pay24 x g (ix2 r d) = rowNorm (fun d => x (ix2 ⟨r.val, by omega⟩ d)) (fun d => g (ix2 0 d)) d := by
  unfold k0_pay24 rowNorm
  rw [same23]
  pointwise

/-- The lower 512 rows, normalised. -/
theorem lower_apply (x : Vec Ideal S1024x1024 .f32) (g : Vec Ideal S1x1024 .f32) (r : Fin 512) (d : Fin 1024) :
    k0_pay28 (k0_pay25 x) (k0_pay26 g) (k0_pay27 x) (ix2 r d) = rowNorm (fun d => x (ix2 ⟨512 + r.val, by omega⟩ d)) (fun d => g (ix2 0 d)) d := by
  unfold k0_pay28 k0_pay27 k0_pay26 k0_pay25 rowNorm
  rw [same23]
  pointwise

/-- All 1024 rows, normalised: the two halves are put together. -/
theorem both_apply (x : Vec Ideal S1024x1024 .f32) (g : Vec Ideal S1x1024 .f32) (r : Fin 1024) (d : Fin 1024) :
    k0_pay29 (k0_pay24 x g) (k0_pay25 x) (k0_pay26 g) (k0_pay27 x) (ix2 r d) = rowNorm (fun d => x (ix2 r d)) (fun d => g (ix2 0 d)) d := by
  by_cases h : r.val < 512
  · refine Eq.trans ?_ (upper_apply x g ⟨r.val, h⟩ d)
    unfold k0_pay29
    generalize k0_pay24 x g = u
    generalize k0_pay28 (k0_pay25 x) (k0_pay26 g) (k0_pay27 x) = v
    pointwise
    exact dif_pos h
  · refine Eq.trans ?_ ((lower_apply x g ⟨r.val - 512, by omega⟩ d).trans ?_)
    · unfold k0_pay29
      generalize k0_pay24 x g = u
      generalize k0_pay28 (k0_pay25 x) (k0_pay26 g) (k0_pay27 x) = v
      pointwise
      exact dif_neg h
    · have e : (⟨512 + (r.val - 512), by omega⟩ : Fin 1024) = r := Fin.ext (by show 512 + (r.val - 512) = r.val; omega)
      exact congrArg (fun r => rowNorm (fun d => x (ix2 r d)) (fun d => g (ix2 0 d)) d) e

/-- A column chunk of hidden units, for all 1024 rows. -/
theorem chunk_apply (h : FVec Ideal S1024x1024 .bf16) (wg wu : Vec Ideal S1024x256 .bf16) (r : Fin 1024) (n : Fin 256) :
    k0_pay2 h wg wu (ix2 r n) = gated (fun k => h (ix2 r k)) (fun k => wg (ix2 k n)) (fun k => wu (ix2 k n)) := by
  unfold k0_pay2 gated
  pointwise

/-- The first column chunk, for 512 rows. -/
theorem half_apply (h : FVec Ideal S512x1024 .bf16) (wg wu : Vec Ideal S1024x256 .bf16) (r : Fin 512) (n : Fin 256) :
    k0_pay30 h wg wu (ix2 r n) = gated (fun k => h (ix2 r k)) (fun k => wg (ix2 k n)) (fun k => wu (ix2 k n)) := by
  unfold k0_pay30 gated
  pointwise

/-- The rows of the result. -/
theorem stepped_apply (v : FVec Ideal S1024x1024 .f32) (a : Vec Ideal S1024x2816 .bf16) (w : Vec Ideal S2816x1024 .bf16) (r : Fin 1024) (d : Fin 1024) :
    k0_pay3 v a w (ix2 r d) = step (fun d => v (ix2 r d)) (fun n => a (ix2 r n)) (fun n d => w (ix2 n d)) d := by
  unfold k0_pay3 step
  pointwise

/-! The weights a grid step casts: a block with the layer's axis dropped, some column groups scaled. -/

theorem cast4 (v : Vec Ideal S1x64x1024 .f32) (i : Fin 64) (j : Fin 1024) : k0_pay4 v (ix2 i j) = v (ix3 0 i j) := by
  unfold k0_pay4
  pointwise
theorem cast5 (v : Vec Ideal S1x32x1024 .f32) (i : Fin 32) (j : Fin 1024) : k0_pay5 v (ix2 i j) = v (ix3 0 i j) := by
  unfold k0_pay5
  pointwise
theorem cast7 (v : Vec Ideal S1x64x3072 .f32) (i : Fin 64) (j : Fin 3072) : k0_pay7 v (ix2 i j) = v (ix3 0 i j) := by
  unfold k0_pay7
  pointwise
theorem cast20 (v : Vec Ideal S1x64x2816 .f32) (i : Fin 64) (j : Fin 2816) : k0_pay20 v (ix2 i j) = v (ix3 0 i j) := by
  unfold k0_pay20
  pointwise
theorem cast22 (v : Vec Ideal S1x176x1024 .f32) (i : Fin 176) (j : Fin 1024) : k0_pay22 v (ix2 i j) = v (ix3 0 i j) := by
  unfold k0_pay22
  pointwise
theorem cast11 (v : Vec Ideal S1x64x128 .f32) (i : Fin 64) (j : Fin 128) : k0_pay11 v (ix2 i j) = v (ix3 0 i j) := by
  unfold k0_pay11
  pointwise
theorem cast12 (v : Vec Ideal S1x64x128 .f32) (i : Fin 64) (j : Fin 128) : k0_pay12 v (ix2 i j) = v (ix3 0 i j) * Ideal.ofBits .f32 0x3E38AA3B#32 := by
  unfold k0_pay12
  pointwise
theorem cast18 (v : Vec Ideal S1x64x512 .f32) (i : Fin 64) (j : Fin 512) : k0_pay18 v (ix2 i j) = v (ix3 0 i j) * Ideal.ofBits .f32 0x3E38AA3B#32 := by
  unfold k0_pay18
  pointwise

end Cert.FfnIdeal.Ffn
end
-- ==== Proof.Ffn.Body.lean ====
module

public import proofs.«01_k».proof.Proof.Gen.FfnIdeal.Value
public import proofs.«01_k».proof.Proof.Ffn.Pay
public import proofs.«01_k».proof.Proof.Middle.Body
public import Idealize.ShloMosaic.Lib.Pipeline.ValueKit.Basic
public import Idealize.ShloMosaic.Lib.Pipeline.ValueKit.Tiles

/-! # The rows a grid step of the feed-forward kernel leaves -/

@[expose] public section

set_option maxRecDepth 16384

noncomputable section

namespace Cert.FfnIdeal.Ffn

open Idealize.ShloMosaic Idealize.ShloMosaic.TcCoe Idealize.ShloMosaic.Tactic
open Cert.FfnIdeal Cert.FfnIdeal.Gen Cert.Merge

/-- Which entries a rectangle of the scratch holds. -/
theorem mem_scratch (a b s t : ℕ) (inb : ∀ i, (![a, b] : Fin 2 → ℕ) i + (![s, t] : Fin 2 → ℕ) i ≤ S1024x2816.size i) (r : Fin 1024) (n : Fin 2816) :
    ix2 r n ∈ (Rect.unit (s := S1024x2816) ![a, b] ![s, t] inb).set ↔ (a ≤ r.val ∧ r.val < a + s) ∧ b ≤ n.val ∧ n.val < b + t := by
  rw [Rect.mem_set_unit]
  exact Fin.forall_fin_two

section Hidden

variable (x : Vec Ideal S1024x1024 .f32) (g : Vec Ideal S1x1024 .f32) (wg wu : Vec Ideal S1024x2816 .bf16)

/-- The hidden units a row leaves in the scratch. -/
def hid (r : Fin 1024) (n : Fin 2816) : EReal :=
  gated (rowNorm (fun d => x (ix2 r d)) (fun d => g (ix2 0 d))) (fun k => wg (ix2 k n)) (fun k => wu (ix2 k n))

/-- A column chunk of a weight, at an index. -/
theorem cols_apply (w : Vec Ideal S1024x2816 .bf16) (o : ℕ) (inb : ∀ a, (![0, o] : Fin 2 → ℕ) a + S1024x256.size a ≤ S1024x2816.size a) (k : Fin 1024) (n : Fin 256) (n' : Fin 2816) (hn : n'.val = o + n.val) :
    View.ld w (Rect.unit ![0, o] S1024x256.size inb) (ix2 k n) = w (ix2 k n') := by
  refine View.ld_unit_apply_of w _ _ inb _ _ fun a => ?_
  match a with
  | ⟨0, _⟩ => show k.val = 0 + k.val; omega
  | ⟨1, _⟩ => exact hn

/-- A chunk of 256 columns and all rows holds the hidden units there. -/
theorem chunk_at (o : ℕ) (inb : ∀ a, (![0, o] : Fin 2 → ℕ) a + S1024x256.size a ≤ S1024x2816.size a) (r : Fin 1024) (n : Fin 2816) :
    View.TileAt (S := S1024x2816) (Val := Elt Ideal) (e := .bf16) (ix2 r n) ![0, o] ![1024, 256]
      (k0_pay2 (k0_pay29 (k0_pay24 x g) (k0_pay25 x) (k0_pay26 g) (k0_pay27 x)) (View.ld wg (Rect.unit ![0, o] S1024x256.size inb)) (View.ld wu (Rect.unit ![0, o] S1024x256.size inb))) (hid x g wg wu r n) := by
  intro z hz
  obtain ⟨r', n', rfl⟩ : ∃ (r' : Fin 1024) (n' : Fin 256), z = ix2 r' n' := ⟨z 0, z 1, eq_ix2 z⟩
  have h0 : r.val = 0 + r'.val := hz 0
  have h1 : n.val = o + n'.val := hz 1
  have hr : r' = r := Fin.ext (by omega)
  subst hr
  refine (chunk_apply _ _ _ r' n').trans ?_
  exact gated_congr (fun k => both_apply x g r' k) (fun k => cols_apply wg o inb k n' n h1) (fun k => cols_apply wu o inb k n' n h1)

/-- The first chunk's upper half. -/
theorem upper_at (inb : ∀ a, (![0, 0] : Fin 2 → ℕ) a + S1024x256.size a ≤ S1024x2816.size a) (r : Fin 1024) (n : Fin 2816) :
    View.TileAt (S := S1024x2816) (Val := Elt Ideal) (e := .bf16) (ix2 r n) ![0, 0] ![512, 256]
      (k0_pay30 (k0_pay24 x g) (View.ld wg (Rect.unit ![0, 0] S1024x256.size inb)) (View.ld wu (Rect.unit ![0, 0] S1024x256.size inb))) (hid x g wg wu r n) := by
  intro z hz
  obtain ⟨r', n', rfl⟩ : ∃ (r' : Fin 512) (n' : Fin 256), z = ix2 r' n' := ⟨z 0, z 1, eq_ix2 z⟩
  have h0 : r.val = 0 + r'.val := hz 0
  have h1 : n.val = 0 + n'.val := hz 1
  have hb : r'.val < 1024 := by omega
  have hr : r = ⟨r'.val, hb⟩ := Fin.ext (by show r.val = r'.val; omega)
  subst hr
  refine (half_apply _ _ _ r' n').trans ?_
  exact gated_congr (fun k => upper_apply x g r' k) (fun k => cols_apply wg 0 inb k n' n h1) (fun k => cols_apply wu 0 inb k n' n h1)

/-- The first chunk's lower half. -/
theorem lower_at (inb : ∀ a, (![0, 0] : Fin 2 → ℕ) a + S1024x256.size a ≤ S1024x2816.size a) (r : Fin 1024) (n : Fin 2816) :
    View.TileAt (S := S1024x2816) (Val := Elt Ideal) (e := .bf16) (ix2 r n) ![512, 0] ![512, 256]
      (k0_pay30 (k0_pay28 (k0_pay25 x) (k0_pay26 g) (k0_pay27 x)) (View.ld wg (Rect.unit ![0, 0] S1024x256.size inb)) (View.ld wu (Rect.unit ![0, 0] S1024x256.size inb))) (hid x g wg wu r n) := by
  intro z hz
  obtain ⟨r', n', rfl⟩ : ∃ (r' : Fin 512) (n' : Fin 256), z = ix2 r' n' := ⟨z 0, z 1, eq_ix2 z⟩
  have h0 : r.val = 512 + r'.val := hz 0
  have h1 : n.val = 0 + n'.val := hz 1
  have hb : 512 + r'.val < 1024 := by omega
  have hr : r = ⟨512 + r'.val, hb⟩ := Fin.ext h0
  subst hr
  refine (half_apply _ _ _ r' n').trans ?_
  exact gated_congr (fun k => lower_apply x g r' k) (fun k => cols_apply wg 0 inb k n' n h1) (fun k => cols_apply wu 0 inb k n' n h1)

end Hidden

/-- What a grid step leaves in the rows' window. -/
theorem left_13 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 1024) (d : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = stepped (fun d => x0 (ix2 r d)) (fun d => x1 (ix2 0 d)) (fun k n => x2 (ix2 k n)) (fun k n => x3 (ix2 k n)) (fun n d => x4 (ix2 n d)) d := by
  unfold out0_A_13
  rw [View.read_writes_eq_canon _ _ _ (fun y => cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1024x1024) inb_S1024x1024_S1024x1024_0_0 _ (by decide), View.ld_unit_lit (S := S1x1024) inb_S1x1024_S1x1024_0_0 _ (by decide),
    View.ld_unit_lit (S := S2816x1024) inb_S2816x1024_S2816x1024_0_0 _ (by decide), same23]
  refine (stepped_apply _ _ _ r d).trans ?_
  unfold stepped
  generalize hA : View.readCov (Val := Elt Ideal) arg23.view _ _ = A
  have hAr : ∀ n, A (ix2 r n) = gated (rowNorm (fun d => x0 (ix2 r d)) (fun d => x1 (ix2 0 d))) (fun k => x2 (ix2 k n)) (fun k => x3 (ix2 k n)) := by
    intro n
    rw [← hA]
    unfold View.readCov
    have hcov : ∀ L : List (View.Piece (Elt Ideal) S1024x2816 .bf16), (∃ p ∈ L, ix2 r n ∈ p.1.set) → View.AllAt L (ix2 r n) (hid x0 x1 x2 x3 r n)
        → View.readAt (Elt Ideal) arg23.view (Rect.unit (s := S1024x2816) ![0, 0] S1024x2816.size inb_S1024x2816_S1024x2816_0_0).toLoadRect (arg23.view.writes (Elt Ideal) arg23.view.junk L) (ix2 r n) = hid x0 x1 x2 x3 r n := by
      intro L hL hA
      refine Eq.trans ?_ ((View.read_writes_apply_eq_canon arg23.view arg23.view.junk (ix2 r n) L hL).trans (View.canon_eq_of_allAt L _ _ hL hA))
      refine congrArg (arg23.view.read (Elt Ideal) (arg23.view.writes (Elt Ideal) arg23.view.junk L)) (funext fun a => Fin.ext ?_)
      match a with
      | ⟨0, _⟩ => show 0 + 1 * r.val = r.val; omega
      | ⟨1, _⟩ => show 0 + 1 * n.val = n.val; omega
    refine (hcov _ ?_ ?_).trans rfl
    · simp only [List.mem_cons, exists_eq_or_imp, mem_scratch]
      omega
    · exact View.allAt_cons_unit _ _ _ _ _ (chunk_at x0 x1 x2 x3 2560 _ r n) <| View.allAt_cons_unit _ _ _ _ _ (chunk_at x0 x1 x2 x3 2304 _ r n) <| View.allAt_cons_unit _ _ _ _ _ (chunk_at x0 x1 x2 x3 2048 _ r n) <| View.allAt_cons_unit _ _ _ _ _ (chunk_at x0 x1 x2 x3 1792 _ r n) <| View.allAt_cons_unit _ _ _ _ _ (chunk_at x0 x1 x2 x3 1536 _ r n) <| View.allAt_cons_unit _ _ _ _ _ (chunk_at x0 x1 x2 x3 1280 _ r n) <| View.allAt_cons_unit _ _ _ _ _ (chunk_at x0 x1 x2 x3 1024 _ r n) <| View.allAt_cons_unit _ _ _ _ _ (chunk_at x0 x1 x2 x3 768 _ r n) <| View.allAt_cons_unit _ _ _ _ _ (chunk_at x0 x1 x2 x3 512 _ r n) <| View.allAt_cons_unit _ _ _ _ _ (chunk_at x0 x1 x2 x3 256 _ r n) <| View.allAt_cons_unit _ _ _ _ _ (lower_at x0 x1 x2 x3 _ r n) <| View.allAt_cons_unit _ _ _ _ _ (upper_at x0 x1 x2 x3 _ r n) <| View.allAt_nil _ _
  simp only [hAr]

end Cert.FfnIdeal.Ffn
end
-- ==== Proof.Ffn.Casts.lean ====
module

public import proofs.«01_k».proof.Proof.Gen.FfnIdeal.Value
public import proofs.«01_k».proof.Proof.Ffn.Pay
public import Idealize.ShloMosaic.Lib.Pipeline.ValueKit.Basic
public import Idealize.ShloMosaic.Lib.Pipeline.ValueKit.Tiles

/-! # The weights a grid step of the feed-forward kernel casts -/

@[expose] public section

set_option maxRecDepth 16384

noncomputable section

namespace Cert.Ffn

open Idealize.ShloMosaic

/-- The column of the input projection that the arranged projection has in column `n`: each group's queries, keys and values side by side. -/
def source (n : ℕ) : ℕ := if 1024 ≤ n ∧ n < 2176 then 1024 + (n - 1024) % 384 / 128 * 384 + (n - 1024) / 384 * 128 + (n - 1024) % 128 else n

/-- Whether column `n` of the arranged projection holds queries, which are scaled. -/
def scaled (n : ℕ) : Bool := decide ((1024 ≤ n ∧ n < 2176 ∧ (n - 1024) % 384 < 128) ∨ (2176 ≤ n ∧ n < 2688))

theorem source_lt (n : Fin 3712) : source n.val < 3712 := by
  unfold source
  split <;> omega

/-- A row of the arranged projection. -/
def arranged (w : Fin 3712 → EReal) (n : Fin 3712) : EReal :=
  if scaled n.val then w ⟨source n.val, source_lt n⟩ * Ideal.ofBits .f32 0x3E38AA3B#32 else w ⟨source n.val, source_lt n⟩

theorem arranged_plain (w : Fin 3712 → EReal) (n p : Fin 3712) (hs : scaled n.val = false) (hp : source n.val = p.val) : w p = arranged w n := by
  unfold arranged
  rw [if_neg (by rw [hs]; exact Bool.false_ne_true)]
  exact congrArg w (Fin.ext hp.symm)

theorem arranged_scaled (w : Fin 3712 → EReal) (n p : Fin 3712) (hs : scaled n.val = true) (hp : source n.val = p.val) : w p * Ideal.ofBits .f32 0x3E38AA3B#32 = arranged w n := by
  unfold arranged
  rw [if_pos hs]
  exact congrArg (fun q => w q * Ideal.ofBits .f32 0x3E38AA3B#32) (Fin.ext hp.symm)

end Cert.Ffn

namespace Cert.FfnIdeal.Ffn

open Idealize.ShloMosaic Idealize.ShloMosaic.TcCoe Idealize.ShloMosaic.Tactic
open Cert.FfnIdeal Cert.FfnIdeal.Gen Cert.Ffn

/-- Which entries a rectangle of a block of the arranged projection holds. -/
theorem mem_block (a b s t : ℕ) (inb : ∀ i, (![a, b] : Fin 2 → ℕ) i + (![s, t] : Fin 2 → ℕ) i ≤ S64x3712.size i) (r : Fin 64) (n : Fin 3712) :
    ix2 r n ∈ (Rect.unit (s := S64x3712) ![a, b] ![s, t] inb).set ↔ (a ≤ r.val ∧ r.val < a + s) ∧ b ≤ n.val ∧ n.val < b + t := by
  rw [Rect.mem_set_unit]
  exact Fin.forall_fin_two

theorem piece_0 (x9 : Vec Ideal S1x64x3712 .f32) (inb : ∀ a, (![0, 0, 0] : Fin 3 → ℕ) a + S1x64x1024.size a ≤ S1x64x3712.size a) (r : Fin 64) (n : Fin 3712) :
    View.TileAt (S := S64x3712) (Val := Elt Ideal) (e := .bf16) (ix2 r n) ![0, 0] ![64, 1024]
      (k0_pay4 (View.ld x9 (Rect.unit ![0, 0, 0] S1x64x1024.size inb))) (arranged (fun n => x9 (ix3 0 r n)) n) := by
  intro z hz
  obtain ⟨r', n', rfl⟩ : ∃ (r' : Fin 64) (n' : Fin 1024), z = ix2 r' n' := ⟨z 0, z 1, eq_ix2 z⟩
  have h0 : r.val = 0 + r'.val := hz 0
  have h1 : n.val = 0 + n'.val := hz 1
  have hr : r' = r := Fin.ext (by omega)
  subst hr
  have hn : n'.val < 1024 := n'.isLt
  refine (cast4 _ r' n').trans (Eq.trans ?_ (arranged_plain _ n ⟨0 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_1024 (x9 : Vec Ideal S1x64x3712 .f32) (inb : ∀ a, (![0, 0, 1024] : Fin 3 → ℕ) a + S1x64x128.size a ≤ S1x64x3712.size a) (r : Fin 64) (n : Fin 3712) :
    View.TileAt (S := S64x3712) (Val := Elt Ideal) (e := .bf16) (ix2 r n) ![0, 1024] ![64, 128]
      (k0_pay12 (View.ld x9 (Rect.unit ![0, 0, 1024] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1024 + n'.val := hz 1
  have hr : r' = r := Fin.ext (by omega)
  subst hr
  have hn : n'.val < 128 := n'.isLt
  refine (cast12 _ r' n').trans (Eq.trans ?_ (arranged_scaled _ n ⟨1024 + n'.val, by omega⟩ (by unfold scaled; simp; omega) (by unfold source; split <;> (dsimp only; omega))))
  refine congrArg (fun q => q * Ideal.ofBits .f32 0x3E38AA3B#32) ?_
  refine View.ld_unit_apply_of x9 _ _ inb _ _ fun a => ?_
  match a with
  | ⟨0, _⟩ => rfl
  | ⟨1, _⟩ => show r'.val = 0 + r'.val; omega
  | ⟨2, _⟩ => rfl

theorem piece_1152 (x9 : Vec Ideal S1x64x3712 .f32) (inb : ∀ a, (![0, 0, 1408] : Fin 3 → ℕ) a + S1x64x128.size a ≤ S1x64x3712.size a) (r : Fin 64) (n : Fin 3712) :
    View.TileAt (S := S64x3712) (Val := Elt Ideal) (e := .bf16) (ix2 r n) ![0, 1152] ![64, 128]
      (k0_pay11 (View.ld x9 (Rect.unit ![0, 0, 1408] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1152 + n'.val := hz 1
  have hr : r' = r := Fin.ext (by omega)
  subst hr
  have hn : n'.val < 128 := n'.isLt
  refine (cast11 _ r' n').trans (Eq.trans ?_ (arranged_plain _ n ⟨1408 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_1280 (x9 : Vec Ideal S1x64x3712 .f32) (inb : ∀ a, (![0, 0, 1792] : Fin 3 → ℕ) a + S1x64x128.size a ≤ S1x64x3712.size a) (r : Fin 64) (n : Fin 3712) :
    View.TileAt (S := S64x3712) (Val := Elt Ideal) (e := .bf16) (ix2 r n) ![0, 1280] ![64, 128]
      (k0_pay11 (View.ld x9 (Rect.unit ![0, 0, 1792] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1280 + n'.val := hz 1
  have hr : r' = r := Fin.ext (by omega)
  subst hr
  have hn : n'.val < 128 := n'.isLt
  refine (cast11 _ r' n').trans (Eq.trans ?_ (arranged_plain _ n ⟨1792 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_1408 (x9 : Vec Ideal S1x64x3712 .f32) (inb : ∀ a, (![0, 0, 1152] : Fin 3 → ℕ) a + S1x64x128.size a ≤ S1x64x3712.size a) (r : Fin 64) (n : Fin 3712) :
    View.TileAt (S := S64x3712) (Val := Elt Ideal) (e := .bf16) (ix2 r n) ![0, 1408] ![64, 128]
      (k0_pay12 (View.ld x9 (Rect.unit ![0, 0, 1152] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1408 + n'.val := hz 1
  have hr : r' = r := Fin.ext (by omega)
  subst hr
  have hn : n'.val < 128 := n'.isLt
  refine (cast12 _ r' n').trans (Eq.trans ?_ (arranged_scaled _ n ⟨1152 + n'.val, by omega⟩ (by unfold scaled; simp; omega) (by unfold source; split <;> (dsimp only; omega))))
  refine congrArg (fun q => q * Ideal.ofBits .f32 0x3E38AA3B#32) ?_
  refine View.ld_unit_apply_of x9 _ _ inb _ _ fun a => ?_
  match a with
  | ⟨0, _⟩ => rfl
  | ⟨1, _⟩ => show r'.val = 0 + r'.val; omega
  | ⟨2, _⟩ => rfl

theorem piece_1536 (x9 : Vec Ideal S1x64x3712 .f32) (inb : ∀ a, (![0, 0, 1536] : Fin 3 → ℕ) a + S1x64x128.size a ≤ S1x64x3712.size a) (r : Fin 64) (n : Fin 3712) :
    View.TileAt (S := S64x3712) (Val := Elt Ideal) (e := .bf16) (ix2 r n) ![0, 1536] ![64, 128]
      (k0_pay11 (View.ld x9 (Rect.unit ![0, 0, 1536] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1536 + n'.val := hz 1
  have hr : r' = r := Fin.ext (by omega)
  subst hr
  have hn : n'.val < 128 := n'.isLt
  refine (cast11 _ r' n').trans (Eq.trans ?_ (arranged_plain _ n ⟨1536 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_1664 (x9 : Vec Ideal S1x64x3712 .f32) (inb : ∀ a, (![0, 0, 1920] : Fin 3 → ℕ) a + S1x64x128.size a ≤ S1x64x3712.size a) (r : Fin 64) (n : Fin 3712) :
    View.TileAt (S := S64x3712) (Val := Elt Ideal) (e := .bf16) (ix2 r n) ![0, 1664] ![64, 128]
      (k0_pay11 (View.ld x9 (Rect.unit ![0, 0, 1920] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1664 + n'.val := hz 1
  have hr : r' = r := Fin.ext (by omega)
  subst hr
  have hn : n'.val < 128 := n'.isLt
  refine (cast11 _ r' n').trans (Eq.trans ?_ (arranged_plain _ n ⟨1920 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_1792 (x9 : Vec Ideal S1x64x3712 .f32) (inb : ∀ a, (![0, 0, 1280] : Fin 3 → ℕ) a + S1x64x128.size a ≤ S1x64x3712.size a) (r : Fin 64) (n : Fin 3712) :
    View.TileAt (S := S64x3712) (Val := Elt Ideal) (e := .bf16) (ix2 r n) ![0, 1792] ![64, 128]
      (k0_pay12 (View.ld x9 (Rect.unit ![0, 0, 1280] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1792 + n'.val := hz 1
  have hr : r' = r := Fin.ext (by omega)
  subst hr
  have hn : n'.val < 128 := n'.isLt
  refine (cast12 _ r' n').trans (Eq.trans ?_ (arranged_scaled _ n ⟨1280 + n'.val, by omega⟩ (by unfold scaled; simp; omega) (by unfold source; split <;> (dsimp only; omega))))
  refine congrArg (fun q => q * Ideal.ofBits .f32 0x3E38AA3B#32) ?_
  refine View.ld_unit_apply_of x9 _ _ inb _ _ fun a => ?_
  match a with
  | ⟨0, _⟩ => rfl
  | ⟨1, _⟩ => show r'.val = 0 + r'.val; omega
  | ⟨2, _⟩ => rfl

theorem piece_1920 (x9 : Vec Ideal S1x64x3712 .f32) (inb : ∀ a, (![0, 0, 1664] : Fin 3 → ℕ) a + S1x64x128.size a ≤ S1x64x3712.size a) (r : Fin 64) (n : Fin 3712) :
    View.TileAt (S := S64x3712) (Val := Elt Ideal) (e := .bf16) (ix2 r n) ![0, 1920] ![64, 128]
      (k0_pay11 (View.ld x9 (Rect.unit ![0, 0, 1664] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 1920 + n'.val := hz 1
  have hr : r' = r := Fin.ext (by omega)
  subst hr
  have hn : n'.val < 128 := n'.isLt
  refine (cast11 _ r' n').trans (Eq.trans ?_ (arranged_plain _ n ⟨1664 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_2048 (x9 : Vec Ideal S1x64x3712 .f32) (inb : ∀ a, (![0, 0, 2048] : Fin 3 → ℕ) a + S1x64x128.size a ≤ S1x64x3712.size a) (r : Fin 64) (n : Fin 3712) :
    View.TileAt (S := S64x3712) (Val := Elt Ideal) (e := .bf16) (ix2 r n) ![0, 2048] ![64, 128]
      (k0_pay11 (View.ld x9 (Rect.unit ![0, 0, 2048] S1x64x128.size inb))) (arranged (fun n => x9 (ix3 0 r n)) n) := by
  intro z hz
  obtain ⟨r', n', rfl⟩ : ∃ (r' : Fin 64) (n' : Fin 128), z = ix2 r' n' := ⟨z 0, z 1, eq_ix2 z⟩
  have h0 : r.val = 0 + r'.val := hz 0
  have h1 : n.val = 2048 + n'.val := hz 1
  have hr : r' = r := Fin.ext (by omega)
  subst hr
  have hn : n'.val < 128 := n'.isLt
  refine (cast11 _ r' n').trans (Eq.trans ?_ (arranged_plain _ n ⟨2048 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

theorem piece_2176 (x9 : Vec Ideal S1x64x3712 .f32) (inb : ∀ a, (![0, 0, 2176] : Fin 3 → ℕ) a + S1x64x512.size a ≤ S1x64x3712.size a) (r : Fin 64) (n : Fin 3712) :
    View.TileAt (S := S64x3712) (Val := Elt Ideal) (e := .bf16) (ix2 r n) ![0, 2176] ![64, 512]
      (k0_pay18 (View.ld x9 (Rect.unit ![0, 0, 2176] S1x64x512.size inb))) (arranged (fun n => x9 (ix3 0 r n)) n) := by
  intro z hz
  obtain ⟨r', n', rfl⟩ : ∃ (r' : Fin 64) (n' : Fin 512), z = ix2 r' n' := ⟨z 0, z 1, eq_ix2 z⟩
  have h0 : r.val = 0 + r'.val := hz 0
  have h1 : n.val = 2176 + n'.val := hz 1
  have hr : r' = r := Fin.ext (by omega)
  subst hr
  have hn : n'.val < 512 := n'.isLt
  refine (cast18 _ r' n').trans (Eq.trans ?_ (arranged_scaled _ n ⟨2176 + n'.val, by omega⟩ (by unfold scaled; simp; omega) (by unfold source; split <;> (dsimp only; omega))))
  refine congrArg (fun q => q * Ideal.ofBits .f32 0x3E38AA3B#32) ?_
  refine View.ld_unit_apply_of x9 _ _ inb _ _ fun a => ?_
  match a with
  | ⟨0, _⟩ => rfl
  | ⟨1, _⟩ => show r'.val = 0 + r'.val; omega
  | ⟨2, _⟩ => rfl

theorem piece_2688 (x9 : Vec Ideal S1x64x3712 .f32) (inb : ∀ a, (![0, 0, 2688] : Fin 3 → ℕ) a + S1x64x1024.size a ≤ S1x64x3712.size a) (r : Fin 64) (n : Fin 3712) :
    View.TileAt (S := S64x3712) (Val := Elt Ideal) (e := .bf16) (ix2 r n) ![0, 2688] ![64, 1024]
      (k0_pay4 (View.ld x9 (Rect.unit ![0, 0, 2688] S1x64x1024.size inb))) (arranged (fun n => x9 (ix3 0 r n)) n) := by
  intro z hz
  obtain ⟨r', n', rfl⟩ : ∃ (r' : Fin 64) (n' : Fin 1024), z = ix2 r' n' := ⟨z 0, z 1, eq_ix2 z⟩
  have h0 : r.val = 0 + r'.val := hz 0
  have h1 : n.val = 2688 + n'.val := hz 1
  have hr : r' = r := Fin.ext (by omega)
  subst hr
  have hn : n'.val < 1024 := n'.isLt
  refine (cast4 _ r' n').trans (Eq.trans ?_ (arranged_plain _ n ⟨2688 + n'.val, by omega⟩ (by unfold scaled; simp; omega) (by unfold source; split <;> (dsimp only; omega))))
  skip
  refine View.ld_unit_apply_of x9 _ _ inb _ _ fun a => ?_
  match a with
  | ⟨0, _⟩ => rfl
  | ⟨1, _⟩ => show r'.val = 0 + r'.val; omega
  | ⟨2, _⟩ => rfl

/-- What a grid step leaves in window 14. -/
theorem left_14 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 1024) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x5 (ix3 0 r d) := by
  unfold out0_A_14
  rw [View.read_writes_eq_canon _ _ _ (fun y => cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x64x1024) inb_S1x64x1024_S1x64x1024_0_0_0 _ (by decide)]
  exact cast4 _ r d

/-- What a grid step leaves in window 15. -/
theorem left_15 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 32) (d : Fin 1024) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x6 (ix3 0 r d) := by
  unfold out0_A_15
  rw [View.read_writes_eq_canon _ _ _ (fun y => cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x32x1024) inb_S1x32x1024_S1x32x1024_0_0_0 _ (by decide)]
  exact cast5 _ r d

/-- What a grid step leaves in window 16. -/
theorem left_16 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 1024) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x7 (ix3 0 r d) := by
  unfold out0_A_16
  rw [View.read_writes_eq_canon _ _ _ (fun y => cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x64x1024) inb_S1x64x1024_S1x64x1024_0_0_0 _ (by decide)]
  exact cast4 _ r d

/-- What a grid step leaves in window 17. -/
theorem left_17 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 3072) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x8 (ix3 0 r d) := by
  unfold out0_A_17
  rw [View.read_writes_eq_canon _ _ _ (fun y => cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x64x3072) inb_S1x64x3072_S1x64x3072_0_0_0 _ (by decide)]
  exact cast7 _ r d

/-- What a grid step leaves in window 19. -/
theorem left_19 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 2816) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x10 (ix3 0 r d) := by
  unfold out0_A_19
  rw [View.read_writes_eq_canon _ _ _ (fun y => cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x64x2816) inb_S1x64x2816_S1x64x2816_0_0_0 _ (by decide)]
  exact cast20 _ r d

/-- What a grid step leaves in window 20. -/
theorem left_20 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 2816) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x11 (ix3 0 r d) := by
  unfold out0_A_20
  rw [View.read_writes_eq_canon _ _ _ (fun y => cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x64x2816) inb_S1x64x2816_S1x64x2816_0_0_0 _ (by decide)]
  exact cast20 _ r d

/-- What a grid step leaves in window 21. -/
theorem left_21 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 176) (d : Fin 1024) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = x12 (ix3 0 r d) := by
  unfold out0_A_21
  rw [View.read_writes_eq_canon _ _ _ (fun y => cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine (congrFun (View.canon_cons_unit_lit (Val := Elt Ideal) _ _ _ (by decide)) _).trans ?_
  simp only [View.ld_unit_lit (S := S1x176x1024) inb_S1x176x1024_S1x176x1024_0_0_0 _ (by decide)]
  exact cast22 _ r d

/-- What a grid step leaves in window 18: rows of the arranged projection. -/
theorem left_18 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x64x1024 .f32) (harg6 : arg6.IsWhole) (arg7 : Memref sig .tc .vmem S1x32x1024 .f32) (harg7 : arg7.IsWhole) (arg8 : Memref sig .tc .vmem S1x64x1024 .f32) (harg8 : arg8.IsWhole) (arg9 : Memref sig .tc .vmem S1x64x3072 .f32) (harg9 : arg9.IsWhole) (arg10 : Memref sig .tc .vmem S1x64x3712 .f32) (harg10 : arg10.IsWhole) (arg11 : Memref sig .tc .vmem S1x64x2816 .f32) (harg11 : arg11.IsWhole) (arg12 : Memref sig .tc .vmem S1x64x2816 .f32) (harg12 : arg12.IsWhole) (arg13 : Memref sig .tc .vmem S1x176x1024 .f32) (harg13 : arg13.IsWhole) (arg14 : Memref sig .tc .vmem S1024x1024 .f32) (harg14 : arg14.IsWhole) (arg15 : Memref sig .tc .vmem S64x1024 .bf16) (harg15 : arg15.IsWhole) (arg16 : Memref sig .tc .vmem S32x1024 .bf16) (harg16 : arg16.IsWhole) (arg17 : Memref sig .tc .vmem S64x1024 .bf16) (harg17 : arg17.IsWhole) (arg18 : Memref sig .tc .vmem S64x3072 .bf16) (harg18 : arg18.IsWhole) (arg19 : Memref sig .tc .vmem S64x3712 .bf16) (harg19 : arg19.IsWhole) (arg20 : Memref sig .tc .vmem S64x2816 .bf16) (harg20 : arg20.IsWhole) (arg21 : Memref sig .tc .vmem S64x2816 .bf16) (harg21 : arg21.IsWhole) (arg22 : Memref sig .tc .vmem S176x1024 .bf16) (harg22 : arg22.IsWhole) (arg23 : Memref sig .tc .vmem S1024x2816 .bf16) (harg23 : arg23.IsWhole)
    (x0 : Vec Ideal S1024x1024 .f32) (x1 : Vec Ideal S1x1024 .f32) (x2 : Vec Ideal S1024x2816 .bf16) (x3 : Vec Ideal S1024x2816 .bf16) (x4 : Vec Ideal S2816x1024 .bf16) (x5 : Vec Ideal S1x64x1024 .f32) (x6 : Vec Ideal S1x32x1024 .f32) (x7 : Vec Ideal S1x64x1024 .f32) (x8 : Vec Ideal S1x64x3072 .f32) (x9 : Vec Ideal S1x64x3712 .f32) (x10 : Vec Ideal S1x64x2816 .f32) (x11 : Vec Ideal S1x64x2816 .f32) (x12 : Vec Ideal S1x176x1024 .f32) (r : Fin 64) (d : Fin 3712) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 (ix2 r d) = arranged (fun n => x9 (ix3 0 r n)) d := by
  unfold out0_A_18
  rw [View.read_writes_eq_canon _ _ _ (fun y => cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 y)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread]
  refine View.canon_eq_of_allAt _ _ _ ?_ ?_
  · simp only [List.mem_cons, exists_eq_or_imp, mem_block]
    omega
  · exact View.allAt_cons_unit _ _ _ _ _ (piece_2688 x9 _ r d) <| View.allAt_cons_unit _ _ _ _ _ (piece_2176 x9 _ r d) <| View.allAt_cons_unit _ _ _ _ _ (piece_2048 x9 _ r d) <| View.allAt_cons_unit _ _ _ _ _ (piece_1920 x9 _ r d) <| View.allAt_cons_unit _ _ _ _ _ (piece_1792 x9 _ r d) <| View.allAt_cons_unit _ _ _ _ _ (piece_1664 x9 _ r d) <| View.allAt_cons_unit _ _ _ _ _ (piece_1536 x9 _ r d) <| View.allAt_cons_unit _ _ _ _ _ (piece_1408 x9 _ r d) <| View.allAt_cons_unit _ _ _ _ _ (piece_1280 x9 _ r d) <| View.allAt_cons_unit _ _ _ _ _ (piece_1152 x9 _ r d) <| View.allAt_cons_unit _ _ _ _ _ (piece_1024 x9 _ r d) <| View.allAt_cons_unit _ _ _ _ _ (piece_0 x9 _ r d) <| View.allAt_nil _ _

end Cert.FfnIdeal.Ffn
end
-- ==== Proof.Ffn.Blocks.lean ====
module

public import proofs.«01_k».proof.Proof.Ffn.Body
public import proofs.«01_k».proof.Proof.Ffn.Casts
public import proofs.«01_k».proof.Proof.Merge.Blocks
public import Idealize.ShloMosaic.Lib.Pipeline.ValueKit

/-! # The blocks a grid step of the feed-forward kernel reads -/

@[expose] public section

set_option maxRecDepth 16384

noncomputable section

namespace Cert.FfnIdeal.Ffn

open Idealize.ShloMosaic Idealize.ShloMosaic.TcCoe
open Idealize.SL Idealize.SL.Sem
open Cert.FfnIdeal Cert.FfnIdeal.Gen Cert.Merge Cert.Ffn
open Cert.MergeIdeal.Merge (entryOf placeOf flat_1024)

variable (m : (ℓ : Loc nD τ sig) → Buf (Elt Ideal) ℓ)

/-- Row `r` of the blocks of `R` rows at grid step `t`. -/
def rowOf (R : ℕ) (t : Fin cfg0.N) (r : Fin R) : Fin (16 * R) := ⟨R * t.val + r.val, by
  have h : t.val < 16 := t.isLt
  have hr := r.isLt
  calc R * t.val + r.val < R * t.val + R := by omega
    _ = R * (t.val + 1) := by ring
    _ ≤ R * 16 := Nat.mul_le_mul_left R h
    _ = 16 * R := Nat.mul_comm _ _⟩

/-- What window 0's array holds on entry. -/
theorem held_0 (c : Dev nD) : V m c main_v0 = (shapeCast S16384x1024 (m ((c : Thread nD τ).loc main_arg0) : FVec Ideal S8x2048x1024 .f32) shapeCasts_S8x2048x1024_S16384x1024 : FVec Ideal S16384x1024 .f32) := by
  simp only [V, hostOps0, List.flatten_cons, List.flatten_nil, List.append_nil, List.cons_append, List.nil_append]
  run_tidy
  rfl
theorem held_0_apply (c : Dev nD) (n : Fin 16384) (d : Fin 1024) :
    V m c main_v0 (ix2 n d : S16384x1024.Idx) = (m ((c : Thread nD τ).loc main_arg0) : FVec Ideal S8x2048x1024 .f32) (ix3 (entryOf n) (placeOf n) d) := by
  rw [held_0]
  exact flat_1024 _ n d
theorem index_0 : ∀ t : Fin cfg0.N, win0_0.index t 0 = t.val ∧ win0_0.index t 1 = 0 := by decide +kernel
theorem place_0 (t : Fin cfg0.N) (r : Fin 1024) (d : Fin 1024) : (win0_0.blk t).view.emb (ix2 r d : S1024x1024.Idx) = (ix2 (rowOf 1024 t r) d : S16384x1024.Idx) := by
  obtain ⟨e0, e1⟩ := index_0 t
  funext a
  apply Fin.ext
  match a with
  | ⟨0, _⟩ => blk_simp; rw [e0]; show t.val * 1024 + r.val = 1024 * t.val + r.val; omega
  | ⟨1, _⟩ => blk_simp; rw [e1]; show 0 * 1024 + d.val = d.val; omega
theorem read_0 (c : Dev nD) (X : (b : Ref sig .tc) → Buf (Elt Ideal) ((c : Thread nD τ).loc b)) (t : Fin cfg0.N) (y : S1024x1024.Idx) :
    ((cfg0.win 0).blk t).view.read (Elt Ideal) (X (Pipeline.arrRef spec0 0)) y = X main_v0 ((win0_0.blk t).view.emb y) := rfl
theorem blk_0 (c : Dev nD) (t : Fin cfg0.N) (r : Fin 1024) (d : Fin 1024) :
    (iblk m c 0 t : FVec Ideal S1024x1024 .f32) (ix2 r d) = (m ((c : Thread nD τ).loc main_arg0) : FVec Ideal S8x2048x1024 .f32) (ix3 (entryOf (rowOf 1024 t r)) (placeOf (rowOf 1024 t r)) d) :=
  (read_0 c (V m c) t (ix2 r d)).trans ((congrArg (V m c main_v0) (place_0 t r d)).trans (held_0_apply m c (rowOf 1024 t r) d))

/-- What window 1's array holds on entry. -/
theorem held_1 (c : Dev nD) : V m c main_v4 = (shapeCast S1x1024 (m ((c : Thread nD τ).loc main_arg1) : FVec Ideal S1024 .f32) shapeCasts_S1024_S1x1024 : FVec Ideal S1x1024 .f32) := by
  simp only [V, hostOps0, List.flatten_cons, List.flatten_nil, List.append_nil, List.cons_append, List.nil_append]
  run_tidy
  rfl
theorem held_1_apply (c : Dev nD) (d : Fin 1024) : V m c main_v4 (ix2 0 d : S1x1024.Idx) = (m ((c : Thread nD τ).loc main_arg1) : FVec Ideal S1024 .f32) (ix1 d) := by
  rw [held_1]
  pointwise
theorem index_1 : ∀ t : Fin cfg0.N, win0_1.index t 0 = 0 ∧ win0_1.index t 1 = 0 := by decide +kernel
theorem place_1 (t : Fin cfg0.N) (d : Fin 1024) : (win0_1.blk t).view.emb (ix2 0 d : S1x1024.Idx) = (ix2 0 d : S1x1024.Idx) := by
  obtain ⟨e0, e1⟩ := index_1 t
  funext a
  apply Fin.ext
  match a with
  | ⟨0, _⟩ => blk_simp; rw [e0]; rfl
  | ⟨1, _⟩ => blk_simp; rw [e1]; show 0 * 1024 + d.val = d.val; omega
theorem read_1 (c : Dev nD) (X : (b : Ref sig .tc) → Buf (Elt Ideal) ((c : Thread nD τ).loc b)) (t : Fin cfg0.N) (y : S1x1024.Idx) :
    ((cfg0.win 1).blk t).view.read (Elt Ideal) (X (Pipeline.arrRef spec0 1)) y = X main_v4 ((win0_1.blk t).view.emb y) := rfl
theorem blk_1 (c : Dev nD) (t : Fin cfg0.N) (d : Fin 1024) :
    (iblk m c 1 t : FVec Ideal S1x1024 .f32) (ix2 0 d) = (m ((c : Thread nD τ).loc main_arg1) : FVec Ideal S1024 .f32) (ix1 d) :=
  (read_1 c (V m c) t (ix2 0 d)).trans ((congrArg (V m c main_v4) (place_1 t d)).trans (held_1_apply m c d))

/-- What window 2's array holds on entry. -/
theorem held_2 (c : Dev nD) : V m c main_v1 = (truncf (F := Ideal) .bf16 (m ((c : Thread nD τ).loc main_arg2) : FVec Ideal S1024x2816 .f32) bitsLt_bf16_f32 : FVec Ideal S1024x2816 .bf16) := by
  simp only [V, hostOps0, List.flatten_cons, List.flatten_nil, List.append_nil, List.cons_append, List.nil_append]
  run_tidy

theorem index_2 : ∀ t : Fin cfg0.N, win0_2.index t 0 = 0 ∧ win0_2.index t 1 = 0 := by decide +kernel
theorem place_2 (t : Fin cfg0.N) (i : Fin 1024) (j : Fin 2816) : (win0_2.blk t).view.emb (ix2 i j : S1024x2816.Idx) = (ix2 i j : S1024x2816.Idx) := by
  obtain ⟨e0, e1⟩ := index_2 t
  funext a
  apply Fin.ext
  match a with
  | ⟨0, _⟩ => blk_simp; rw [e0]; show 0 * 1024 + i.val = i.val; omega
  | ⟨1, _⟩ => blk_simp; rw [e1]; show 0 * 2816 + j.val = j.val; omega
theorem read_2 (c : Dev nD) (X : (b : Ref sig .tc) → Buf (Elt Ideal) ((c : Thread nD τ).loc b)) (t : Fin cfg0.N) (y : S1024x2816.Idx) :
    ((cfg0.win 2).blk t).view.read (Elt Ideal) (X (Pipeline.arrRef spec0 2)) y = X main_v1 ((win0_2.blk t).view.emb y) := rfl
theorem blk_2 (c : Dev nD) (t : Fin cfg0.N) (i : Fin 1024) (j : Fin 2816) :
    (iblk m c 2 t : FVec Ideal S1024x2816 .bf16) (ix2 i j) = (m ((c : Thread nD τ).loc main_arg2) : FVec Ideal S1024x2816 .f32) (ix2 i j) :=
  (read_2 c (V m c) t (ix2 i j)).trans ((congrArg (V m c main_v1) (place_2 t i j)).trans (congrFun (held_2 m c) _))

/-- What window 3's array holds on entry. -/
theorem held_3 (c : Dev nD) : V m c main_v2 = (truncf (F := Ideal) .bf16 (m ((c : Thread nD τ).loc main_arg3) : FVec Ideal S1024x2816 .f32) bitsLt_bf16_f32 : FVec Ideal S1024x2816 .bf16) := by
  simp only [V, hostOps0, List.flatten_cons, List.flatten_nil, List.append_nil, List.cons_append, List.nil_append]
  run_tidy

theorem index_3 : ∀ t : Fin cfg0.N, win0_3.index t 0 = 0 ∧ win0_3.index t 1 = 0 := by decide +kernel
theorem place_3 (t : Fin cfg0.N) (i : Fin 1024) (j : Fin 2816) : (win0_3.blk t).view.emb (ix2 i j : S1024x2816.Idx) = (ix2 i j : S1024x2816.Idx) := by
  obtain ⟨e0, e1⟩ := index_3 t
  funext a
  apply Fin.ext
  match a with
  | ⟨0, _⟩ => blk_simp; rw [e0]; show 0 * 1024 + i.val = i.val; omega
  | ⟨1, _⟩ => blk_simp; rw [e1]; show 0 * 2816 + j.val = j.val; omega
theorem read_3 (c : Dev nD) (X : (b : Ref sig .tc) → Buf (Elt Ideal) ((c : Thread nD τ).loc b)) (t : Fin cfg0.N) (y : S1024x2816.Idx) :
    ((cfg0.win 3).blk t).view.read (Elt Ideal) (X (Pipeline.arrRef spec0 3)) y = X main_v2 ((win0_3.blk t).view.emb y) := rfl
theorem blk_3 (c : Dev nD) (t : Fin cfg0.N) (i : Fin 1024) (j : Fin 2816) :
    (iblk m c 3 t : FVec Ideal S1024x2816 .bf16) (ix2 i j) = (m ((c : Thread nD τ).loc main_arg3) : FVec Ideal S1024x2816 .f32) (ix2 i j) :=
  (read_3 c (V m c) t (ix2 i j)).trans ((congrArg (V m c main_v2) (place_3 t i j)).trans (congrFun (held_3 m c) _))

/-- What window 4's array holds on entry. -/
theorem held_4 (c : Dev nD) : V m c main_v3 = (truncf (F := Ideal) .bf16 (m ((c : Thread nD τ).loc main_arg4) : FVec Ideal S2816x1024 .f32) bitsLt_bf16_f32 : FVec Ideal S2816x1024 .bf16) := by
  simp only [V, hostOps0, List.flatten_cons, List.flatten_nil, List.append_nil, List.cons_append, List.nil_append]
  run_tidy

theorem index_4 : ∀ t : Fin cfg0.N, win0_4.index t 0 = 0 ∧ win0_4.index t 1 = 0 := by decide +kernel
theorem place_4 (t : Fin cfg0.N) (i : Fin 2816) (j : Fin 1024) : (win0_4.blk t).view.emb (ix2 i j : S2816x1024.Idx) = (ix2 i j : S2816x1024.Idx) := by
  obtain ⟨e0, e1⟩ := index_4 t
  funext a
  apply Fin.ext
  match a with
  | ⟨0, _⟩ => blk_simp; rw [e0]; show 0 * 2816 + i.val = i.val; omega
  | ⟨1, _⟩ => blk_simp; rw [e1]; show 0 * 1024 + j.val = j.val; omega
theorem read_4 (c : Dev nD) (X : (b : Ref sig .tc) → Buf (Elt Ideal) ((c : Thread nD τ).loc b)) (t : Fin cfg0.N) (y : S2816x1024.Idx) :
    ((cfg0.win 4).blk t).view.read (Elt Ideal) (X (Pipeline.arrRef spec0 4)) y = X main_v3 ((win0_4.blk t).view.emb y) := rfl
theorem blk_4 (c : Dev nD) (t : Fin cfg0.N) (i : Fin 2816) (j : Fin 1024) :
    (iblk m c 4 t : FVec Ideal S2816x1024 .bf16) (ix2 i j) = (m ((c : Thread nD τ).loc main_arg4) : FVec Ideal S2816x1024 .f32) (ix2 i j) :=
  (read_4 c (V m c) t (ix2 i j)).trans ((congrArg (V m c main_v3) (place_4 t i j)).trans (congrFun (held_4 m c) _))

/-- Window 5's array is an argument; a grid step reads 64 rows of the first layer's weight. -/
theorem held_5 (c : Dev nD) : V m c main_arg5 = m ((c : Thread nD τ).loc main_arg5) := by
  simp only [V, hostOps0, List.flatten_cons, List.flatten_nil, List.append_nil, List.cons_append, List.nil_append]
  run_tidy

theorem index_5 : ∀ t : Fin cfg0.N, win0_5.index t 0 = 0 ∧ win0_5.index t 1 = t.val ∧ win0_5.index t 2 = 0 := by decide +kernel
theorem place_5 (t : Fin cfg0.N) (r : Fin 64) (d : Fin 1024) : (win0_5.blk t).view.emb (ix3 0 r d : S1x64x1024.Idx) = (ix3 0 (rowOf 64 t r) d : S2x1024x1024.Idx) := by
  obtain ⟨e0, e1, e2⟩ := index_5 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 1024 + d.val = d.val; omega
theorem read_5 (c : Dev nD) (X : (b : Ref sig .tc) → Buf (Elt Ideal) ((c : Thread nD τ).loc b)) (t : Fin cfg0.N) (y : S1x64x1024.Idx) :
    ((cfg0.win 5).blk t).view.read (Elt Ideal) (X (Pipeline.arrRef spec0 5)) y = X main_arg5 ((win0_5.blk t).view.emb y) := rfl
theorem blk_5 (c : Dev nD) (t : Fin cfg0.N) (r : Fin 64) (d : Fin 1024) :
    (iblk m c 5 t : FVec Ideal S1x64x1024 .f32) (ix3 0 r d) = (m ((c : Thread nD τ).loc main_arg5) : FVec Ideal S2x1024x1024 .f32) (ix3 0 (rowOf 64 t r) d) :=
  (read_5 c (V m c) t (ix3 0 r d)).trans ((congrArg (V m c main_arg5) (place_5 t r d)).trans (congrFun (held_5 m c) _))

/-- Window 6's array is an argument; a grid step reads 32 rows of the first layer's weight. -/
theorem held_6 (c : Dev nD) : V m c main_arg6 = m ((c : Thread nD τ).loc main_arg6) := by
  simp only [V, hostOps0, List.flatten_cons, List.flatten_nil, List.append_nil, List.cons_append, List.nil_append]
  run_tidy

theorem index_6 : ∀ t : Fin cfg0.N, win0_6.index t 0 = 0 ∧ win0_6.index t 1 = t.val ∧ win0_6.index t 2 = 0 := by decide +kernel
theorem place_6 (t : Fin cfg0.N) (r : Fin 32) (d : Fin 1024) : (win0_6.blk t).view.emb (ix3 0 r d : S1x32x1024.Idx) = (ix3 0 (rowOf 32 t r) d : S2x512x1024.Idx) := by
  obtain ⟨e0, e1, e2⟩ := index_6 t
  funext a
  apply Fin.ext
  match a with
  | ⟨0, _⟩ => blk_simp; rw [e0]; rfl
  | ⟨1, _⟩ => blk_simp; rw [e1]; show t.val * 32 + r.val = 32 * t.val + r.val; omega
  | ⟨2, _⟩ => blk_simp; rw [e2]; show 0 * 1024 + d.val = d.val; omega
theorem read_6 (c : Dev nD) (X : (b : Ref sig .tc) → Buf (Elt Ideal) ((c : Thread nD τ).loc b)) (t : Fin cfg0.N) (y : S1x32x1024.Idx) :
    ((cfg0.win 6).blk t).view.read (Elt Ideal) (X (Pipeline.arrRef spec0 6)) y = X main_arg6 ((win0_6.blk t).view.emb y) := rfl
theorem blk_6 (c : Dev nD) (t : Fin cfg0.N) (r : Fin 32) (d : Fin 1024) :
    (iblk m c 6 t : FVec Ideal S1x32x1024 .f32) (ix3 0 r d) = (m ((c : Thread nD τ).loc main_arg6) : FVec Ideal S2x512x1024 .f32) (ix3 0 (rowOf 32 t r) d) :=
  (read_6 c (V m c) t (ix3 0 r d)).trans ((congrArg (V m c main_arg6) (place_6 t r d)).trans (congrFun (held_6 m c) _))

/-- Window 7's array is an argument; a grid step reads 64 rows of the first layer's weight. -/
theorem held_7 (c : Dev nD) : V m c main_arg7 = m ((c : Thread nD τ).loc main_arg7) := by
  simp only [V, hostOps0, List.flatten_cons, List.flatten_nil, List.append_nil, List.cons_append, List.nil_append]
  run_tidy

theorem index_7 : ∀ t : Fin cfg0.N, win0_7.index t 0 = 0 ∧ win0_7.index t 1 = t.val ∧ win0_7.index t 2 = 0 := by decide +kernel
theorem place_7 (t : Fin cfg0.N) (r : Fin 64) (d : Fin 1024) : (win0_7.blk t).view.emb (ix3 0 r d : S1x64x1024.Idx) = (ix3 0 (rowOf 64 t r) d : S2x1024x1024.Idx) := by
  obtain ⟨e0, e1, e2⟩ := index_7 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 1024 + d.val = d.val; omega
theorem read_7 (c : Dev nD) (X : (b : Ref sig .tc) → Buf (Elt Ideal) ((c : Thread nD τ).loc b)) (t : Fin cfg0.N) (y : S1x64x1024.Idx) :
    ((cfg0.win 7).blk t).view.read (Elt Ideal) (X (Pipeline.arrRef spec0 7)) y = X main_arg7 ((win0_7.blk t).view.emb y) := rfl
theorem blk_7 (c : Dev nD) (t : Fin cfg0.N) (r : Fin 64) (d : Fin 1024) :
    (iblk m c 7 t : FVec Ideal S1x64x1024 .f32) (ix3 0 r d) = (m ((c : Thread nD τ).loc main_arg7) : FVec Ideal S2x1024x1024 .f32) (ix3 0 (rowOf 64 t r) d) :=
  (read_7 c (V m c) t (ix3 0 r d)).trans ((congrArg (V m c main_arg7) (place_7 t r d)).trans (congrFun (held_7 m c) _))

/-- Window 8's array is an argument; a grid step reads 64 rows of the first layer's weight. -/
theorem held_8 (c : Dev nD) : V m c main_arg8 = m ((c : Thread nD τ).loc main_arg8) := by
  simp only [V, hostOps0, List.flatten_cons, List.flatten_nil, List.append_nil, List.cons_append, List.nil_append]
  run_tidy

theorem index_8 : ∀ t : Fin cfg0.N, win0_8.index t 0 = 0 ∧ win0_8.index t 1 = t.val ∧ win0_8.index t 2 = 0 := by decide +kernel
theorem place_8 (t : Fin cfg0.N) (r : Fin 64) (d : Fin 3072) : (win0_8.blk t).view.emb (ix3 0 r d : S1x64x3072.Idx) = (ix3 0 (rowOf 64 t r) d : S2x1024x3072.Idx) := by
  obtain ⟨e0, e1, e2⟩ := index_8 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 3072 + d.val = d.val; omega
theorem read_8 (c : Dev nD) (X : (b : Ref sig .tc) → Buf (Elt Ideal) ((c : Thread nD τ).loc b)) (t : Fin cfg0.N) (y : S1x64x3072.Idx) :
    ((cfg0.win 8).blk t).view.read (Elt Ideal) (X (Pipeline.arrRef spec0 8)) y = X main_arg8 ((win0_8.blk t).view.emb y) := rfl
theorem blk_8 (c : Dev nD) (t : Fin cfg0.N) (r : Fin 64) (d : Fin 3072) :
    (iblk m c 8 t : FVec Ideal S1x64x3072 .f32) (ix3 0 r d) = (m ((c : Thread nD τ).loc main_arg8) : FVec Ideal S2x1024x3072 .f32) (ix3 0 (rowOf 64 t r) d) :=
  (read_8 c (V m c) t (ix3 0 r d)).trans ((congrArg (V m c main_arg8) (place_8 t r d)).trans (congrFun (held_8 m c) _))

/-- Window 9's array is an argument; a grid step reads 64 rows of the first layer's weight. -/
theorem held_9 (c : Dev nD) : V m c main_arg9 = m ((c : Thread nD τ).loc main_arg9) := by
  simp only [V, hostOps0, List.flatten_cons, List.flatten_nil, List.append_nil, List.cons_append, List.nil_append]
  run_tidy

theorem index_9 : ∀ t : Fin cfg0.N, win0_9.index t 0 = 0 ∧ win0_9.index t 1 = t.val ∧ win0_9.index t 2 = 0 := by decide +kernel
theorem place_9 (t : Fin cfg0.N) (r : Fin 64) (d : Fin 3712) : (win0_9.blk t).view.emb (ix3 0 r d : S1x64x3712.Idx) = (ix3 0 (rowOf 64 t r) d : S2x1024x3712.Idx) := by
  obtain ⟨e0, e1, e2⟩ := index_9 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 3712 + d.val = d.val; omega
theorem read_9 (c : Dev nD) (X : (b : Ref sig .tc) → Buf (Elt Ideal) ((c : Thread nD τ).loc b)) (t : Fin cfg0.N) (y : S1x64x3712.Idx) :
    ((cfg0.win 9).blk t).view.read (Elt Ideal) (X (Pipeline.arrRef spec0 9)) y = X main_arg9 ((win0_9.blk t).view.emb y) := rfl
theorem blk_9 (c : Dev nD) (t : Fin cfg0.N) (r : Fin 64) (d : Fin 3712) :
    (iblk m c 9 t : FVec Ideal S1x64x3712 .f32) (ix3 0 r d) = (m ((c : Thread nD τ).loc main_arg9) : FVec Ideal S2x1024x3712 .f32) (ix3 0 (rowOf 64 t r) d) :=
  (read_9 c (V m c) t (ix3 0 r d)).trans ((congrArg (V m c main_arg9) (place_9 t r d)).trans (congrFun (held_9 m c) _))

/-- Window 10's array is an argument; a grid step reads 64 rows of the first layer's weight. -/
theorem held_10 (c : Dev nD) : V m c main_arg10 = m ((c : Thread nD τ).loc main_arg10) := by
  simp only [V, hostOps0, List.flatten_cons, List.flatten_nil, List.append_nil, List.cons_append, List.nil_append]
  run_tidy

theorem index_10 : ∀ t : Fin cfg0.N, win0_10.index t 0 = 0 ∧ win0_10.index t 1 = t.val ∧ win0_10.index t 2 = 0 := by decide +kernel
theorem place_10 (t : Fin cfg0.N) (r : Fin 64) (d : Fin 2816) : (win0_10.blk t).view.emb (ix3 0 r d : S1x64x2816.Idx) = (ix3 0 (rowOf 64 t r) d : S2x1024x2816.Idx) := by
  obtain ⟨e0, e1, e2⟩ := index_10 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 2816 + d.val = d.val; omega
theorem read_10 (c : Dev nD) (X : (b : Ref sig .tc) → Buf (Elt Ideal) ((c : Thread nD τ).loc b)) (t : Fin cfg0.N) (y : S1x64x2816.Idx) :
    ((cfg0.win 10).blk t).view.read (Elt Ideal) (X (Pipeline.arrRef spec0 10)) y = X main_arg10 ((win0_10.blk t).view.emb y) := rfl
theorem blk_10 (c : Dev nD) (t : Fin cfg0.N) (r : Fin 64) (d : Fin 2816) :
    (iblk m c 10 t : FVec Ideal S1x64x2816 .f32) (ix3 0 r d) = (m ((c : Thread nD τ).loc main_arg10) : FVec Ideal S2x1024x2816 .f32) (ix3 0 (rowOf 64 t r) d) :=
  (read_10 c (V m c) t (ix3 0 r d)).trans ((congrArg (V m c main_arg10) (place_10 t r d)).trans (congrFun (held_10 m c) _))

/-- Window 11's array is an argument; a grid step reads 64 rows of the first layer's weight. -/
theorem held_11 (c : Dev nD) : V m c main_arg11 = m ((c : Thread nD τ).loc main_arg11) := by
  simp only [V, hostOps0, List.flatten_cons, List.flatten_nil, List.append_nil, List.cons_append, List.nil_append]
  run_tidy

theorem index_11 : ∀ t : Fin cfg0.N, win0_11.index t 0 = 0 ∧ win0_11.index t 1 = t.val ∧ win0_11.index t 2 = 0 := by decide +kernel
theorem place_11 (t : Fin cfg0.N) (r : Fin 64) (d : Fin 2816) : (win0_11.blk t).view.emb (ix3 0 r d : S1x64x2816.Idx) = (ix3 0 (rowOf 64 t r) d : S2x1024x2816.Idx) := by
  obtain ⟨e0, e1, e2⟩ := index_11 t
  funext a
  apply Fin.ext
  match a with
  | ⟨0, _⟩ => blk_simp; rw [e0]; rfl
  | ⟨1, _⟩ => blk_simp; rw [e1]; show t.val * 64 + r.val = 64 * t.val + r.val; omega
  | ⟨2, _⟩ => blk_simp; rw [e2]; show 0 * 2816 + d.val = d.val; omega
theorem read_11 (c : Dev nD) (X : (b : Ref sig .tc) → Buf (Elt Ideal) ((c : Thread nD τ).loc b)) (t : Fin cfg0.N) (y : S1x64x2816.Idx) :
    ((cfg0.win 11).blk t).view.read (Elt Ideal) (X (Pipeline.arrRef spec0 11)) y = X main_arg11 ((win0_11.blk t).view.emb y) := rfl
theorem blk_11 (c : Dev nD) (t : Fin cfg0.N) (r : Fin 64) (d : Fin 2816) :
    (iblk m c 11 t : FVec Ideal S1x64x2816 .f32) (ix3 0 r d) = (m ((c : Thread nD τ).loc main_arg11) : FVec Ideal S2x1024x2816 .f32) (ix3 0 (rowOf 64 t r) d) :=
  (read_11 c (V m c) t (ix3 0 r d)).trans ((congrArg (V m c main_arg11) (place_11 t r d)).trans (congrFun (held_11 m c) _))

/-- Window 12's array is an argument; a grid step reads 176 rows of the first layer's weight. -/
theorem held_12 (c : Dev nD) : V m c main_arg12 = m ((c : Thread nD τ).loc main_arg12) := by
  simp only [V, hostOps0, List.flatten_cons, List.flatten_nil, List.append_nil, List.cons_append, List.nil_append]
  run_tidy

theorem index_12 : ∀ t : Fin cfg0.N, win0_12.index t 0 = 0 ∧ win0_12.index t 1 = t.val ∧ win0_12.index t 2 = 0 := by decide +kernel
theorem place_12 (t : Fin cfg0.N) (r : Fin 176) (d : Fin 1024) : (win0_12.blk t).view.emb (ix3 0 r d : S1x176x1024.Idx) = (ix3 0 (rowOf 176 t r) d : S2x2816x1024.Idx) := by
  obtain ⟨e0, e1, e2⟩ := index_12 t
  funext a
  apply Fin.ext
  match a with
  | ⟨0, _⟩ => blk_simp; rw [e0]; rfl
  | ⟨1, _⟩ => blk_simp; rw [e1]; show t.val * 176 + r.val = 176 * t.val + r.val; omega
  | ⟨2, _⟩ => blk_simp; rw [e2]; show 0 * 1024 + d.val = d.val; omega
theorem read_12 (c : Dev nD) (X : (b : Ref sig .tc) → Buf (Elt Ideal) ((c : Thread nD τ).loc b)) (t : Fin cfg0.N) (y : S1x176x1024.Idx) :
    ((cfg0.win 12).blk t).view.read (Elt Ideal) (X (Pipeline.arrRef spec0 12)) y = X main_arg12 ((win0_12.blk t).view.emb y) := rfl
theorem blk_12 (c : Dev nD) (t : Fin cfg0.N) (r : Fin 176) (d : Fin 1024) :
    (iblk m c 12 t : FVec Ideal S1x176x1024 .f32) (ix3 0 r d) = (m ((c : Thread nD τ).loc main_arg12) : FVec Ideal S2x2816x1024 .f32) (ix3 0 (rowOf 176 t r) d) :=
  (read_12 c (V m c) t (ix3 0 r d)).trans ((congrArg (V m c main_arg12) (place_12 t r d)).trans (congrFun (held_12 m c) _))

end Cert.FfnIdeal.Ffn
end
-- ==== Proof.Ffn.Array.lean ====
module

public import proofs.«01_k».proof.Proof.Ffn.Blocks

/-! # The arrays that the launch of the feed-forward kernel leaves -/

@[expose] public section

set_option maxRecDepth 16384

noncomputable section

namespace Cert.FfnIdeal.Ffn

open Idealize.ShloMosaic Idealize.ShloMosaic.TcCoe
open Idealize.SL Idealize.SL.Sem
open Cert.FfnIdeal Cert.FfnIdeal.Gen Cert.Merge Cert.Ffn
open Cert.MergeIdeal.Merge (entryOf placeOf flat_1024)

variable (m : (ℓ : Loc nD τ sig) → Buf (Elt Ideal) ℓ) (c : Dev nD)

/-- The rows that the launch's arguments give. -/
def rowM (n : Fin 16384) : Fin 1024 → EReal :=
  stepped (fun d => (m ((c : Thread nD τ).loc main_arg0) : FVec Ideal S8x2048x1024 .f32) (ix3 (entryOf n) (placeOf n) d)) (fun d => (m ((c : Thread nD τ).loc main_arg1) : FVec Ideal S1024 .f32) (ix1 d))
    (fun k n => (m ((c : Thread nD τ).loc main_arg2) : FVec Ideal S1024x2816 .f32) (ix2 k n)) (fun k n => (m ((c : Thread nD τ).loc main_arg3) : FVec Ideal S1024x2816 .f32) (ix2 k n)) (fun n d => (m ((c : Thread nD τ).loc main_arg4) : FVec Ideal S2816x1024 .f32) (ix2 n d))

/-- Window 13's array, as a function of the arguments. -/
def array_13 : Vec Ideal S16384x1024 .f32 := fun y => rowM m c ⟨(y 0).val, (y 0).isLt⟩ ⟨(y 1).val, (y 1).isLt⟩

set_option maxHeartbeats 2000000 in
theorem step_13 (t : Fin cfg0.N) (r : Fin 1024) (d : Fin 1024) :
    ((outsAt0 m c t).1 : Vec Ideal S1024x1024 .f32) (ix2 r d) = rowM m c (rowOf 1024 t r) d := by
  have e : (outsAt0 m c t).1 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  unfold rowM
  simp only [blk_0 m c t, blk_1 m c t, blk_2 m c t, blk_3 m c t, blk_4 m c t]

theorem index_13 : ∀ t : Fin cfg0.N, win0_13.index t 0 = t.val ∧ win0_13.index t 1 = 0 := by decide +kernel
theorem place_13 (t : Fin cfg0.N) (r : Fin 1024) (d : Fin 1024) : (win0_13.blk t).view.emb (ix2 r d : S1024x1024.Idx) = (ix2 (rowOf 1024 t r) d : S16384x1024.Idx) := by
  obtain ⟨e0, e1⟩ := index_13 t
  funext a
  apply Fin.ext
  match a with
  | ⟨0, _⟩ => blk_simp; rw [e0]; show t.val * 1024 + r.val = 1024 * t.val + r.val; omega
  | ⟨1, _⟩ => blk_simp; rw [e1]; show 0 * 1024 + d.val = d.val; omega

theorem after_13 (t : Fin cfg0.N) : (dats m 0 c).after 13 t = (outsAt0 m c t).1 := after0_13 m c t

/-- The array after the launch. -/
theorem end_13 : (dats m 0 c).arrAt 13 cfg0.N = array_13 m c := by
  refine (dats m 0 c).arrAt_eq_of_covers 13 _ (by decide +kernel) fun t hf y => ?_
  blk_simp
  rw [after_13]
  obtain ⟨r, d, rfl⟩ : ∃ (r : Fin 1024) (d : Fin 1024), y = (ix2 r d : S1024x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_13 m c t r d).trans (Eq.trans (rfl : _ = array_13 m c (ix2 (rowOf 1024 t r) d)) (congrArg (array_13 m c) (place_13 t r d).symm))

/-- Window 14's array, as a function of the arguments. -/
def array_14 : Vec Ideal S1024x1024 .bf16 := fun y => (m ((c : Thread nD τ).loc main_arg5) : FVec Ideal S2x1024x1024 .f32) (ix3 0 ⟨(y 0).val, (y 0).isLt⟩ ⟨(y 1).val, (y 1).isLt⟩)

set_option maxHeartbeats 2000000 in
theorem step_14 (t : Fin cfg0.N) (r : Fin 64) (d : Fin 1024) :
    ((outsAt0 m c t).2.1 : Vec Ideal S64x1024 .bf16) (ix2 r d) = (m ((c : Thread nD τ).loc main_arg5) : FVec Ideal S2x1024x1024 .f32) (ix3 0 (rowOf 64 t r) d) := by
  have e : (outsAt0 m c t).2.1 = out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_5 m c t r d

theorem index_14 : ∀ t : Fin cfg0.N, win0_14.index t 0 = t.val ∧ win0_14.index t 1 = 0 := by decide +kernel
theorem place_14 (t : Fin cfg0.N) (r : Fin 64) (d : Fin 1024) : (win0_14.blk t).view.emb (ix2 r d : S64x1024.Idx) = (ix2 (rowOf 64 t r) d : S1024x1024.Idx) := by
  obtain ⟨e0, e1⟩ := index_14 t
  funext a
  apply Fin.ext
  match a with
  | ⟨0, _⟩ => blk_simp; rw [e0]; show t.val * 64 + r.val = 64 * t.val + r.val; omega
  | ⟨1, _⟩ => blk_simp; rw [e1]; show 0 * 1024 + d.val = d.val; omega

theorem after_14 (t : Fin cfg0.N) : (dats m 0 c).after 14 t = (outsAt0 m c t).2.1 := after0_14 m c t

/-- The array after the launch. -/
theorem end_14 : (dats m 0 c).arrAt 14 cfg0.N = array_14 m c := by
  refine (dats m 0 c).arrAt_eq_of_covers 14 _ (by decide +kernel) fun t hf y => ?_
  blk_simp
  rw [after_14]
  obtain ⟨r, d, rfl⟩ : ∃ (r : Fin 64) (d : Fin 1024), y = (ix2 r d : S64x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_14 m c t r d).trans (Eq.trans (rfl : _ = array_14 m c (ix2 (rowOf 64 t r) d)) (congrArg (array_14 m c) (place_14 t r d).symm))

/-- Window 15's array, as a function of the arguments. -/
def array_15 : Vec Ideal S512x1024 .bf16 := fun y => (m ((c : Thread nD τ).loc main_arg6) : FVec Ideal S2x512x1024 .f32) (ix3 0 ⟨(y 0).val, (y 0).isLt⟩ ⟨(y 1).val, (y 1).isLt⟩)

set_option maxHeartbeats 2000000 in
theorem step_15 (t : Fin cfg0.N) (r : Fin 32) (d : Fin 1024) :
    ((outsAt0 m c t).2.2.1 : Vec Ideal S32x1024 .bf16) (ix2 r d) = (m ((c : Thread nD τ).loc main_arg6) : FVec Ideal S2x512x1024 .f32) (ix3 0 (rowOf 32 t r) d) := by
  have e : (outsAt0 m c t).2.2.1 = out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_6 m c t r d

theorem index_15 : ∀ t : Fin cfg0.N, win0_15.index t 0 = t.val ∧ win0_15.index t 1 = 0 := by decide +kernel
theorem place_15 (t : Fin cfg0.N) (r : Fin 32) (d : Fin 1024) : (win0_15.blk t).view.emb (ix2 r d : S32x1024.Idx) = (ix2 (rowOf 32 t r) d : S512x1024.Idx) := by
  obtain ⟨e0, e1⟩ := index_15 t
  funext a
  apply Fin.ext
  match a with
  | ⟨0, _⟩ => blk_simp; rw [e0]; show t.val * 32 + r.val = 32 * t.val + r.val; omega
  | ⟨1, _⟩ => blk_simp; rw [e1]; show 0 * 1024 + d.val = d.val; omega

theorem after_15 (t : Fin cfg0.N) : (dats m 0 c).after 15 t = (outsAt0 m c t).2.2.1 := after0_15 m c t

/-- The array after the launch. -/
theorem end_15 : (dats m 0 c).arrAt 15 cfg0.N = array_15 m c := by
  refine (dats m 0 c).arrAt_eq_of_covers 15 _ (by decide +kernel) fun t hf y => ?_
  blk_simp
  rw [after_15]
  obtain ⟨r, d, rfl⟩ : ∃ (r : Fin 32) (d : Fin 1024), y = (ix2 r d : S32x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_15 m c t r d).trans (Eq.trans (rfl : _ = array_15 m c (ix2 (rowOf 32 t r) d)) (congrArg (array_15 m c) (place_15 t r d).symm))

/-- Window 16's array, as a function of the arguments. -/
def array_16 : Vec Ideal S1024x1024 .bf16 := fun y => (m ((c : Thread nD τ).loc main_arg7) : FVec Ideal S2x1024x1024 .f32) (ix3 0 ⟨(y 0).val, (y 0).isLt⟩ ⟨(y 1).val, (y 1).isLt⟩)

set_option maxHeartbeats 2000000 in
theorem step_16 (t : Fin cfg0.N) (r : Fin 64) (d : Fin 1024) :
    ((outsAt0 m c t).2.2.2.1 : Vec Ideal S64x1024 .bf16) (ix2 r d) = (m ((c : Thread nD τ).loc main_arg7) : FVec Ideal S2x1024x1024 .f32) (ix3 0 (rowOf 64 t r) d) := by
  have e : (outsAt0 m c t).2.2.2.1 = out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_7 m c t r d

theorem index_16 : ∀ t : Fin cfg0.N, win0_16.index t 0 = t.val ∧ win0_16.index t 1 = 0 := by decide +kernel
theorem place_16 (t : Fin cfg0.N) (r : Fin 64) (d : Fin 1024) : (win0_16.blk t).view.emb (ix2 r d : S64x1024.Idx) = (ix2 (rowOf 64 t r) d : S1024x1024.Idx) := by
  obtain ⟨e0, e1⟩ := index_16 t
  funext a
  apply Fin.ext
  match a with
  | ⟨0, _⟩ => blk_simp; rw [e0]; show t.val * 64 + r.val = 64 * t.val + r.val; omega
  | ⟨1, _⟩ => blk_simp; rw [e1]; show 0 * 1024 + d.val = d.val; omega

theorem after_16 (t : Fin cfg0.N) : (dats m 0 c).after 16 t = (outsAt0 m c t).2.2.2.1 := after0_16 m c t

/-- The array after the launch. -/
theorem end_16 : (dats m 0 c).arrAt 16 cfg0.N = array_16 m c := by
  refine (dats m 0 c).arrAt_eq_of_covers 16 _ (by decide +kernel) fun t hf y => ?_
  blk_simp
  rw [after_16]
  obtain ⟨r, d, rfl⟩ : ∃ (r : Fin 64) (d : Fin 1024), y = (ix2 r d : S64x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_16 m c t r d).trans (Eq.trans (rfl : _ = array_16 m c (ix2 (rowOf 64 t r) d)) (congrArg (array_16 m c) (place_16 t r d).symm))

/-- Window 17's array, as a function of the arguments. -/
def array_17 : Vec Ideal S1024x3072 .bf16 := fun y => (m ((c : Thread nD τ).loc main_arg8) : FVec Ideal S2x1024x3072 .f32) (ix3 0 ⟨(y 0).val, (y 0).isLt⟩ ⟨(y 1).val, (y 1).isLt⟩)

set_option maxHeartbeats 2000000 in
theorem step_17 (t : Fin cfg0.N) (r : Fin 64) (d : Fin 3072) :
    ((outsAt0 m c t).2.2.2.2.1 : Vec Ideal S64x3072 .bf16) (ix2 r d) = (m ((c : Thread nD τ).loc main_arg8) : FVec Ideal S2x1024x3072 .f32) (ix3 0 (rowOf 64 t r) d) := by
  have e : (outsAt0 m c t).2.2.2.2.1 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_8 m c t r d

theorem index_17 : ∀ t : Fin cfg0.N, win0_17.index t 0 = t.val ∧ win0_17.index t 1 = 0 := by decide +kernel
theorem place_17 (t : Fin cfg0.N) (r : Fin 64) (d : Fin 3072) : (win0_17.blk t).view.emb (ix2 r d : S64x3072.Idx) = (ix2 (rowOf 64 t r) d : S1024x3072.Idx) := by
  obtain ⟨e0, e1⟩ := index_17 t
  funext a
  apply Fin.ext
  match a with
  | ⟨0, _⟩ => blk_simp; rw [e0]; show t.val * 64 + r.val = 64 * t.val + r.val; omega
  | ⟨1, _⟩ => blk_simp; rw [e1]; show 0 * 3072 + d.val = d.val; omega

theorem after_17 (t : Fin cfg0.N) : (dats m 0 c).after 17 t = (outsAt0 m c t).2.2.2.2.1 := after0_17 m c t

/-- The array after the launch. -/
theorem end_17 : (dats m 0 c).arrAt 17 cfg0.N = array_17 m c := by
  refine (dats m 0 c).arrAt_eq_of_covers 17 _ (by decide +kernel) fun t hf y => ?_
  blk_simp
  rw [after_17]
  obtain ⟨r, d, rfl⟩ : ∃ (r : Fin 64) (d : Fin 3072), y = (ix2 r d : S64x3072.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_17 m c t r d).trans (Eq.trans (rfl : _ = array_17 m c (ix2 (rowOf 64 t r) d)) (congrArg (array_17 m c) (place_17 t r d).symm))

/-- Window 18's array, as a function of the arguments. -/
def array_18 : Vec Ideal S1024x3712 .bf16 := fun y => arranged (fun n => (m ((c : Thread nD τ).loc main_arg9) : FVec Ideal S2x1024x3712 .f32) (ix3 0 ⟨(y 0).val, (y 0).isLt⟩ n)) ⟨(y 1).val, (y 1).isLt⟩

set_option maxHeartbeats 2000000 in
theorem step_18 (t : Fin cfg0.N) (r : Fin 64) (d : Fin 3712) :
    ((outsAt0 m c t).2.2.2.2.2.1 : Vec Ideal S64x3712 .bf16) (ix2 r d) = arranged (fun n => (m ((c : Thread nD τ).loc main_arg9) : FVec Ideal S2x1024x3712 .f32) (ix3 0 (rowOf 64 t r) n)) d := by
  have e : (outsAt0 m c t).2.2.2.2.2.1 = out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  simp only [blk_9 m c t]

theorem index_18 : ∀ t : Fin cfg0.N, win0_18.index t 0 = t.val ∧ win0_18.index t 1 = 0 := by decide +kernel
theorem place_18 (t : Fin cfg0.N) (r : Fin 64) (d : Fin 3712) : (win0_18.blk t).view.emb (ix2 r d : S64x3712.Idx) = (ix2 (rowOf 64 t r) d : S1024x3712.Idx) := by
  obtain ⟨e0, e1⟩ := index_18 t
  funext a
  apply Fin.ext
  match a with
  | ⟨0, _⟩ => blk_simp; rw [e0]; show t.val * 64 + r.val = 64 * t.val + r.val; omega
  | ⟨1, _⟩ => blk_simp; rw [e1]; show 0 * 3712 + d.val = d.val; omega

theorem after_18 (t : Fin cfg0.N) : (dats m 0 c).after 18 t = (outsAt0 m c t).2.2.2.2.2.1 := after0_18 m c t

/-- The array after the launch. -/
theorem end_18 : (dats m 0 c).arrAt 18 cfg0.N = array_18 m c := by
  refine (dats m 0 c).arrAt_eq_of_covers 18 _ (by decide +kernel) fun t hf y => ?_
  blk_simp
  rw [after_18]
  obtain ⟨r, d, rfl⟩ : ∃ (r : Fin 64) (d : Fin 3712), y = (ix2 r d : S64x3712.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_18 m c t r d).trans (Eq.trans (rfl : _ = array_18 m c (ix2 (rowOf 64 t r) d)) (congrArg (array_18 m c) (place_18 t r d).symm))

/-- Window 19's array, as a function of the arguments. -/
def array_19 : Vec Ideal S1024x2816 .bf16 := fun y => (m ((c : Thread nD τ).loc main_arg10) : FVec Ideal S2x1024x2816 .f32) (ix3 0 ⟨(y 0).val, (y 0).isLt⟩ ⟨(y 1).val, (y 1).isLt⟩)

set_option maxHeartbeats 2000000 in
theorem step_19 (t : Fin cfg0.N) (r : Fin 64) (d : Fin 2816) :
    ((outsAt0 m c t).2.2.2.2.2.2.1 : Vec Ideal S64x2816 .bf16) (ix2 r d) = (m ((c : Thread nD τ).loc main_arg10) : FVec Ideal S2x1024x2816 .f32) (ix3 0 (rowOf 64 t r) d) := by
  have e : (outsAt0 m c t).2.2.2.2.2.2.1 = out0_A_19 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_10 m c t r d

theorem index_19 : ∀ t : Fin cfg0.N, win0_19.index t 0 = t.val ∧ win0_19.index t 1 = 0 := by decide +kernel
theorem place_19 (t : Fin cfg0.N) (r : Fin 64) (d : Fin 2816) : (win0_19.blk t).view.emb (ix2 r d : S64x2816.Idx) = (ix2 (rowOf 64 t r) d : S1024x2816.Idx) := by
  obtain ⟨e0, e1⟩ := index_19 t
  funext a
  apply Fin.ext
  match a with
  | ⟨0, _⟩ => blk_simp; rw [e0]; show t.val * 64 + r.val = 64 * t.val + r.val; omega
  | ⟨1, _⟩ => blk_simp; rw [e1]; show 0 * 2816 + d.val = d.val; omega

theorem after_19 (t : Fin cfg0.N) : (dats m 0 c).after 19 t = (outsAt0 m c t).2.2.2.2.2.2.1 := after0_19 m c t

/-- The array after the launch. -/
theorem end_19 : (dats m 0 c).arrAt 19 cfg0.N = array_19 m c := by
  refine (dats m 0 c).arrAt_eq_of_covers 19 _ (by decide +kernel) fun t hf y => ?_
  blk_simp
  rw [after_19]
  obtain ⟨r, d, rfl⟩ : ∃ (r : Fin 64) (d : Fin 2816), y = (ix2 r d : S64x2816.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_19 m c t r d).trans (Eq.trans (rfl : _ = array_19 m c (ix2 (rowOf 64 t r) d)) (congrArg (array_19 m c) (place_19 t r d).symm))

/-- Window 20's array, as a function of the arguments. -/
def array_20 : Vec Ideal S1024x2816 .bf16 := fun y => (m ((c : Thread nD τ).loc main_arg11) : FVec Ideal S2x1024x2816 .f32) (ix3 0 ⟨(y 0).val, (y 0).isLt⟩ ⟨(y 1).val, (y 1).isLt⟩)

set_option maxHeartbeats 2000000 in
theorem step_20 (t : Fin cfg0.N) (r : Fin 64) (d : Fin 2816) :
    ((outsAt0 m c t).2.2.2.2.2.2.2.1 : Vec Ideal S64x2816 .bf16) (ix2 r d) = (m ((c : Thread nD τ).loc main_arg11) : FVec Ideal S2x1024x2816 .f32) (ix3 0 (rowOf 64 t r) d) := by
  have e : (outsAt0 m c t).2.2.2.2.2.2.2.1 = out0_A_20 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_11 m c t r d

theorem index_20 : ∀ t : Fin cfg0.N, win0_20.index t 0 = t.val ∧ win0_20.index t 1 = 0 := by decide +kernel
theorem place_20 (t : Fin cfg0.N) (r : Fin 64) (d : Fin 2816) : (win0_20.blk t).view.emb (ix2 r d : S64x2816.Idx) = (ix2 (rowOf 64 t r) d : S1024x2816.Idx) := by
  obtain ⟨e0, e1⟩ := index_20 t
  funext a
  apply Fin.ext
  match a with
  | ⟨0, _⟩ => blk_simp; rw [e0]; show t.val * 64 + r.val = 64 * t.val + r.val; omega
  | ⟨1, _⟩ => blk_simp; rw [e1]; show 0 * 2816 + d.val = d.val; omega

theorem after_20 (t : Fin cfg0.N) : (dats m 0 c).after 20 t = (outsAt0 m c t).2.2.2.2.2.2.2.1 := after0_20 m c t

/-- The array after the launch. -/
theorem end_20 : (dats m 0 c).arrAt 20 cfg0.N = array_20 m c := by
  refine (dats m 0 c).arrAt_eq_of_covers 20 _ (by decide +kernel) fun t hf y => ?_
  blk_simp
  rw [after_20]
  obtain ⟨r, d, rfl⟩ : ∃ (r : Fin 64) (d : Fin 2816), y = (ix2 r d : S64x2816.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_20 m c t r d).trans (Eq.trans (rfl : _ = array_20 m c (ix2 (rowOf 64 t r) d)) (congrArg (array_20 m c) (place_20 t r d).symm))

/-- Window 21's array, as a function of the arguments. -/
def array_21 : Vec Ideal S2816x1024 .bf16 := fun y => (m ((c : Thread nD τ).loc main_arg12) : FVec Ideal S2x2816x1024 .f32) (ix3 0 ⟨(y 0).val, (y 0).isLt⟩ ⟨(y 1).val, (y 1).isLt⟩)

set_option maxHeartbeats 2000000 in
theorem step_21 (t : Fin cfg0.N) (r : Fin 176) (d : Fin 1024) :
    ((outsAt0 m c t).2.2.2.2.2.2.2.2 : Vec Ideal S176x1024 .bf16) (ix2 r d) = (m ((c : Thread nD τ).loc main_arg12) : FVec Ideal S2x2816x1024 .f32) (ix3 0 (rowOf 176 t r) d) := by
  have e : (outsAt0 m c t).2.2.2.2.2.2.2.2 = out0_A_21 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by simp only [outsAt0]
  refine (congrFun e (ix2 r d)).trans ((left_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_)
  exact blk_12 m c t r d

theorem index_21 : ∀ t : Fin cfg0.N, win0_21.index t 0 = t.val ∧ win0_21.index t 1 = 0 := by decide +kernel
theorem place_21 (t : Fin cfg0.N) (r : Fin 176) (d : Fin 1024) : (win0_21.blk t).view.emb (ix2 r d : S176x1024.Idx) = (ix2 (rowOf 176 t r) d : S2816x1024.Idx) := by
  obtain ⟨e0, e1⟩ := index_21 t
  funext a
  apply Fin.ext
  match a with
  | ⟨0, _⟩ => blk_simp; rw [e0]; show t.val * 176 + r.val = 176 * t.val + r.val; omega
  | ⟨1, _⟩ => blk_simp; rw [e1]; show 0 * 1024 + d.val = d.val; omega

theorem after_21 (t : Fin cfg0.N) : (dats m 0 c).after 21 t = (outsAt0 m c t).2.2.2.2.2.2.2.2 := after0_21 m c t

/-- The array after the launch. -/
theorem end_21 : (dats m 0 c).arrAt 21 cfg0.N = array_21 m c := by
  refine (dats m 0 c).arrAt_eq_of_covers 21 _ (by decide +kernel) fun t hf y => ?_
  blk_simp
  rw [after_21]
  obtain ⟨r, d, rfl⟩ : ∃ (r : Fin 176) (d : Fin 1024), y = (ix2 r d : S176x1024.Idx) := by
    refine ⟨⟨(y 0).val, (y 0).isLt⟩, ⟨(y 1).val, (y 1).isLt⟩, funext fun a => Fin.ext ?_⟩
    match a with
    | ⟨0, _⟩ => rfl
    | ⟨1, _⟩ => rfl
  exact (step_21 m c t r d).trans (Eq.trans (rfl : _ = array_21 m c (ix2 (rowOf 176 t r) d)) (congrArg (array_21 m c) (place_21 t r d).symm))

end Cert.FfnIdeal.Ffn
end
-- ==== Proof.Ffn.RefCasts.lean ====
module

public import proofs.«01_k».proof.Proof.Gen.FfnReferenceIdeal.Run
public import proofs.«01_k».proof.Proof.Ffn.Casts
public import Idealize.ShloMosaic.Lib.Pointwise

/-! # The feed-forward step: the weights its reference casts, at an index -/

@[expose] public section

set_option maxRecDepth 16384

noncomputable section

namespace Cert.FfnReferenceIdeal.Ffn

open Idealize.ShloMosaic Idealize.ShloMosaic.TcCoe Idealize.ShloMosaic.StableHlo
open Cert.FfnReferenceIdeal Cert.FfnReferenceIdeal.Gen Cert.Ffn

theorem cast_1024x1024 (w : FVec Ideal S2x1024x1024 .f32) (r : Fin 1024) (d : Fin 1024) :
    (truncf (F := Ideal) .bf16 (shapeCast S1024x1024 (extractStridedSlice S1x1024x1024 ![0, 0, 0] w slices_S2x1024x1024_S1x1024x1024_0_0_0 : FVec Ideal S1x1024x1024 .f32) shapeCasts_S1x1024x1024_S1024x1024 : FVec Ideal S1024x1024 .f32) bitsLt_bf16_f32 : FVec Ideal S1024x1024 .bf16) (ix2 r d)
      = w (ix3 0 r d) := by
  pointwise

theorem cast_512x1024 (w : FVec Ideal S2x512x1024 .f32) (r : Fin 512) (d : Fin 1024) :
    (truncf (F := Ideal) .bf16 (shapeCast S512x1024 (extractStridedSlice S1x512x1024 ![0, 0, 0] w slices_S2x512x1024_S1x512x1024_0_0_0 : FVec Ideal S1x512x1024 .f32) shapeCasts_S1x512x1024_S512x1024 : FVec Ideal S512x1024 .f32) bitsLt_bf16_f32 : FVec Ideal S512x1024 .bf16) (ix2 r d)
      = w (ix3 0 r d) := by
  pointwise

theorem cast_1024x3072 (w : FVec Ideal S2x1024x3072 .f32) (r : Fin 1024) (d : Fin 3072) :
    (truncf (F := Ideal) .bf16 (shapeCast S1024x3072 (extractStridedSlice S1x1024x3072 ![0, 0, 0] w slices_S2x1024x3072_S1x1024x3072_0_0_0 : FVec Ideal S1x1024x3072 .f32) shapeCasts_S1x1024x3072_S1024x3072 : FVec Ideal S1024x3072 .f32) bitsLt_bf16_f32 : FVec Ideal S1024x3072 .bf16) (ix2 r d)
      = w (ix3 0 r d) := by
  pointwise

theorem cast_1024x2816 (w : FVec Ideal S2x1024x2816 .f32) (r : Fin 1024) (d : Fin 2816) :
    (truncf (F := Ideal) .bf16 (shapeCast S1024x2816 (extractStridedSlice S1x1024x2816 ![0, 0, 0] w slices_S2x1024x2816_S1x1024x2816_0_0_0 : FVec Ideal S1x1024x2816 .f32) shapeCasts_S1x1024x2816_S1024x2816 : FVec Ideal S1024x2816 .f32) bitsLt_bf16_f32 : FVec Ideal S1024x2816 .bf16) (ix2 r d)
      = w (ix3 0 r d) := by
  pointwise

theorem cast_2816x1024 (w : FVec Ideal S2x2816x1024 .f32) (r : Fin 2816) (d : Fin 1024) :
    (truncf (F := Ideal) .bf16 (shapeCast S2816x1024 (extractStridedSlice S1x2816x1024 ![0, 0, 0] w slices_S2x2816x1024_S1x2816x1024_0_0_0 : FVec Ideal S1x2816x1024 .f32) shapeCasts_S1x2816x1024_S2816x1024 : FVec Ideal S2816x1024 .f32) bitsLt_bf16_f32 : FVec Ideal S2816x1024 .bf16) (ix2 r d)
      = w (ix3 0 r d) := by
  pointwise

theorem rows_3712 (w : FVec Ideal S2x1024x3712 .f32) (r : Fin 1024) (d : Fin 3712) :
    (shapeCast S1024x3712 (extractStridedSlice S1x1024x3712 ![0, 0, 0] w slices_S2x1024x3712_S1x1024x3712_0_0_0 : FVec Ideal S1x1024x3712 .f32) shapeCasts_S1x1024x3712_S1024x3712 : FVec Ideal S1024x3712 .f32) (ix2 r d)
      = w (ix3 0 r d) := by
  pointwise

/-- The dilated mixer's query columns, in three groups. -/
def queryV {F : FTy → Type} [FloatOps F] (u : FVec F S1024x3712 .f32) : FVec F S1024x3x1x128 .f32 :=
  broadcastInDim S1024x3x1x128 ![0, 1, 3] bcast_S1024x3x128_S1024x3x1x128_0_1_3 (mulf (shapeCast S1024x3x128 (extractStridedSlice S1024x384 ![0, 1024] u slices_S1024x3712_S1024x384_0_1024 : FVec F S1024x384 .f32) shapeCasts_S1024x384_S1024x3x128 : FVec F S1024x3x128 .f32) (broadcastInDim S1024x3x128 ![] bcast_S_S1024x3x128 (constant S_ .f32 0x3E38AA3B#32)) : FVec F S1024x3x128 .f32)

theorem queryV_apply (u : FVec Ideal S1024x3712 .f32) (r : Fin 1024) (g : Fin 3) (l : Fin 128) :
    queryV u (ix4 r g 0 l) = u (ix2 r ⟨1024 + (g.val * 128 + l.val), by omega⟩) * Ideal.ofBits .f32 0x3E38AA3B#32 := by
  unfold queryV
  pointwise

/-- The dilated mixer's key columns, in three groups. -/
def keyV {F : FTy → Type} [FloatOps F] (u : FVec F S1024x3712 .f32) : FVec F S1024x3x1x128 .f32 :=
  broadcastInDim S1024x3x1x128 ![0, 1, 3] bcast_S1024x3x128_S1024x3x1x128_0_1_3 (shapeCast S1024x3x128 (extractStridedSlice S1024x384 ![0, 1408] u slices_S1024x3712_S1024x384_0_1408 : FVec F S1024x384 .f32) shapeCasts_S1024x384_S1024x3x128 : FVec F S1024x3x128 .f32)

theorem keyV_apply (u : FVec Ideal S1024x3712 .f32) (r : Fin 1024) (g : Fin 3) (l : Fin 128) :
    keyV u (ix4 r g 0 l) = u (ix2 r ⟨1408 + (g.val * 128 + l.val), by omega⟩) := by
  unfold keyV
  pointwise

/-- The dilated mixer's value columns, in three groups. -/
def valueV {F : FTy → Type} [FloatOps F] (u : FVec F S1024x3712 .f32) : FVec F S1024x3x1x128 .f32 :=
  broadcastInDim S1024x3x1x128 ![0, 1, 3] bcast_S1024x3x128_S1024x3x1x128_0_1_3 (shapeCast S1024x3x128 (extractStridedSlice S1024x384 ![0, 1792] u slices_S1024x3712_S1024x384_0_1792 : FVec F S1024x384 .f32) shapeCasts_S1024x384_S1024x3x128 : FVec F S1024x3x128 .f32)

theorem valueV_apply (u : FVec Ideal S1024x3712 .f32) (r : Fin 1024) (g : Fin 3) (l : Fin 128) :
    valueV u (ix4 r g 0 l) = u (ix2 r ⟨1792 + (g.val * 128 + l.val), by omega⟩) := by
  unfold valueV
  pointwise

/-- The groups side by side. -/
def groupsV {F : FTy → Type} [FloatOps F] (a b c : FVec F S1024x3x1x128 .f32) : FVec F S1024x1152 .f32 :=
  shapeCast S1024x1152 (concatenate S1024x3x3x128 2 [⟨S1024x3x1x128, a⟩, ⟨S1024x3x1x128, b⟩, ⟨S1024x3x1x128, c⟩] concatenates_S1024x3x1x128_S1024x3x1x128_S1024x3x1x128_S1024x3x3x128_d2 : FVec F S1024x3x3x128 .f32) shapeCasts_S1024x3x3x128_S1024x1152

/-- The reference's arranged projection. -/
def inV {F : FTy → Type} [FloatOps F] (u : FVec F S1024x3712 .f32) : FVec F S1024x3712 .bf16 :=
  truncf .bf16 (concatenate S1024x3712 1 [⟨S1024x1024, (extractStridedSlice S1024x1024 ![0, 0] u slices_S1024x3712_S1024x1024_0_0 : FVec F S1024x1024 .f32)⟩,
    ⟨S1024x1152, groupsV (queryV u) (keyV u) (valueV u)⟩,
    ⟨S1024x512, (mulf (extractStridedSlice S1024x512 ![0, 2176] u slices_S1024x3712_S1024x512_0_2176) (broadcastInDim S1024x512 ![] bcast_S_S1024x512 (constant S_ .f32 0x3E38AA3B#32)) : FVec F S1024x512 .f32)⟩,
    ⟨S1024x1024, (extractStridedSlice S1024x1024 ![0, 2688] u slices_S1024x3712_S1024x1024_0_2688 : FVec F S1024x1024 .f32)⟩] concatenates_S1024x1024_S1024x1152_S1024x512_S1024x1024_S1024x3712_d1 : FVec F S1024x3712 .f32) bitsLt_bf16_f32

theorem groupsV_0 (a b c : FVec Ideal S1024x3x1x128 .f32) (r : Fin 1024) (g : Fin 3) (l : Fin 128) : groupsV a b c (ix2 r ⟨384 * g.val + l.val, by omega⟩) = a (ix4 r g 0 l) := by
  unfold groupsV
  pointwise
  rw [dif_pos (by omega)]
  exact congrArg (fun q => a (ix4 r g q l)) (Subsingleton.elim _ _)
theorem groupsV_1 (a b c : FVec Ideal S1024x3x1x128 .f32) (r : Fin 1024) (g : Fin 3) (l : Fin 128) : groupsV a b c (ix2 r ⟨384 * g.val + 128 + l.val, by omega⟩) = b (ix4 r g 0 l) := by
  unfold groupsV
  pointwise
  rw [dif_neg (by omega), dif_pos (by omega)]
  exact congrArg (fun q => b (ix4 r g q l)) (Subsingleton.elim _ _)
theorem groupsV_2 (a b c : FVec Ideal S1024x3x1x128 .f32) (r : Fin 1024) (g : Fin 3) (l : Fin 128) : groupsV a b c (ix2 r ⟨384 * g.val + 256 + l.val, by omega⟩) = c (ix4 r g 0 l) := by
  unfold groupsV
  pointwise
  rw [dif_neg (by omega), dif_neg (by omega)]
  exact congrArg (fun q => c (ix4 r g q l)) (Subsingleton.elim _ _)

theorem inV_plain (u : FVec Ideal S1024x3712 .f32) (r : Fin 1024) (d : Fin 1024) : inV u (ix2 r ⟨d.val, by omega⟩) = u (ix2 r ⟨d.val, by omega⟩) := by
  unfold inV
  pointwise
theorem inV_groups (u : FVec Ideal S1024x3712 .f32) (r : Fin 1024) (d : Fin 1152) : inV u (ix2 r ⟨1024 + d.val, by omega⟩) = groupsV (queryV u) (keyV u) (valueV u) (ix2 r d) := by
  unfold inV
  pointwise
theorem inV_scaled (u : FVec Ideal S1024x3712 .f32) (r : Fin 1024) (d : Fin 512) : inV u (ix2 r ⟨2176 + d.val, by omega⟩) = u (ix2 r ⟨2176 + d.val, by omega⟩) * Ideal.ofBits .f32 0x3E38AA3B#32 := by
  unfold inV
  pointwise
  rw [dif_neg (by omega), dif_neg (by omega), dif_pos (by omega)]
  exact congrArg (fun q : Fin 3712 => u (ix2 r q) * Ideal.ofBits .f32 0x3E38AA3B#32) (Fin.ext (by dsimp only; omega))
theorem inV_rest (u : FVec Ideal S1024x3712 .f32) (r : Fin 1024) (d : Fin 1024) : inV u (ix2 r ⟨2688 + d.val, by omega⟩) = u (ix2 r ⟨2688 + d.val, by omega⟩) := by
  unfold inV
  pointwise
  rw [dif_neg (by omega), dif_neg (by omega), dif_neg (by omega)]
  exact congrArg (fun q : Fin 3712 => u (ix2 r q)) (Fin.ext (by dsimp only; omega))

/-- The arranged projection at an index. -/
theorem inV_apply (u : FVec Ideal S1024x3712 .f32) (r : Fin 1024) (n : Fin 3712) : inV u (ix2 r n) = arranged (fun n => u (ix2 r n)) n := by
  have hn := n.isLt
  by_cases h1 : n.val < 1024
  · exact (inV_plain u r ⟨n.val, h1⟩).trans (arranged_plain (fun n => u (ix2 r n)) n n (by unfold scaled; simp; omega) (by unfold source; split <;> omega))
  by_cases h2 : n.val < 2176
  · have hd : n = ⟨1024 + (⟨n.val - 1024, by omega⟩ : Fin 1152).val, by dsimp only; omega⟩ := Fin.ext (by dsimp only; omega)
    refine (congrArg (fun q => inV u (ix2 r q)) hd).trans ((inV_groups u r ⟨n.val - 1024, by omega⟩).trans ?_)
    have hg : (n.val - 1024) / 384 < 3 := by omega
    have hl : (n.val - 1024) % 128 < 128 := by omega
    have hs : (n.val - 1024) / 384 * 384 + (n.val - 1024) % 384 = n.val - 1024 := by omega
    by_cases h3 : (n.val - 1024) % 384 < 128
    · have e : (⟨n.val - 1024, by omega⟩ : Fin 1152) = ⟨384 * (⟨(n.val - 1024) / 384, hg⟩ : Fin 3).val + (⟨(n.val - 1024) % 128, hl⟩ : Fin 128).val, by dsimp only; omega⟩ := Fin.ext (by dsimp only; omega)
      rw [e, groupsV_0, queryV_apply]
      exact arranged_scaled (fun n => u (ix2 r n)) n _ (by unfold scaled; simp; omega) (by unfold source; rw [if_pos ⟨by omega, h2⟩]; dsimp only; omega)
    by_cases h4 : (n.val - 1024) % 384 < 256
    · have e : (⟨n.val - 1024, by omega⟩ : Fin 1152) = ⟨384 * (⟨(n.val - 1024) / 384, hg⟩ : Fin 3).val + 128 + (⟨(n.val - 1024) % 128, hl⟩ : Fin 128).val, by dsimp only; omega⟩ := Fin.ext (by dsimp only; omega)
      rw [e, groupsV_1, keyV_apply]
      exact arranged_plain (fun n => u (ix2 r n)) n _ (by unfold scaled; simp; omega) (by unfold source; rw [if_pos ⟨by omega, h2⟩]; dsimp only; omega)
    · have e : (⟨n.val - 1024, by omega⟩ : Fin 1152) = ⟨384 * (⟨(n.val - 1024) / 384, hg⟩ : Fin 3).val + 256 + (⟨(n.val - 1024) % 128, hl⟩ : Fin 128).val, by dsimp only; omega⟩ := Fin.ext (by dsimp only; omega)
      rw [e, groupsV_2, valueV_apply]
      exact arranged_plain (fun n => u (ix2 r n)) n _ (by unfold scaled; simp; omega) (by unfold source; rw [if_pos ⟨by omega, h2⟩]; dsimp only; omega)
  by_cases h5 : n.val < 2688
  · have hd : n = ⟨2176 + (⟨n.val - 2176, by omega⟩ : Fin 512).val, by dsimp only; omega⟩ := Fin.ext (by dsimp only; omega)
    refine (congrArg (fun q => inV u (ix2 r q)) hd).trans ((inV_scaled u r ⟨n.val - 2176, by omega⟩).trans ?_)
    exact arranged_scaled (fun n => u (ix2 r n)) n _ (by unfold scaled; simp; omega) (by unfold source; split <;> (dsimp only; omega))
  · have hd : n = ⟨2688 + (⟨n.val - 2688, by omega⟩ : Fin 1024).val, by dsimp only; omega⟩ := Fin.ext (by dsimp only; omega)
    refine (congrArg (fun q => inV u (ix2 r q)) hd).trans ((inV_rest u r ⟨n.val - 2688, by omega⟩).trans ?_)
    exact arranged_plain (fun n => u (ix2 r n)) n _ (by unfold scaled; simp; omega) (by unfold source; split <;> (dsimp only; omega))

end Cert.FfnReferenceIdeal.Ffn
end
-- ==== Proof.Ffn.Equal.lean ====
module

public import proofs.«01_k».proof.Defs
public import proofs.«01_k».proof.Proof.Ffn.Array
public import proofs.«01_k».proof.Proof.Ffn.RefCasts
public import proofs.«01_k».proof.Proof.Middle.RefRow
public import proofs.«01_k».proof.Proof.Gen.MergeReferenceIdeal
public import proofs.«01_k».proof.Proof.Gen.FfnReferenceIdeal
public import proofs.«01_k».proof.Proof.Gen.FfnReferenceIdeal.Run
public import Idealize.ShloMosaic.Lib.Claim

/-! # The feed-forward step: its results are its reference's -/

@[expose] public section

set_option maxRecDepth 16384

noncomputable section

namespace Cert.Proof.Ffn

open Idealize.ShloMosaic Idealize.ShloMosaic.TcCoe Idealize.ShloMosaic.StableHlo Idealize.SL.Sem
open Cert.FfnIdeal.Ffn Cert.Merge Cert.Ffn
open Cert.MergeIdeal.Merge (entryOf placeOf flat_1024)
open Cert.MiddleReferenceIdeal.Merge (steppedV steppedV_apply)
open Cert.FfnReferenceIdeal.Ffn

/-- An index of two axes. -/
theorem pair {R C : ℕ} (y : (⟨2, ![R, C]⟩ : Shape).Idx) : ∃ (r : Fin R) (d : Fin C), y = ix2 r d := ⟨y 0, y 1, eq_ix2 y⟩

/-- The reference's rows. -/
theorem rows_apply (x : FVec Ideal Cert.MergeReferenceIdeal.S8x2048x1024 .f32) (g : FVec Ideal Cert.MergeReferenceIdeal.S1024 .f32)
    (wg wu : FVec Ideal Cert.MergeReferenceIdeal.S1024x2816 .f32) (wd : FVec Ideal Cert.MergeReferenceIdeal.S2816x1024 .f32) (n : Fin 16384) (d : Fin 1024) :
    (shapeCast Cert.MergeReferenceIdeal.S16384x1024 (steppedV (F := Ideal) x g wg wu wd)
      Cert.MergeReferenceIdeal.Gen.facts.shapeCasts_S8x2048x1024_S16384x1024 : FVec Ideal Cert.MergeReferenceIdeal.S16384x1024 .f32) (ix2 n d)
      = stepped (fun d => x (ix3 (entryOf n) (placeOf n) d)) (fun d => g (ix1 d)) (fun k n => wg (ix2 k n)) (fun k n => wu (ix2 k n)) (fun n d => wd (ix2 n d)) d :=
  (flat_1024 _ n d).trans (steppedV_apply x g wg wu wd (entryOf n) (placeOf n) d)

theorem equal : Cert.algebraic_FfnIdeal_FfnReferenceIdeal := by
  intro m g m' g' _ ha
  refine ⟨fun c => array_13 m c, fun c => array_14 m c, fun c => array_15 m c, fun c => array_16 m c, fun c => array_17 m c, fun c => array_18 m c, fun c => array_19 m c, fun c => array_20 m c, fun c => array_21 m c, ?_, ?_⟩
  · refine (θ_run _ _ _).mono (fun r h c => ?_) (Cert.FfnIdeal.Value.run_blocks m g)
    obtain ⟨h13, h14, h15, h16, h17, h18, h19, h20, h21, h⟩ := h c
    exact ⟨h13.trans (end_13 m c), h14.trans (end_14 m c), h15.trans (end_15 m c), h16.trans (end_16 m c), h17.trans (end_17 m c), h18.trans (end_18 m c), h19.trans (end_19 m c), h20.trans (end_20 m c), h21.trans (end_21 m c), h⟩
  · refine (θ_run _ _ _).mono (fun r h c => ?_) (Cert.FfnReferenceIdeal.Value.run m' g')
    obtain ⟨h13, h14, h15, h16, h17, h18, h19, h20, h21, h⟩ := h c
    obtain ⟨e0, e1, e2, e3, e4, e5, e6, e7, e8, e9, e10, e11, e12⟩ := ha c
    refine ⟨h13.trans ?_, h14.trans ?_, h15.trans ?_, h16.trans ?_, h17.trans ?_, h18.trans ?_, h19.trans ?_, h20.trans ?_, h21.trans ?_, h⟩
    · refine Eq.trans (b := (shapeCast Cert.MergeReferenceIdeal.S16384x1024 (steppedV (F := Ideal) (m' ((c.tc : Thread Cert.FfnReferenceIdeal.nD Cert.FfnReferenceIdeal.τ).loc Cert.FfnReferenceIdeal.main_arg0)) (m' ((c.tc : Thread Cert.FfnReferenceIdeal.nD Cert.FfnReferenceIdeal.τ).loc Cert.FfnReferenceIdeal.main_arg1)) (m' ((c.tc : Thread Cert.FfnReferenceIdeal.nD Cert.FfnReferenceIdeal.τ).loc Cert.FfnReferenceIdeal.main_arg2)) (m' ((c.tc : Thread Cert.FfnReferenceIdeal.nD Cert.FfnReferenceIdeal.τ).loc Cert.FfnReferenceIdeal.main_arg3)) (m' ((c.tc : Thread Cert.FfnReferenceIdeal.nD Cert.FfnReferenceIdeal.τ).loc Cert.FfnReferenceIdeal.main_arg4)))
        Cert.MergeReferenceIdeal.Gen.facts.shapeCasts_S8x2048x1024_S16384x1024 : FVec Ideal Cert.MergeReferenceIdeal.S16384x1024 .f32)) ?_ ?_
      · unfold steppedV Cert.MergeReferenceIdeal.Merge.stepV Cert.MergeReferenceIdeal.Merge.hiddenV Cert.MergeReferenceIdeal.Merge.normV
        rfl
      rw [e0, e1, e2, e3, e4]
      funext y
      obtain ⟨n, d, rfl⟩ := pair y
      exact rows_apply _ _ _ _ _ n d
    · rw [e5]
      funext y
      obtain ⟨r, d, rfl⟩ := pair y
      exact cast_1024x1024 _ r d
    · rw [e6]
      funext y
      obtain ⟨r, d, rfl⟩ := pair y
      exact cast_512x1024 _ r d
    · rw [e7]
      funext y
      obtain ⟨r, d, rfl⟩ := pair y
      exact cast_1024x1024 _ r d
    · rw [e8]
      funext y
      obtain ⟨r, d, rfl⟩ := pair y
      exact cast_1024x3072 _ r d
    · refine Eq.trans (b := (inV (F := Ideal) (shapeCast Cert.FfnReferenceIdeal.S1024x3712 (extractStridedSlice Cert.FfnReferenceIdeal.S1x1024x3712 ![0, 0, 0] (m' ((c.tc : Thread Cert.FfnReferenceIdeal.nD Cert.FfnReferenceIdeal.τ).loc Cert.FfnReferenceIdeal.main_arg9)) Cert.FfnReferenceIdeal.Gen.facts.slices_S2x1024x3712_S1x1024x3712_0_0_0 : FVec Ideal Cert.FfnReferenceIdeal.S1x1024x3712 .f32) Cert.FfnReferenceIdeal.Gen.facts.shapeCasts_S1x1024x3712_S1024x3712 : FVec Ideal Cert.FfnReferenceIdeal.S1024x3712 .f32))) ?_ ?_
      · unfold inV groupsV queryV keyV valueV
        rfl
      rw [e9]
      funext y
      obtain ⟨r, d, rfl⟩ := pair y
      refine (inV_apply _ r d).trans ?_
      simp only [rows_3712]
      rfl
    · rw [e10]
      funext y
      obtain ⟨r, d, rfl⟩ := pair y
      exact cast_1024x2816 _ r d
    · rw [e11]
      funext y
      obtain ⟨r, d, rfl⟩ := pair y
      exact cast_1024x2816 _ r d
    · rw [e12]
      funext y
      obtain ⟨r, d, rfl⟩ := pair y
      exact cast_2816x1024 _ r d

end Cert.Proof.Ffn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Diff.Words
public import proofs.«01_k».proof.Proof.Diff.Equal
public import proofs.«01_k».proof.Proof.Gen.Merge
public import proofs.«01_k».proof.Proof.Gen.MergeIdeal
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Middle
public import proofs.«01_k».proof.Proof.Gen.MiddleIdeal
public import proofs.«01_k».proof.Proof.Gen.MiddleIdeal.Value
public import proofs.«01_k».proof.Proof.Gen.MiddleReferenceIdeal
public import proofs.«01_k».proof.Proof.Gen.MiddleReferenceIdeal.Run
public import proofs.«01_k».proof.Proof.Gen.Ffn
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Merge.Words
public import proofs.«01_k».proof.Proof.Merge.Equal
public import proofs.«01_k».proof.Proof.Middle.Words
public import proofs.«01_k».proof.Proof.Middle.Equal
public import proofs.«01_k».proof.Proof.Ffn.Words
public import proofs.«01_k».proof.Proof.Ffn.Equal
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ => Cert.KernelIdeal.Diff.frame_any m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem preserved : Cert.preserves_Kernel_KernelIdeal :=
  ⟨IdealRules.named_const.statement Cert.KernelIdeal.κ "q_scale" .f32 0x3E38AA3B#32 (((1 / 8) * (Real.log 2)⁻¹ : ℝ) : EReal) rfl,
    IdealRules.named_const.statement Cert.KernelIdeal.κ "log2_e" .f32 0x3FB8AA3B#32 (((Real.log 2)⁻¹ : ℝ) : EReal) rfl⟩

theorem merge_frame_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run m ρ)

theorem middle_frame_reference : Cert.quiescent_MiddleReferenceIdeal := fun m ρ _ =>
  (θ_run Cert.MiddleReferenceIdeal.defs _ _).mono (fun r h => ⟨fun c => (h c).2, sem_eq_zero_of_no_sems (by decide) r.2⟩)
    (Cert.MiddleReferenceIdeal.Value.run m ρ)

theorem ffn_frame_reference : Cert.quiescent_FfnReferenceIdeal := fun m ρ _ =>
  (θ_run Cert.FfnReferenceIdeal.defs _ _).mono (fun r h => ⟨fun c => (h c).2.2.2.2.2.2.2.2.2, sem_eq_zero_of_no_sems (by decide) r.2⟩)
    (Cert.FfnReferenceIdeal.Value.run m ρ)

/-- The claims of this directory. -/
theorem claim : Cert.Claim :=
  ⟨Cert.Kernel.Gen.facts, Cert.KernelIdeal.Gen.facts, Cert.ReferenceIdeal.Gen.facts, Cert.Merge.Gen.facts, Cert.MergeIdeal.Gen.facts, Cert.MergeReferenceIdeal.Gen.facts,
    Cert.Middle.Gen.facts, Cert.MiddleIdeal.Gen.facts, Cert.MiddleReferenceIdeal.Gen.facts,
    Cert.Ffn.Gen.facts, Cert.FfnIdeal.Gen.facts, Cert.FfnReferenceIdeal.Gen.facts,
    Cert.Pre_finite.Gen.facts,
    frame_kernel, frame_ideal, fun m ρ _ => Cert.KernelIdeal.Diff.frame_any m ρ, frame_reference, fun m ρ _ => frame_reference m ρ trivial,
    Merge.frame, fun m ρ _ => Cert.MergeIdeal.Gen.frame m ρ, merge_frame_reference,
    Middle.frame, fun m ρ _ => Cert.MiddleIdeal.Gen.frame m ρ, middle_frame_reference,
    Ffn.frame, fun m ρ _ => Cert.FfnIdeal.Gen.frame m ρ, ffn_frame_reference,
    preserved, equal, trivial, Merge.equal, trivial, Middle.equal, trivial, Ffn.equal⟩

end Cert.Proof
end
